-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Expert (m : (ℓ : Loc Cert.Expert.nD Cert.Expert.τ Cert.Expert.sig) → Buf (Elt Bits) ℓ) : Prop :=
  True

def Pre_ExpertIdeal (m : (ℓ : Loc Cert.ExpertIdeal.nD Cert.ExpertIdeal.τ Cert.ExpertIdeal.sig) → Buf (Elt Ideal) ℓ) : Prop :=
  True

def Pre_ExpertRefIdeal (m : (ℓ : Loc Cert.ExpertRefIdeal.nD Cert.ExpertRefIdeal.τ Cert.ExpertRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Hyena (m : (ℓ : Loc Cert.Hyena.nD Cert.Hyena.τ Cert.Hyena.sig) → Buf (Elt Bits) ℓ) : Prop :=
  True

def Pre_HyenaIdeal (m : (ℓ : Loc Cert.HyenaIdeal.nD Cert.HyenaIdeal.τ Cert.HyenaIdeal.sig) → Buf (Elt Ideal) ℓ) : Prop :=
  True

def Pre_HyenaRefIdeal (m : (ℓ : Loc Cert.HyenaRefIdeal.nD Cert.HyenaRefIdeal.τ Cert.HyenaRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_NaV (m : (ℓ : Loc Cert.NaV.nD Cert.NaV.τ Cert.NaV.sig) → Buf (Elt Bits) ℓ) : Prop :=
  True

def Pre_NaVIdeal (m : (ℓ : Loc Cert.NaVIdeal.nD Cert.NaVIdeal.τ Cert.NaVIdeal.sig) → Buf (Elt Ideal) ℓ) : Prop :=
  True

def Pre_NaVRefIdeal (m : (ℓ : Loc Cert.NaVRefIdeal.nD Cert.NaVRefIdeal.τ Cert.NaVRefIdeal.sig) → Buf (Elt Ideal) ℓ) : Prop :=
  True

def Pre_WaV (m : (ℓ : Loc Cert.WaV.nD Cert.WaV.τ Cert.WaV.sig) → Buf (Elt Bits) ℓ) : Prop :=
  True

def Pre_WaVIdeal (m : (ℓ : Loc Cert.WaVIdeal.nD Cert.WaVIdeal.τ Cert.WaVIdeal.sig) → Buf (Elt Ideal) ℓ) : Prop :=
  True

def Pre_WaVRefIdeal (m : (ℓ : Loc Cert.WaVRefIdeal.nD Cert.WaVRefIdeal.τ Cert.WaVRefIdeal.sig) → Buf (Elt Ideal) ℓ) : Prop :=
  True

def Pre_NaQ (m : (ℓ : Loc Cert.NaQ.nD Cert.NaQ.τ Cert.NaQ.sig) → Buf (Elt Bits) ℓ) : Prop :=
  True

def Pre_NaQIdeal (m : (ℓ : Loc Cert.NaQIdeal.nD Cert.NaQIdeal.τ Cert.NaQIdeal.sig) → Buf (Elt Ideal) ℓ) : Prop :=
  True

def Pre_NaQRefIdeal (m : (ℓ : Loc Cert.NaQRefIdeal.nD Cert.NaQRefIdeal.τ Cert.NaQRefIdeal.sig) → Buf (Elt Ideal) ℓ) : Prop :=
  True

def Pre_NaK (m : (ℓ : Loc Cert.NaK.nD Cert.NaK.τ Cert.NaK.sig) → Buf (Elt Bits) ℓ) : Prop :=
  True

def Pre_NaKIdeal (m : (ℓ : Loc Cert.NaKIdeal.nD Cert.NaKIdeal.τ Cert.NaKIdeal.sig) → Buf (Elt Ideal) ℓ) : Prop :=
  True

def Pre_NaKRefIdeal (m : (ℓ : Loc Cert.NaKRefIdeal.nD Cert.NaKRefIdeal.τ Cert.NaKRefIdeal.sig) → Buf (Elt Ideal) ℓ) : Prop :=
  True

def Pre_WaQ (m : (ℓ : Loc Cert.WaQ.nD Cert.WaQ.τ Cert.WaQ.sig) → Buf (Elt Bits) ℓ) : Prop :=
  True

def Pre_WaQIdeal (m : (ℓ : Loc Cert.WaQIdeal.nD Cert.WaQIdeal.τ Cert.WaQIdeal.sig) → Buf (Elt Ideal) ℓ) : Prop :=
  True

def Pre_WaQRefIdeal (m : (ℓ : Loc Cert.WaQRefIdeal.nD Cert.WaQRefIdeal.τ Cert.WaQRefIdeal.sig) → Buf (Elt Ideal) ℓ) : Prop :=
  True

def Pre_WaK (m : (ℓ : Loc Cert.WaK.nD Cert.WaK.τ Cert.WaK.sig) → Buf (Elt Bits) ℓ) : Prop :=
  True

def Pre_WaKIdeal (m : (ℓ : Loc Cert.WaKIdeal.nD Cert.WaKIdeal.τ Cert.WaKIdeal.sig) → Buf (Elt Ideal) ℓ) : Prop :=
  True

def Pre_WaKRefIdeal (m : (ℓ : Loc Cert.WaKRefIdeal.nD Cert.WaKRefIdeal.τ Cert.WaKRefIdeal.sig) → Buf (Elt Ideal) ℓ) : Prop :=
  True

def Pre_CtxIn (m : (ℓ : Loc Cert.CtxIn.nD Cert.CtxIn.τ Cert.CtxIn.sig) → Buf (Elt Bits) ℓ) : Prop :=
  True

def Pre_CtxInIdeal (m : (ℓ : Loc Cert.CtxInIdeal.nD Cert.CtxInIdeal.τ Cert.CtxInIdeal.sig) → Buf (Elt Ideal) ℓ) : Prop :=
  True

def Pre_CtxInRefIdeal (m : (ℓ : Loc Cert.CtxInRefIdeal.nD Cert.CtxInRefIdeal.τ Cert.CtxInRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_CtxBranch (m : (ℓ : Loc Cert.CtxBranch.nD Cert.CtxBranch.τ Cert.CtxBranch.sig) → Buf (Elt Bits) ℓ) : Prop :=
  True

def Pre_CtxBranchIdeal (m : (ℓ : Loc Cert.CtxBranchIdeal.nD Cert.CtxBranchIdeal.τ Cert.CtxBranchIdeal.sig) → Buf (Elt Ideal) ℓ) : Prop :=
  True

def Pre_CtxBranchRefIdeal (m : (ℓ : Loc Cert.CtxBranchRefIdeal.nD Cert.CtxBranchRefIdeal.τ Cert.CtxBranchRefIdeal.sig) → Buf (Elt Ideal) ℓ) : Prop :=
  True

def Pre_CtxOut (m : (ℓ : Loc Cert.CtxOut.nD Cert.CtxOut.τ Cert.CtxOut.sig) → Buf (Elt Bits) ℓ) : Prop :=
  True

def Pre_CtxOutIdeal (m : (ℓ : Loc Cert.CtxOutIdeal.nD Cert.CtxOutIdeal.τ Cert.CtxOutIdeal.sig) → Buf (Elt Ideal) ℓ) : Prop :=
  True

def Pre_CtxOutRefIdeal (m : (ℓ : Loc Cert.CtxOutRefIdeal.nD Cert.CtxOutRefIdeal.τ Cert.CtxOutRefIdeal.sig) → Buf (Elt Ideal) ℓ) : Prop :=
  True

def Pre_CtxExpert (m : (ℓ : Loc Cert.CtxExpert.nD Cert.CtxExpert.τ Cert.CtxExpert.sig) → Buf (Elt Bits) ℓ) : Prop :=
  True

def Pre_CtxExpertIdeal (m : (ℓ : Loc Cert.CtxExpertIdeal.nD Cert.CtxExpertIdeal.τ Cert.CtxExpertIdeal.sig) → Buf (Elt Ideal) ℓ) : Prop :=
  True

def Pre_CtxExpertRefIdeal (m : (ℓ : Loc Cert.CtxExpertRefIdeal.nD Cert.CtxExpertRefIdeal.τ Cert.CtxExpertRefIdeal.sig) → Buf (Elt Ideal) ℓ) : Prop :=
  True

def Pre_CtxDown (m : (ℓ : Loc Cert.CtxDown.nD Cert.CtxDown.τ Cert.CtxDown.sig) → Buf (Elt Bits) ℓ) : Prop :=
  True

def Pre_CtxDownIdeal (m : (ℓ : Loc Cert.CtxDownIdeal.nD Cert.CtxDownIdeal.τ Cert.CtxDownIdeal.sig) → Buf (Elt Ideal) ℓ) : Prop :=
  True

def Pre_CtxDownRefIdeal (m : (ℓ : Loc Cert.CtxDownRefIdeal.nD Cert.CtxDownRefIdeal.τ Cert.CtxDownRefIdeal.sig) → Buf (Elt Ideal) ℓ) : Prop :=
  True

def Pre_CtxWaKV (m : (ℓ : Loc Cert.CtxWaKV.nD Cert.CtxWaKV.τ Cert.CtxWaKV.sig) → Buf (Elt Bits) ℓ) : Prop :=
  True

def Pre_CtxWaKVIdeal (m : (ℓ : Loc Cert.CtxWaKVIdeal.nD Cert.CtxWaKVIdeal.τ Cert.CtxWaKVIdeal.sig) → Buf (Elt Ideal) ℓ) : Prop :=
  True

def Pre_CtxWaKVRefIdeal (m : (ℓ : Loc Cert.CtxWaKVRefIdeal.nD Cert.CtxWaKVRefIdeal.τ Cert.CtxWaKVRefIdeal.sig) → Buf (Elt Ideal) ℓ) : Prop :=
  True

def Pre_CtxNaKV (m : (ℓ : Loc Cert.CtxNaKV.nD Cert.CtxNaKV.τ Cert.CtxNaKV.sig) → Buf (Elt Bits) ℓ) : Prop :=
  True

def Pre_CtxNaKVIdeal (m : (ℓ : Loc Cert.CtxNaKVIdeal.nD Cert.CtxNaKVIdeal.τ Cert.CtxNaKVIdeal.sig) → Buf (Elt Ideal) ℓ) : Prop :=
  True

def Pre_CtxNaKVRefIdeal (m : (ℓ : Loc Cert.CtxNaKVRefIdeal.nD Cert.CtxNaKVRefIdeal.τ Cert.CtxNaKVRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Expert [hExpert : Cert.Expert.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1))
      ∧ r.2.sem = fun _ => 0)

def quiescent_ExpertIdeal [hExpertIdeal : Cert.ExpertIdeal.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1))
      ∧ r.2.sem = fun _ => 0)

def quiescent_ExpertRefIdeal [hExpertRefIdeal : Cert.ExpertRefIdeal.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Hyena [hHyena : Cert.Hyena.Facts] : Prop :=
  ∀ (m : (ℓ : Loc Cert.Hyena.nD Cert.Hyena.τ Cert.Hyena.sig) → Buf (Elt Bits) ℓ) (g : Dev Cert.Hyena.nD → PrngReg), Pre_Hyena m →
    θ_run (Cert.Hyena.defs (F := Bits)) (onTc (τ := Cert.Hyena.τ) (Cert.Hyena.main (F := Bits))) ⟨m, fun _ => 0, g⟩ (fun r => (∀ c : Dev Cert.Hyena.nD,
      r.2.mem ((c.tc : Thread Cert.Hyena.nD Cert.Hyena.τ).loc Cert.Hyena.main_arg0) = m ((c.tc : Thread Cert.Hyena.nD Cert.Hyena.τ).loc Cert.Hyena.main_arg0)
      ∧ r.2.mem ((c.tc : Thread Cert.Hyena.nD Cert.Hyena.τ).loc Cert.Hyena.main_arg1) = m ((c.tc : Thread Cert.Hyena.nD Cert.Hyena.τ).loc Cert.Hyena.main_arg1))
      ∧ r.2.sem = fun _ => 0)

def quiescent_HyenaIdeal [hHyenaIdeal : Cert.HyenaIdeal.Facts] : Prop :=
  ∀ (m : (ℓ : Loc Cert.HyenaIdeal.nD Cert.HyenaIdeal.τ Cert.HyenaIdeal.sig) → Buf (Elt Ideal) ℓ) (g : Dev Cert.HyenaIdeal.nD → PrngReg), Pre_HyenaIdeal m →
    θ_run (Cert.HyenaIdeal.defs (F := Ideal)) (onTc (τ := Cert.HyenaIdeal.τ) (Cert.HyenaIdeal.main (F := Ideal))) ⟨m, fun _ => 0, g⟩ (fun r => (∀ c : Dev Cert.HyenaIdeal.nD,
      r.2.mem ((c.tc : Thread Cert.HyenaIdeal.nD Cert.HyenaIdeal.τ).loc Cert.HyenaIdeal.main_arg0) = m ((c.tc : Thread Cert.HyenaIdeal.nD Cert.HyenaIdeal.τ).loc Cert.HyenaIdeal.main_arg0)
      ∧ r.2.mem ((c.tc : Thread Cert.HyenaIdeal.nD Cert.HyenaIdeal.τ).loc Cert.HyenaIdeal.main_arg1) = m ((c.tc : Thread Cert.HyenaIdeal.nD Cert.HyenaIdeal.τ).loc Cert.HyenaIdeal.main_arg1))
      ∧ r.2.sem = fun _ => 0)

def quiescent_HyenaRefIdeal [hHyenaRefIdeal : Cert.HyenaRefIdeal.Facts] : Prop :=
  ∀ (m : (ℓ : Loc Cert.HyenaRefIdeal.nD Cert.HyenaRefIdeal.τ Cert.HyenaRefIdeal.sig) → Buf (Elt Ideal) ℓ) (g : Dev Cert.HyenaRefIdeal.nD → PrngReg), Pre_HyenaRefIdeal m →
    θ_run (Cert.HyenaRefIdeal.defs (F := Ideal)) (onTc (τ := Cert.HyenaRefIdeal.τ) (Cert.HyenaRefIdeal.main (F := Ideal))) ⟨m, fun _ => 0, g⟩ (fun r => (∀ c : Dev Cert.HyenaRefIdeal.nD,
      r.2.mem ((c.tc : Thread Cert.HyenaRefIdeal.nD Cert.HyenaRefIdeal.τ).loc Cert.HyenaRefIdeal.main_arg0) = m ((c.tc : Thread Cert.HyenaRefIdeal.nD Cert.HyenaRefIdeal.τ).loc Cert.HyenaRefIdeal.main_arg0)
      ∧ r.2.mem ((c.tc : Thread Cert.HyenaRefIdeal.nD Cert.HyenaRefIdeal.τ).loc Cert.HyenaRefIdeal.main_arg1) = m ((c.tc : Thread Cert.HyenaRefIdeal.nD Cert.HyenaRefIdeal.τ).loc Cert.HyenaRefIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_NaV [hNaV : Cert.NaV.Facts] : Prop :=
  ∀ (m : (ℓ : Loc Cert.NaV.nD Cert.NaV.τ Cert.NaV.sig) → Buf (Elt Bits) ℓ) (g : Dev Cert.NaV.nD → PrngReg), Pre_NaV m →
    θ_run (Cert.NaV.defs (F := Bits)) (onTc (τ := Cert.NaV.τ) (Cert.NaV.main (F := Bits))) ⟨m, fun _ => 0, g⟩ (fun r => (∀ c : Dev Cert.NaV.nD,
      r.2.mem ((c.tc : Thread Cert.NaV.nD Cert.NaV.τ).loc Cert.NaV.main_arg0) = m ((c.tc : Thread Cert.NaV.nD Cert.NaV.τ).loc Cert.NaV.main_arg0)
      ∧ r.2.mem ((c.tc : Thread Cert.NaV.nD Cert.NaV.τ).loc Cert.NaV.main_arg1) = m ((c.tc : Thread Cert.NaV.nD Cert.NaV.τ).loc Cert.NaV.main_arg1))
      ∧ r.2.sem = fun _ => 0)

def quiescent_NaVIdeal [hNaVIdeal : Cert.NaVIdeal.Facts] : Prop :=
  ∀ (m : (ℓ : Loc Cert.NaVIdeal.nD Cert.NaVIdeal.τ Cert.NaVIdeal.sig) → Buf (Elt Ideal) ℓ) (g : Dev Cert.NaVIdeal.nD → PrngReg), Pre_NaVIdeal m →
    θ_run (Cert.NaVIdeal.defs (F := Ideal)) (onTc (τ := Cert.NaVIdeal.τ) (Cert.NaVIdeal.main (F := Ideal))) ⟨m, fun _ => 0, g⟩ (fun r => (∀ c : Dev Cert.NaVIdeal.nD,
      r.2.mem ((c.tc : Thread Cert.NaVIdeal.nD Cert.NaVIdeal.τ).loc Cert.NaVIdeal.main_arg0) = m ((c.tc : Thread Cert.NaVIdeal.nD Cert.NaVIdeal.τ).loc Cert.NaVIdeal.main_arg0)
      ∧ r.2.mem ((c.tc : Thread Cert.NaVIdeal.nD Cert.NaVIdeal.τ).loc Cert.NaVIdeal.main_arg1) = m ((c.tc : Thread Cert.NaVIdeal.nD Cert.NaVIdeal.τ).loc Cert.NaVIdeal.main_arg1))
      ∧ r.2.sem = fun _ => 0)

def quiescent_NaVRefIdeal [hNaVRefIdeal : Cert.NaVRefIdeal.Facts] : Prop :=
  ∀ (m : (ℓ : Loc Cert.NaVRefIdeal.nD Cert.NaVRefIdeal.τ Cert.NaVRefIdeal.sig) → Buf (Elt Ideal) ℓ) (g : Dev Cert.NaVRefIdeal.nD → PrngReg), Pre_NaVRefIdeal m →
    θ_run (Cert.NaVRefIdeal.defs (F := Ideal)) (onTc (τ := Cert.NaVRefIdeal.τ) (Cert.NaVRefIdeal.main (F := Ideal))) ⟨m, fun _ => 0, g⟩ (fun r => (∀ c : Dev Cert.NaVRefIdeal.nD,
      r.2.mem ((c.tc : Thread Cert.NaVRefIdeal.nD Cert.NaVRefIdeal.τ).loc Cert.NaVRefIdeal.main_arg0) = m ((c.tc : Thread Cert.NaVRefIdeal.nD Cert.NaVRefIdeal.τ).loc Cert.NaVRefIdeal.main_arg0)
      ∧ r.2.mem ((c.tc : Thread Cert.NaVRefIdeal.nD Cert.NaVRefIdeal.τ).loc Cert.NaVRefIdeal.main_arg1) = m ((c.tc : Thread Cert.NaVRefIdeal.nD Cert.NaVRefIdeal.τ).loc Cert.NaVRefIdeal.main_arg1))
      ∧ r.2.sem = fun _ => 0)

def quiescent_WaV [hWaV : Cert.WaV.Facts] : Prop :=
  ∀ (m : (ℓ : Loc Cert.WaV.nD Cert.WaV.τ Cert.WaV.sig) → Buf (Elt Bits) ℓ) (g : Dev Cert.WaV.nD → PrngReg), Pre_WaV m →
    θ_run (Cert.WaV.defs (F := Bits)) (onTc (τ := Cert.WaV.τ) (Cert.WaV.main (F := Bits))) ⟨m, fun _ => 0, g⟩ (fun r => (∀ c : Dev Cert.WaV.nD,
      r.2.mem ((c.tc : Thread Cert.WaV.nD Cert.WaV.τ).loc Cert.WaV.main_arg0) = m ((c.tc : Thread Cert.WaV.nD Cert.WaV.τ).loc Cert.WaV.main_arg0)
      ∧ r.2.mem ((c.tc : Thread Cert.WaV.nD Cert.WaV.τ).loc Cert.WaV.main_arg1) = m ((c.tc : Thread Cert.WaV.nD Cert.WaV.τ).loc Cert.WaV.main_arg1))
      ∧ r.2.sem = fun _ => 0)

def quiescent_WaVIdeal [hWaVIdeal : Cert.WaVIdeal.Facts] : Prop :=
  ∀ (m : (ℓ : Loc Cert.WaVIdeal.nD Cert.WaVIdeal.τ Cert.WaVIdeal.sig) → Buf (Elt Ideal) ℓ) (g : Dev Cert.WaVIdeal.nD → PrngReg), Pre_WaVIdeal m →
    θ_run (Cert.WaVIdeal.defs (F := Ideal)) (onTc (τ := Cert.WaVIdeal.τ) (Cert.WaVIdeal.main (F := Ideal))) ⟨m, fun _ => 0, g⟩ (fun r => (∀ c : Dev Cert.WaVIdeal.nD,
      r.2.mem ((c.tc : Thread Cert.WaVIdeal.nD Cert.WaVIdeal.τ).loc Cert.WaVIdeal.main_arg0) = m ((c.tc : Thread Cert.WaVIdeal.nD Cert.WaVIdeal.τ).loc Cert.WaVIdeal.main_arg0)
      ∧ r.2.mem ((c.tc : Thread Cert.WaVIdeal.nD Cert.WaVIdeal.τ).loc Cert.WaVIdeal.main_arg1) = m ((c.tc : Thread Cert.WaVIdeal.nD Cert.WaVIdeal.τ).loc Cert.WaVIdeal.main_arg1))
      ∧ r.2.sem = fun _ => 0)

def quiescent_WaVRefIdeal [hWaVRefIdeal : Cert.WaVRefIdeal.Facts] : Prop :=
  ∀ (m : (ℓ : Loc Cert.WaVRefIdeal.nD Cert.WaVRefIdeal.τ Cert.WaVRefIdeal.sig) → Buf (Elt Ideal) ℓ) (g : Dev Cert.WaVRefIdeal.nD → PrngReg), Pre_WaVRefIdeal m →
    θ_run (Cert.WaVRefIdeal.defs (F := Ideal)) (onTc (τ := Cert.WaVRefIdeal.τ) (Cert.WaVRefIdeal.main (F := Ideal))) ⟨m, fun _ => 0, g⟩ (fun r => (∀ c : Dev Cert.WaVRefIdeal.nD,
      r.2.mem ((c.tc : Thread Cert.WaVRefIdeal.nD Cert.WaVRefIdeal.τ).loc Cert.WaVRefIdeal.main_arg0) = m ((c.tc : Thread Cert.WaVRefIdeal.nD Cert.WaVRefIdeal.τ).loc Cert.WaVRefIdeal.main_arg0)
      ∧ r.2.mem ((c.tc : Thread Cert.WaVRefIdeal.nD Cert.WaVRefIdeal.τ).loc Cert.WaVRefIdeal.main_arg1) = m ((c.tc : Thread Cert.WaVRefIdeal.nD Cert.WaVRefIdeal.τ).loc Cert.WaVRefIdeal.main_arg1))
      ∧ r.2.sem = fun _ => 0)

def quiescent_NaQ [hNaQ : Cert.NaQ.Facts] : Prop :=
  ∀ (m : (ℓ : Loc Cert.NaQ.nD Cert.NaQ.τ Cert.NaQ.sig) → Buf (Elt Bits) ℓ) (g : Dev Cert.NaQ.nD → PrngReg), Pre_NaQ m →
    θ_run (Cert.NaQ.defs (F := Bits)) (onTc (τ := Cert.NaQ.τ) (Cert.NaQ.main (F := Bits))) ⟨m, fun _ => 0, g⟩ (fun r => (∀ c : Dev Cert.NaQ.nD,
      r.2.mem ((c.tc : Thread Cert.NaQ.nD Cert.NaQ.τ).loc Cert.NaQ.main_arg0) = m ((c.tc : Thread Cert.NaQ.nD Cert.NaQ.τ).loc Cert.NaQ.main_arg0)
      ∧ r.2.mem ((c.tc : Thread Cert.NaQ.nD Cert.NaQ.τ).loc Cert.NaQ.main_arg1) = m ((c.tc : Thread Cert.NaQ.nD Cert.NaQ.τ).loc Cert.NaQ.main_arg1)
      ∧ r.2.mem ((c.tc : Thread Cert.NaQ.nD Cert.NaQ.τ).loc Cert.NaQ.main_arg2) = m ((c.tc : Thread Cert.NaQ.nD Cert.NaQ.τ).loc Cert.NaQ.main_arg2))
      ∧ r.2.sem = fun _ => 0)

def quiescent_NaQIdeal [hNaQIdeal : Cert.NaQIdeal.Facts] : Prop :=
  ∀ (m : (ℓ : Loc Cert.NaQIdeal.nD Cert.NaQIdeal.τ Cert.NaQIdeal.sig) → Buf (Elt Ideal) ℓ) (g : Dev Cert.NaQIdeal.nD → PrngReg), Pre_NaQIdeal m →
    θ_run (Cert.NaQIdeal.defs (F := Ideal)) (onTc (τ := Cert.NaQIdeal.τ) (Cert.NaQIdeal.main (F := Ideal))) ⟨m, fun _ => 0, g⟩ (fun r => (∀ c : Dev Cert.NaQIdeal.nD,
      r.2.mem ((c.tc : Thread Cert.NaQIdeal.nD Cert.NaQIdeal.τ).loc Cert.NaQIdeal.main_arg0) = m ((c.tc : Thread Cert.NaQIdeal.nD Cert.NaQIdeal.τ).loc Cert.NaQIdeal.main_arg0)
      ∧ r.2.mem ((c.tc : Thread Cert.NaQIdeal.nD Cert.NaQIdeal.τ).loc Cert.NaQIdeal.main_arg1) = m ((c.tc : Thread Cert.NaQIdeal.nD Cert.NaQIdeal.τ).loc Cert.NaQIdeal.main_arg1)
      ∧ r.2.mem ((c.tc : Thread Cert.NaQIdeal.nD Cert.NaQIdeal.τ).loc Cert.NaQIdeal.main_arg2) = m ((c.tc : Thread Cert.NaQIdeal.nD Cert.NaQIdeal.τ).loc Cert.NaQIdeal.main_arg2))
      ∧ r.2.sem = fun _ => 0)

def quiescent_NaQRefIdeal [hNaQRefIdeal : Cert.NaQRefIdeal.Facts] : Prop :=
  ∀ (m : (ℓ : Loc Cert.NaQRefIdeal.nD Cert.NaQRefIdeal.τ Cert.NaQRefIdeal.sig) → Buf (Elt Ideal) ℓ) (g : Dev Cert.NaQRefIdeal.nD → PrngReg), Pre_NaQRefIdeal m →
    θ_run (Cert.NaQRefIdeal.defs (F := Ideal)) (onTc (τ := Cert.NaQRefIdeal.τ) (Cert.NaQRefIdeal.main (F := Ideal))) ⟨m, fun _ => 0, g⟩ (fun r => (∀ c : Dev Cert.NaQRefIdeal.nD,
      r.2.mem ((c.tc : Thread Cert.NaQRefIdeal.nD Cert.NaQRefIdeal.τ).loc Cert.NaQRefIdeal.main_arg0) = m ((c.tc : Thread Cert.NaQRefIdeal.nD Cert.NaQRefIdeal.τ).loc Cert.NaQRefIdeal.main_arg0)
      ∧ r.2.mem ((c.tc : Thread Cert.NaQRefIdeal.nD Cert.NaQRefIdeal.τ).loc Cert.NaQRefIdeal.main_arg1) = m ((c.tc : Thread Cert.NaQRefIdeal.nD Cert.NaQRefIdeal.τ).loc Cert.NaQRefIdeal.main_arg1)
      ∧ r.2.mem ((c.tc : Thread Cert.NaQRefIdeal.nD Cert.NaQRefIdeal.τ).loc Cert.NaQRefIdeal.main_arg2) = m ((c.tc : Thread Cert.NaQRefIdeal.nD Cert.NaQRefIdeal.τ).loc Cert.NaQRefIdeal.main_arg2))
      ∧ r.2.sem = fun _ => 0)

def quiescent_NaK [hNaK : Cert.NaK.Facts] : Prop :=
  ∀ (m : (ℓ : Loc Cert.NaK.nD Cert.NaK.τ Cert.NaK.sig) → Buf (Elt Bits) ℓ) (g : Dev Cert.NaK.nD → PrngReg), Pre_NaK m →
    θ_run (Cert.NaK.defs (F := Bits)) (onTc (τ := Cert.NaK.τ) (Cert.NaK.main (F := Bits))) ⟨m, fun _ => 0, g⟩ (fun r => (∀ c : Dev Cert.NaK.nD,
      r.2.mem ((c.tc : Thread Cert.NaK.nD Cert.NaK.τ).loc Cert.NaK.main_arg0) = m ((c.tc : Thread Cert.NaK.nD Cert.NaK.τ).loc Cert.NaK.main_arg0)
      ∧ r.2.mem ((c.tc : Thread Cert.NaK.nD Cert.NaK.τ).loc Cert.NaK.main_arg1) = m ((c.tc : Thread Cert.NaK.nD Cert.NaK.τ).loc Cert.NaK.main_arg1)
      ∧ r.2.mem ((c.tc : Thread Cert.NaK.nD Cert.NaK.τ).loc Cert.NaK.main_arg2) = m ((c.tc : Thread Cert.NaK.nD Cert.NaK.τ).loc Cert.NaK.main_arg2))
      ∧ r.2.sem = fun _ => 0)

def quiescent_NaKIdeal [hNaKIdeal : Cert.NaKIdeal.Facts] : Prop :=
  ∀ (m : (ℓ : Loc Cert.NaKIdeal.nD Cert.NaKIdeal.τ Cert.NaKIdeal.sig) → Buf (Elt Ideal) ℓ) (g : Dev Cert.NaKIdeal.nD → PrngReg), Pre_NaKIdeal m →
    θ_run (Cert.NaKIdeal.defs (F := Ideal)) (onTc (τ := Cert.NaKIdeal.τ) (Cert.NaKIdeal.main (F := Ideal))) ⟨m, fun _ => 0, g⟩ (fun r => (∀ c : Dev Cert.NaKIdeal.nD,
      r.2.mem ((c.tc : Thread Cert.NaKIdeal.nD Cert.NaKIdeal.τ).loc Cert.NaKIdeal.main_arg0) = m ((c.tc : Thread Cert.NaKIdeal.nD Cert.NaKIdeal.τ).loc Cert.NaKIdeal.main_arg0)
      ∧ r.2.mem ((c.tc : Thread Cert.NaKIdeal.nD Cert.NaKIdeal.τ).loc Cert.NaKIdeal.main_arg1) = m ((c.tc : Thread Cert.NaKIdeal.nD Cert.NaKIdeal.τ).loc Cert.NaKIdeal.main_arg1)
      ∧ r.2.mem ((c.tc : Thread Cert.NaKIdeal.nD Cert.NaKIdeal.τ).loc Cert.NaKIdeal.main_arg2) = m ((c.tc : Thread Cert.NaKIdeal.nD Cert.NaKIdeal.τ).loc Cert.NaKIdeal.main_arg2))
      ∧ r.2.sem = fun _ => 0)

def quiescent_NaKRefIdeal [hNaKRefIdeal : Cert.NaKRefIdeal.Facts] : Prop :=
  ∀ (m : (ℓ : Loc Cert.NaKRefIdeal.nD Cert.NaKRefIdeal.τ Cert.NaKRefIdeal.sig) → Buf (Elt Ideal) ℓ) (g : Dev Cert.NaKRefIdeal.nD → PrngReg), Pre_NaKRefIdeal m →
    θ_run (Cert.NaKRefIdeal.defs (F := Ideal)) (onTc (τ := Cert.NaKRefIdeal.τ) (Cert.NaKRefIdeal.main (F := Ideal))) ⟨m, fun _ => 0, g⟩ (fun r => (∀ c : Dev Cert.NaKRefIdeal.nD,
      r.2.mem ((c.tc : Thread Cert.NaKRefIdeal.nD Cert.NaKRefIdeal.τ).loc Cert.NaKRefIdeal.main_arg0) = m ((c.tc : Thread Cert.NaKRefIdeal.nD Cert.NaKRefIdeal.τ).loc Cert.NaKRefIdeal.main_arg0)
      ∧ r.2.mem ((c.tc : Thread Cert.NaKRefIdeal.nD Cert.NaKRefIdeal.τ).loc Cert.NaKRefIdeal.main_arg1) = m ((c.tc : Thread Cert.NaKRefIdeal.nD Cert.NaKRefIdeal.τ).loc Cert.NaKRefIdeal.main_arg1)
      ∧ r.2.mem ((c.tc : Thread Cert.NaKRefIdeal.nD Cert.NaKRefIdeal.τ).loc Cert.NaKRefIdeal.main_arg2) = m ((c.tc : Thread Cert.NaKRefIdeal.nD Cert.NaKRefIdeal.τ).loc Cert.NaKRefIdeal.main_arg2))
      ∧ r.2.sem = fun _ => 0)

def quiescent_WaQ [hWaQ : Cert.WaQ.Facts] : Prop :=
  ∀ (m : (ℓ : Loc Cert.WaQ.nD Cert.WaQ.τ Cert.WaQ.sig) → Buf (Elt Bits) ℓ) (g : Dev Cert.WaQ.nD → PrngReg), Pre_WaQ m →
    θ_run (Cert.WaQ.defs (F := Bits)) (onTc (τ := Cert.WaQ.τ) (Cert.WaQ.main (F := Bits))) ⟨m, fun _ => 0, g⟩ (fun r => (∀ c : Dev Cert.WaQ.nD,
      r.2.mem ((c.tc : Thread Cert.WaQ.nD Cert.WaQ.τ).loc Cert.WaQ.main_arg0) = m ((c.tc : Thread Cert.WaQ.nD Cert.WaQ.τ).loc Cert.WaQ.main_arg0)
      ∧ r.2.mem ((c.tc : Thread Cert.WaQ.nD Cert.WaQ.τ).loc Cert.WaQ.main_arg1) = m ((c.tc : Thread Cert.WaQ.nD Cert.WaQ.τ).loc Cert.WaQ.main_arg1)
      ∧ r.2.mem ((c.tc : Thread Cert.WaQ.nD Cert.WaQ.τ).loc Cert.WaQ.main_arg2) = m ((c.tc : Thread Cert.WaQ.nD Cert.WaQ.τ).loc Cert.WaQ.main_arg2))
      ∧ r.2.sem = fun _ => 0)

def quiescent_WaQIdeal [hWaQIdeal : Cert.WaQIdeal.Facts] : Prop :=
  ∀ (m : (ℓ : Loc Cert.WaQIdeal.nD Cert.WaQIdeal.τ Cert.WaQIdeal.sig) → Buf (Elt Ideal) ℓ) (g : Dev Cert.WaQIdeal.nD → PrngReg), Pre_WaQIdeal m →
    θ_run (Cert.WaQIdeal.defs (F := Ideal)) (onTc (τ := Cert.WaQIdeal.τ) (Cert.WaQIdeal.main (F := Ideal))) ⟨m, fun _ => 0, g⟩ (fun r => (∀ c : Dev Cert.WaQIdeal.nD,
      r.2.mem ((c.tc : Thread Cert.WaQIdeal.nD Cert.WaQIdeal.τ).loc Cert.WaQIdeal.main_arg0) = m ((c.tc : Thread Cert.WaQIdeal.nD Cert.WaQIdeal.τ).loc Cert.WaQIdeal.main_arg0)
      ∧ r.2.mem ((c.tc : Thread Cert.WaQIdeal.nD Cert.WaQIdeal.τ).loc Cert.WaQIdeal.main_arg1) = m ((c.tc : Thread Cert.WaQIdeal.nD Cert.WaQIdeal.τ).loc Cert.WaQIdeal.main_arg1)
      ∧ r.2.mem ((c.tc : Thread Cert.WaQIdeal.nD Cert.WaQIdeal.τ).loc Cert.WaQIdeal.main_arg2) = m ((c.tc : Thread Cert.WaQIdeal.nD Cert.WaQIdeal.τ).loc Cert.WaQIdeal.main_arg2))
      ∧ r.2.sem = fun _ => 0)

def quiescent_WaQRefIdeal [hWaQRefIdeal : Cert.WaQRefIdeal.Facts] : Prop :=
  ∀ (m : (ℓ : Loc Cert.WaQRefIdeal.nD Cert.WaQRefIdeal.τ Cert.WaQRefIdeal.sig) → Buf (Elt Ideal) ℓ) (g : Dev Cert.WaQRefIdeal.nD → PrngReg), Pre_WaQRefIdeal m →
    θ_run (Cert.WaQRefIdeal.defs (F := Ideal)) (onTc (τ := Cert.WaQRefIdeal.τ) (Cert.WaQRefIdeal.main (F := Ideal))) ⟨m, fun _ => 0, g⟩ (fun r => (∀ c : Dev Cert.WaQRefIdeal.nD,
      r.2.mem ((c.tc : Thread Cert.WaQRefIdeal.nD Cert.WaQRefIdeal.τ).loc Cert.WaQRefIdeal.main_arg0) = m ((c.tc : Thread Cert.WaQRefIdeal.nD Cert.WaQRefIdeal.τ).loc Cert.WaQRefIdeal.main_arg0)
      ∧ r.2.mem ((c.tc : Thread Cert.WaQRefIdeal.nD Cert.WaQRefIdeal.τ).loc Cert.WaQRefIdeal.main_arg1) = m ((c.tc : Thread Cert.WaQRefIdeal.nD Cert.WaQRefIdeal.τ).loc Cert.WaQRefIdeal.main_arg1)
      ∧ r.2.mem ((c.tc : Thread Cert.WaQRefIdeal.nD Cert.WaQRefIdeal.τ).loc Cert.WaQRefIdeal.main_arg2) = m ((c.tc : Thread Cert.WaQRefIdeal.nD Cert.WaQRefIdeal.τ).loc Cert.WaQRefIdeal.main_arg2))
      ∧ r.2.sem = fun _ => 0)

def quiescent_WaK [hWaK : Cert.WaK.Facts] : Prop :=
  ∀ (m : (ℓ : Loc Cert.WaK.nD Cert.WaK.τ Cert.WaK.sig) → Buf (Elt Bits) ℓ) (g : Dev Cert.WaK.nD → PrngReg), Pre_WaK m →
    θ_run (Cert.WaK.defs (F := Bits)) (onTc (τ := Cert.WaK.τ) (Cert.WaK.main (F := Bits))) ⟨m, fun _ => 0, g⟩ (fun r => (∀ c : Dev Cert.WaK.nD,
      r.2.mem ((c.tc : Thread Cert.WaK.nD Cert.WaK.τ).loc Cert.WaK.main_arg0) = m ((c.tc : Thread Cert.WaK.nD Cert.WaK.τ).loc Cert.WaK.main_arg0)
      ∧ r.2.mem ((c.tc : Thread Cert.WaK.nD Cert.WaK.τ).loc Cert.WaK.main_arg1) = m ((c.tc : Thread Cert.WaK.nD Cert.WaK.τ).loc Cert.WaK.main_arg1)
      ∧ r.2.mem ((c.tc : Thread Cert.WaK.nD Cert.WaK.τ).loc Cert.WaK.main_arg2) = m ((c.tc : Thread Cert.WaK.nD Cert.WaK.τ).loc Cert.WaK.main_arg2))
      ∧ r.2.sem = fun _ => 0)

def quiescent_WaKIdeal [hWaKIdeal : Cert.WaKIdeal.Facts] : Prop :=
  ∀ (m : (ℓ : Loc Cert.WaKIdeal.nD Cert.WaKIdeal.τ Cert.WaKIdeal.sig) → Buf (Elt Ideal) ℓ) (g : Dev Cert.WaKIdeal.nD → PrngReg), Pre_WaKIdeal m →
    θ_run (Cert.WaKIdeal.defs (F := Ideal)) (onTc (τ := Cert.WaKIdeal.τ) (Cert.WaKIdeal.main (F := Ideal))) ⟨m, fun _ => 0, g⟩ (fun r => (∀ c : Dev Cert.WaKIdeal.nD,
      r.2.mem ((c.tc : Thread Cert.WaKIdeal.nD Cert.WaKIdeal.τ).loc Cert.WaKIdeal.main_arg0) = m ((c.tc : Thread Cert.WaKIdeal.nD Cert.WaKIdeal.τ).loc Cert.WaKIdeal.main_arg0)
      ∧ r.2.mem ((c.tc : Thread Cert.WaKIdeal.nD Cert.WaKIdeal.τ).loc Cert.WaKIdeal.main_arg1) = m ((c.tc : Thread Cert.WaKIdeal.nD Cert.WaKIdeal.τ).loc Cert.WaKIdeal.main_arg1)
      ∧ r.2.mem ((c.tc : Thread Cert.WaKIdeal.nD Cert.WaKIdeal.τ).loc Cert.WaKIdeal.main_arg2) = m ((c.tc : Thread Cert.WaKIdeal.nD Cert.WaKIdeal.τ).loc Cert.WaKIdeal.main_arg2))
      ∧ r.2.sem = fun _ => 0)

def quiescent_WaKRefIdeal [hWaKRefIdeal : Cert.WaKRefIdeal.Facts] : Prop :=
  ∀ (m : (ℓ : Loc Cert.WaKRefIdeal.nD Cert.WaKRefIdeal.τ Cert.WaKRefIdeal.sig) → Buf (Elt Ideal) ℓ) (g : Dev Cert.WaKRefIdeal.nD → PrngReg), Pre_WaKRefIdeal m →
    θ_run (Cert.WaKRefIdeal.defs (F := Ideal)) (onTc (τ := Cert.WaKRefIdeal.τ) (Cert.WaKRefIdeal.main (F := Ideal))) ⟨m, fun _ => 0, g⟩ (fun r => (∀ c : Dev Cert.WaKRefIdeal.nD,
      r.2.mem ((c.tc : Thread Cert.WaKRefIdeal.nD Cert.WaKRefIdeal.τ).loc Cert.WaKRefIdeal.main_arg0) = m ((c.tc : Thread Cert.WaKRefIdeal.nD Cert.WaKRefIdeal.τ).loc Cert.WaKRefIdeal.main_arg0)
      ∧ r.2.mem ((c.tc : Thread Cert.WaKRefIdeal.nD Cert.WaKRefIdeal.τ).loc Cert.WaKRefIdeal.main_arg1) = m ((c.tc : Thread Cert.WaKRefIdeal.nD Cert.WaKRefIdeal.τ).loc Cert.WaKRefIdeal.main_arg1)
      ∧ r.2.mem ((c.tc : Thread Cert.WaKRefIdeal.nD Cert.WaKRefIdeal.τ).loc Cert.WaKRefIdeal.main_arg2) = m ((c.tc : Thread Cert.WaKRefIdeal.nD Cert.WaKRefIdeal.τ).loc Cert.WaKRefIdeal.main_arg2))
      ∧ r.2.sem = fun _ => 0)

def quiescent_CtxIn [hCtxIn : Cert.CtxIn.Facts] : Prop :=
  ∀ (m : (ℓ : Loc Cert.CtxIn.nD Cert.CtxIn.τ Cert.CtxIn.sig) → Buf (Elt Bits) ℓ) (g : Dev Cert.CtxIn.nD → PrngReg), Pre_CtxIn m →
    θ_run (Cert.CtxIn.defs (F := Bits)) (onTc (τ := Cert.CtxIn.τ) (Cert.CtxIn.main (F := Bits))) ⟨m, fun _ => 0, g⟩ (fun r => (∀ c : Dev Cert.CtxIn.nD,
      r.2.mem ((c.tc : Thread Cert.CtxIn.nD Cert.CtxIn.τ).loc Cert.CtxIn.main_arg0) = m ((c.tc : Thread Cert.CtxIn.nD Cert.CtxIn.τ).loc Cert.CtxIn.main_arg0)
      ∧ r.2.mem ((c.tc : Thread Cert.CtxIn.nD Cert.CtxIn.τ).loc Cert.CtxIn.main_arg1) = m ((c.tc : Thread Cert.CtxIn.nD Cert.CtxIn.τ).loc Cert.CtxIn.main_arg1))
      ∧ r.2.sem = fun _ => 0)

def quiescent_CtxInIdeal [hCtxInIdeal : Cert.CtxInIdeal.Facts] : Prop :=
  ∀ (m : (ℓ : Loc Cert.CtxInIdeal.nD Cert.CtxInIdeal.τ Cert.CtxInIdeal.sig) → Buf (Elt Ideal) ℓ) (g : Dev Cert.CtxInIdeal.nD → PrngReg), Pre_CtxInIdeal m →
    θ_run (Cert.CtxInIdeal.defs (F := Ideal)) (onTc (τ := Cert.CtxInIdeal.τ) (Cert.CtxInIdeal.main (F := Ideal))) ⟨m, fun _ => 0, g⟩ (fun r => (∀ c : Dev Cert.CtxInIdeal.nD,
      r.2.mem ((c.tc : Thread Cert.CtxInIdeal.nD Cert.CtxInIdeal.τ).loc Cert.CtxInIdeal.main_arg0) = m ((c.tc : Thread Cert.CtxInIdeal.nD Cert.CtxInIdeal.τ).loc Cert.CtxInIdeal.main_arg0)
      ∧ r.2.mem ((c.tc : Thread Cert.CtxInIdeal.nD Cert.CtxInIdeal.τ).loc Cert.CtxInIdeal.main_arg1) = m ((c.tc : Thread Cert.CtxInIdeal.nD Cert.CtxInIdeal.τ).loc Cert.CtxInIdeal.main_arg1))
      ∧ r.2.sem = fun _ => 0)

def quiescent_CtxInRefIdeal [hCtxInRefIdeal : Cert.CtxInRefIdeal.Facts] : Prop :=
  ∀ (m : (ℓ : Loc Cert.CtxInRefIdeal.nD Cert.CtxInRefIdeal.τ Cert.CtxInRefIdeal.sig) → Buf (Elt Ideal) ℓ) (g : Dev Cert.CtxInRefIdeal.nD → PrngReg), Pre_CtxInRefIdeal m →
    θ_run (Cert.CtxInRefIdeal.defs (F := Ideal)) (onTc (τ := Cert.CtxInRefIdeal.τ) (Cert.CtxInRefIdeal.main (F := Ideal))) ⟨m, fun _ => 0, g⟩ (fun r => (∀ c : Dev Cert.CtxInRefIdeal.nD,
      r.2.mem ((c.tc : Thread Cert.CtxInRefIdeal.nD Cert.CtxInRefIdeal.τ).loc Cert.CtxInRefIdeal.main_arg0) = m ((c.tc : Thread Cert.CtxInRefIdeal.nD Cert.CtxInRefIdeal.τ).loc Cert.CtxInRefIdeal.main_arg0)
      ∧ r.2.mem ((c.tc : Thread Cert.CtxInRefIdeal.nD Cert.CtxInRefIdeal.τ).loc Cert.CtxInRefIdeal.main_arg1) = m ((c.tc : Thread Cert.CtxInRefIdeal.nD Cert.CtxInRefIdeal.τ).loc Cert.CtxInRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_CtxBranch [hCtxBranch : Cert.CtxBranch.Facts] : Prop :=
  ∀ (m : (ℓ : Loc Cert.CtxBranch.nD Cert.CtxBranch.τ Cert.CtxBranch.sig) → Buf (Elt Bits) ℓ) (g : Dev Cert.CtxBranch.nD → PrngReg), Pre_CtxBranch m →
    θ_run (Cert.CtxBranch.defs (F := Bits)) (onTc (τ := Cert.CtxBranch.τ) (Cert.CtxBranch.main (F := Bits))) ⟨m, fun _ => 0, g⟩ (fun r => (∀ c : Dev Cert.CtxBranch.nD,
      r.2.mem ((c.tc : Thread Cert.CtxBranch.nD Cert.CtxBranch.τ).loc Cert.CtxBranch.main_arg0) = m ((c.tc : Thread Cert.CtxBranch.nD Cert.CtxBranch.τ).loc Cert.CtxBranch.main_arg0)
      ∧ r.2.mem ((c.tc : Thread Cert.CtxBranch.nD Cert.CtxBranch.τ).loc Cert.CtxBranch.main_arg1) = m ((c.tc : Thread Cert.CtxBranch.nD Cert.CtxBranch.τ).loc Cert.CtxBranch.main_arg1))
      ∧ r.2.sem = fun _ => 0)

def quiescent_CtxBranchIdeal [hCtxBranchIdeal : Cert.CtxBranchIdeal.Facts] : Prop :=
  ∀ (m : (ℓ : Loc Cert.CtxBranchIdeal.nD Cert.CtxBranchIdeal.τ Cert.CtxBranchIdeal.sig) → Buf (Elt Ideal) ℓ) (g : Dev Cert.CtxBranchIdeal.nD → PrngReg), Pre_CtxBranchIdeal m →
    θ_run (Cert.CtxBranchIdeal.defs (F := Ideal)) (onTc (τ := Cert.CtxBranchIdeal.τ) (Cert.CtxBranchIdeal.main (F := Ideal))) ⟨m, fun _ => 0, g⟩ (fun r => (∀ c : Dev Cert.CtxBranchIdeal.nD,
      r.2.mem ((c.tc : Thread Cert.CtxBranchIdeal.nD Cert.CtxBranchIdeal.τ).loc Cert.CtxBranchIdeal.main_arg0) = m ((c.tc : Thread Cert.CtxBranchIdeal.nD Cert.CtxBranchIdeal.τ).loc Cert.CtxBranchIdeal.main_arg0)
      ∧ r.2.mem ((c.tc : Thread Cert.CtxBranchIdeal.nD Cert.CtxBranchIdeal.τ).loc Cert.CtxBranchIdeal.main_arg1) = m ((c.tc : Thread Cert.CtxBranchIdeal.nD Cert.CtxBranchIdeal.τ).loc Cert.CtxBranchIdeal.main_arg1))
      ∧ r.2.sem = fun _ => 0)

def quiescent_CtxBranchRefIdeal [hCtxBranchRefIdeal : Cert.CtxBranchRefIdeal.Facts] : Prop :=
  ∀ (m : (ℓ : Loc Cert.CtxBranchRefIdeal.nD Cert.CtxBranchRefIdeal.τ Cert.CtxBranchRefIdeal.sig) → Buf (Elt Ideal) ℓ) (g : Dev Cert.CtxBranchRefIdeal.nD → PrngReg), Pre_CtxBranchRefIdeal m →
    θ_run (Cert.CtxBranchRefIdeal.defs (F := Ideal)) (onTc (τ := Cert.CtxBranchRefIdeal.τ) (Cert.CtxBranchRefIdeal.main (F := Ideal))) ⟨m, fun _ => 0, g⟩ (fun r => (∀ c : Dev Cert.CtxBranchRefIdeal.nD,
      r.2.mem ((c.tc : Thread Cert.CtxBranchRefIdeal.nD Cert.CtxBranchRefIdeal.τ).loc Cert.CtxBranchRefIdeal.main_arg0) = m ((c.tc : Thread Cert.CtxBranchRefIdeal.nD Cert.CtxBranchRefIdeal.τ).loc Cert.CtxBranchRefIdeal.main_arg0)
      ∧ r.2.mem ((c.tc : Thread Cert.CtxBranchRefIdeal.nD Cert.CtxBranchRefIdeal.τ).loc Cert.CtxBranchRefIdeal.main_arg1) = m ((c.tc : Thread Cert.CtxBranchRefIdeal.nD Cert.CtxBranchRefIdeal.τ).loc Cert.CtxBranchRefIdeal.main_arg1))
      ∧ r.2.sem = fun _ => 0)

def quiescent_CtxOut [hCtxOut : Cert.CtxOut.Facts] : Prop :=
  ∀ (m : (ℓ : Loc Cert.CtxOut.nD Cert.CtxOut.τ Cert.CtxOut.sig) → Buf (Elt Bits) ℓ) (g : Dev Cert.CtxOut.nD → PrngReg), Pre_CtxOut m →
    θ_run (Cert.CtxOut.defs (F := Bits)) (onTc (τ := Cert.CtxOut.τ) (Cert.CtxOut.main (F := Bits))) ⟨m, fun _ => 0, g⟩ (fun r => (∀ c : Dev Cert.CtxOut.nD,
      r.2.mem ((c.tc : Thread Cert.CtxOut.nD Cert.CtxOut.τ).loc Cert.CtxOut.main_arg0) = m ((c.tc : Thread Cert.CtxOut.nD Cert.CtxOut.τ).loc Cert.CtxOut.main_arg0)
      ∧ r.2.mem ((c.tc : Thread Cert.CtxOut.nD Cert.CtxOut.τ).loc Cert.CtxOut.main_arg1) = m ((c.tc : Thread Cert.CtxOut.nD Cert.CtxOut.τ).loc Cert.CtxOut.main_arg1))
      ∧ r.2.sem = fun _ => 0)

def quiescent_CtxOutIdeal [hCtxOutIdeal : Cert.CtxOutIdeal.Facts] : Prop :=
  ∀ (m : (ℓ : Loc Cert.CtxOutIdeal.nD Cert.CtxOutIdeal.τ Cert.CtxOutIdeal.sig) → Buf (Elt Ideal) ℓ) (g : Dev Cert.CtxOutIdeal.nD → PrngReg), Pre_CtxOutIdeal m →
    θ_run (Cert.CtxOutIdeal.defs (F := Ideal)) (onTc (τ := Cert.CtxOutIdeal.τ) (Cert.CtxOutIdeal.main (F := Ideal))) ⟨m, fun _ => 0, g⟩ (fun r => (∀ c : Dev Cert.CtxOutIdeal.nD,
      r.2.mem ((c.tc : Thread Cert.CtxOutIdeal.nD Cert.CtxOutIdeal.τ).loc Cert.CtxOutIdeal.main_arg0) = m ((c.tc : Thread Cert.CtxOutIdeal.nD Cert.CtxOutIdeal.τ).loc Cert.CtxOutIdeal.main_arg0)
      ∧ r.2.mem ((c.tc : Thread Cert.CtxOutIdeal.nD Cert.CtxOutIdeal.τ).loc Cert.CtxOutIdeal.main_arg1) = m ((c.tc : Thread Cert.CtxOutIdeal.nD Cert.CtxOutIdeal.τ).loc Cert.CtxOutIdeal.main_arg1))
      ∧ r.2.sem = fun _ => 0)

def quiescent_CtxOutRefIdeal [hCtxOutRefIdeal : Cert.CtxOutRefIdeal.Facts] : Prop :=
  ∀ (m : (ℓ : Loc Cert.CtxOutRefIdeal.nD Cert.CtxOutRefIdeal.τ Cert.CtxOutRefIdeal.sig) → Buf (Elt Ideal) ℓ) (g : Dev Cert.CtxOutRefIdeal.nD → PrngReg), Pre_CtxOutRefIdeal m →
    θ_run (Cert.CtxOutRefIdeal.defs (F := Ideal)) (onTc (τ := Cert.CtxOutRefIdeal.τ) (Cert.CtxOutRefIdeal.main (F := Ideal))) ⟨m, fun _ => 0, g⟩ (fun r => (∀ c : Dev Cert.CtxOutRefIdeal.nD,
      r.2.mem ((c.tc : Thread Cert.CtxOutRefIdeal.nD Cert.CtxOutRefIdeal.τ).loc Cert.CtxOutRefIdeal.main_arg0) = m ((c.tc : Thread Cert.CtxOutRefIdeal.nD Cert.CtxOutRefIdeal.τ).loc Cert.CtxOutRefIdeal.main_arg0)
      ∧ r.2.mem ((c.tc : Thread Cert.CtxOutRefIdeal.nD Cert.CtxOutRefIdeal.τ).loc Cert.CtxOutRefIdeal.main_arg1) = m ((c.tc : Thread Cert.CtxOutRefIdeal.nD Cert.CtxOutRefIdeal.τ).loc Cert.CtxOutRefIdeal.main_arg1))
      ∧ r.2.sem = fun _ => 0)

def quiescent_CtxExpert [hCtxExpert : Cert.CtxExpert.Facts] : Prop :=
  ∀ (m : (ℓ : Loc Cert.CtxExpert.nD Cert.CtxExpert.τ Cert.CtxExpert.sig) → Buf (Elt Bits) ℓ) (g : Dev Cert.CtxExpert.nD → PrngReg), Pre_CtxExpert m →
    θ_run (Cert.CtxExpert.defs (F := Bits)) (onTc (τ := Cert.CtxExpert.τ) (Cert.CtxExpert.main (F := Bits))) ⟨m, fun _ => 0, g⟩ (fun r => (∀ c : Dev Cert.CtxExpert.nD,
      r.2.mem ((c.tc : Thread Cert.CtxExpert.nD Cert.CtxExpert.τ).loc Cert.CtxExpert.main_arg0) = m ((c.tc : Thread Cert.CtxExpert.nD Cert.CtxExpert.τ).loc Cert.CtxExpert.main_arg0)
      ∧ r.2.mem ((c.tc : Thread Cert.CtxExpert.nD Cert.CtxExpert.τ).loc Cert.CtxExpert.main_arg1) = m ((c.tc : Thread Cert.CtxExpert.nD Cert.CtxExpert.τ).loc Cert.CtxExpert.main_arg1))
      ∧ r.2.sem = fun _ => 0)

def quiescent_CtxExpertIdeal [hCtxExpertIdeal : Cert.CtxExpertIdeal.Facts] : Prop :=
  ∀ (m : (ℓ : Loc Cert.CtxExpertIdeal.nD Cert.CtxExpertIdeal.τ Cert.CtxExpertIdeal.sig) → Buf (Elt Ideal) ℓ) (g : Dev Cert.CtxExpertIdeal.nD → PrngReg), Pre_CtxExpertIdeal m →
    θ_run (Cert.CtxExpertIdeal.defs (F := Ideal)) (onTc (τ := Cert.CtxExpertIdeal.τ) (Cert.CtxExpertIdeal.main (F := Ideal))) ⟨m, fun _ => 0, g⟩ (fun r => (∀ c : Dev Cert.CtxExpertIdeal.nD,
      r.2.mem ((c.tc : Thread Cert.CtxExpertIdeal.nD Cert.CtxExpertIdeal.τ).loc Cert.CtxExpertIdeal.main_arg0) = m ((c.tc : Thread Cert.CtxExpertIdeal.nD Cert.CtxExpertIdeal.τ).loc Cert.CtxExpertIdeal.main_arg0)
      ∧ r.2.mem ((c.tc : Thread Cert.CtxExpertIdeal.nD Cert.CtxExpertIdeal.τ).loc Cert.CtxExpertIdeal.main_arg1) = m ((c.tc : Thread Cert.CtxExpertIdeal.nD Cert.CtxExpertIdeal.τ).loc Cert.CtxExpertIdeal.main_arg1))
      ∧ r.2.sem = fun _ => 0)

def quiescent_CtxExpertRefIdeal [hCtxExpertRefIdeal : Cert.CtxExpertRefIdeal.Facts] : Prop :=
  ∀ (m : (ℓ : Loc Cert.CtxExpertRefIdeal.nD Cert.CtxExpertRefIdeal.τ Cert.CtxExpertRefIdeal.sig) → Buf (Elt Ideal) ℓ) (g : Dev Cert.CtxExpertRefIdeal.nD → PrngReg), Pre_CtxExpertRefIdeal m →
    θ_run (Cert.CtxExpertRefIdeal.defs (F := Ideal)) (onTc (τ := Cert.CtxExpertRefIdeal.τ) (Cert.CtxExpertRefIdeal.main (F := Ideal))) ⟨m, fun _ => 0, g⟩ (fun r => (∀ c : Dev Cert.CtxExpertRefIdeal.nD,
      r.2.mem ((c.tc : Thread Cert.CtxExpertRefIdeal.nD Cert.CtxExpertRefIdeal.τ).loc Cert.CtxExpertRefIdeal.main_arg0) = m ((c.tc : Thread Cert.CtxExpertRefIdeal.nD Cert.CtxExpertRefIdeal.τ).loc Cert.CtxExpertRefIdeal.main_arg0)
      ∧ r.2.mem ((c.tc : Thread Cert.CtxExpertRefIdeal.nD Cert.CtxExpertRefIdeal.τ).loc Cert.CtxExpertRefIdeal.main_arg1) = m ((c.tc : Thread Cert.CtxExpertRefIdeal.nD Cert.CtxExpertRefIdeal.τ).loc Cert.CtxExpertRefIdeal.main_arg1))
      ∧ r.2.sem = fun _ => 0)

def quiescent_CtxDown [hCtxDown : Cert.CtxDown.Facts] : Prop :=
  ∀ (m : (ℓ : Loc Cert.CtxDown.nD Cert.CtxDown.τ Cert.CtxDown.sig) → Buf (Elt Bits) ℓ) (g : Dev Cert.CtxDown.nD → PrngReg), Pre_CtxDown m →
    θ_run (Cert.CtxDown.defs (F := Bits)) (onTc (τ := Cert.CtxDown.τ) (Cert.CtxDown.main (F := Bits))) ⟨m, fun _ => 0, g⟩ (fun r => (∀ c : Dev Cert.CtxDown.nD,
      r.2.mem ((c.tc : Thread Cert.CtxDown.nD Cert.CtxDown.τ).loc Cert.CtxDown.main_arg0) = m ((c.tc : Thread Cert.CtxDown.nD Cert.CtxDown.τ).loc Cert.CtxDown.main_arg0)
      ∧ r.2.mem ((c.tc : Thread Cert.CtxDown.nD Cert.CtxDown.τ).loc Cert.CtxDown.main_arg1) = m ((c.tc : Thread Cert.CtxDown.nD Cert.CtxDown.τ).loc Cert.CtxDown.main_arg1))
      ∧ r.2.sem = fun _ => 0)

def quiescent_CtxDownIdeal [hCtxDownIdeal : Cert.CtxDownIdeal.Facts] : Prop :=
  ∀ (m : (ℓ : Loc Cert.CtxDownIdeal.nD Cert.CtxDownIdeal.τ Cert.CtxDownIdeal.sig) → Buf (Elt Ideal) ℓ) (g : Dev Cert.CtxDownIdeal.nD → PrngReg), Pre_CtxDownIdeal m →
    θ_run (Cert.CtxDownIdeal.defs (F := Ideal)) (onTc (τ := Cert.CtxDownIdeal.τ) (Cert.CtxDownIdeal.main (F := Ideal))) ⟨m, fun _ => 0, g⟩ (fun r => (∀ c : Dev Cert.CtxDownIdeal.nD,
      r.2.mem ((c.tc : Thread Cert.CtxDownIdeal.nD Cert.CtxDownIdeal.τ).loc Cert.CtxDownIdeal.main_arg0) = m ((c.tc : Thread Cert.CtxDownIdeal.nD Cert.CtxDownIdeal.τ).loc Cert.CtxDownIdeal.main_arg0)
      ∧ r.2.mem ((c.tc : Thread Cert.CtxDownIdeal.nD Cert.CtxDownIdeal.τ).loc Cert.CtxDownIdeal.main_arg1) = m ((c.tc : Thread Cert.CtxDownIdeal.nD Cert.CtxDownIdeal.τ).loc Cert.CtxDownIdeal.main_arg1))
      ∧ r.2.sem = fun _ => 0)

def quiescent_CtxDownRefIdeal [hCtxDownRefIdeal : Cert.CtxDownRefIdeal.Facts] : Prop :=
  ∀ (m : (ℓ : Loc Cert.CtxDownRefIdeal.nD Cert.CtxDownRefIdeal.τ Cert.CtxDownRefIdeal.sig) → Buf (Elt Ideal) ℓ) (g : Dev Cert.CtxDownRefIdeal.nD → PrngReg), Pre_CtxDownRefIdeal m →
    θ_run (Cert.CtxDownRefIdeal.defs (F := Ideal)) (onTc (τ := Cert.CtxDownRefIdeal.τ) (Cert.CtxDownRefIdeal.main (F := Ideal))) ⟨m, fun _ => 0, g⟩ (fun r => (∀ c : Dev Cert.CtxDownRefIdeal.nD,
      r.2.mem ((c.tc : Thread Cert.CtxDownRefIdeal.nD Cert.CtxDownRefIdeal.τ).loc Cert.CtxDownRefIdeal.main_arg0) = m ((c.tc : Thread Cert.CtxDownRefIdeal.nD Cert.CtxDownRefIdeal.τ).loc Cert.CtxDownRefIdeal.main_arg0)
      ∧ r.2.mem ((c.tc : Thread Cert.CtxDownRefIdeal.nD Cert.CtxDownRefIdeal.τ).loc Cert.CtxDownRefIdeal.main_arg1) = m ((c.tc : Thread Cert.CtxDownRefIdeal.nD Cert.CtxDownRefIdeal.τ).loc Cert.CtxDownRefIdeal.main_arg1))
      ∧ r.2.sem = fun _ => 0)

def quiescent_CtxWaKV [hCtxWaKV : Cert.CtxWaKV.Facts] : Prop :=
  ∀ (m : (ℓ : Loc Cert.CtxWaKV.nD Cert.CtxWaKV.τ Cert.CtxWaKV.sig) → Buf (Elt Bits) ℓ) (g : Dev Cert.CtxWaKV.nD → PrngReg), Pre_CtxWaKV m →
    θ_run (Cert.CtxWaKV.defs (F := Bits)) (onTc (τ := Cert.CtxWaKV.τ) (Cert.CtxWaKV.main (F := Bits))) ⟨m, fun _ => 0, g⟩ (fun r => (∀ c : Dev Cert.CtxWaKV.nD,
      r.2.mem ((c.tc : Thread Cert.CtxWaKV.nD Cert.CtxWaKV.τ).loc Cert.CtxWaKV.main_arg0) = m ((c.tc : Thread Cert.CtxWaKV.nD Cert.CtxWaKV.τ).loc Cert.CtxWaKV.main_arg0)
      ∧ r.2.mem ((c.tc : Thread Cert.CtxWaKV.nD Cert.CtxWaKV.τ).loc Cert.CtxWaKV.main_arg1) = m ((c.tc : Thread Cert.CtxWaKV.nD Cert.CtxWaKV.τ).loc Cert.CtxWaKV.main_arg1))
      ∧ r.2.sem = fun _ => 0)

def quiescent_CtxWaKVIdeal [hCtxWaKVIdeal : Cert.CtxWaKVIdeal.Facts] : Prop :=
  ∀ (m : (ℓ : Loc Cert.CtxWaKVIdeal.nD Cert.CtxWaKVIdeal.τ Cert.CtxWaKVIdeal.sig) → Buf (Elt Ideal) ℓ) (g : Dev Cert.CtxWaKVIdeal.nD → PrngReg), Pre_CtxWaKVIdeal m →
    θ_run (Cert.CtxWaKVIdeal.defs (F := Ideal)) (onTc (τ := Cert.CtxWaKVIdeal.τ) (Cert.CtxWaKVIdeal.main (F := Ideal))) ⟨m, fun _ => 0, g⟩ (fun r => (∀ c : Dev Cert.CtxWaKVIdeal.nD,
      r.2.mem ((c.tc : Thread Cert.CtxWaKVIdeal.nD Cert.CtxWaKVIdeal.τ).loc Cert.CtxWaKVIdeal.main_arg0) = m ((c.tc : Thread Cert.CtxWaKVIdeal.nD Cert.CtxWaKVIdeal.τ).loc Cert.CtxWaKVIdeal.main_arg0)
      ∧ r.2.mem ((c.tc : Thread Cert.CtxWaKVIdeal.nD Cert.CtxWaKVIdeal.τ).loc Cert.CtxWaKVIdeal.main_arg1) = m ((c.tc : Thread Cert.CtxWaKVIdeal.nD Cert.CtxWaKVIdeal.τ).loc Cert.CtxWaKVIdeal.main_arg1))
      ∧ r.2.sem = fun _ => 0)

def quiescent_CtxWaKVRefIdeal [hCtxWaKVRefIdeal : Cert.CtxWaKVRefIdeal.Facts] : Prop :=
  ∀ (m : (ℓ : Loc Cert.CtxWaKVRefIdeal.nD Cert.CtxWaKVRefIdeal.τ Cert.CtxWaKVRefIdeal.sig) → Buf (Elt Ideal) ℓ) (g : Dev Cert.CtxWaKVRefIdeal.nD → PrngReg), Pre_CtxWaKVRefIdeal m →
    θ_run (Cert.CtxWaKVRefIdeal.defs (F := Ideal)) (onTc (τ := Cert.CtxWaKVRefIdeal.τ) (Cert.CtxWaKVRefIdeal.main (F := Ideal))) ⟨m, fun _ => 0, g⟩ (fun r => (∀ c : Dev Cert.CtxWaKVRefIdeal.nD,
      r.2.mem ((c.tc : Thread Cert.CtxWaKVRefIdeal.nD Cert.CtxWaKVRefIdeal.τ).loc Cert.CtxWaKVRefIdeal.main_arg0) = m ((c.tc : Thread Cert.CtxWaKVRefIdeal.nD Cert.CtxWaKVRefIdeal.τ).loc Cert.CtxWaKVRefIdeal.main_arg0)
      ∧ r.2.mem ((c.tc : Thread Cert.CtxWaKVRefIdeal.nD Cert.CtxWaKVRefIdeal.τ).loc Cert.CtxWaKVRefIdeal.main_arg1) = m ((c.tc : Thread Cert.CtxWaKVRefIdeal.nD Cert.CtxWaKVRefIdeal.τ).loc Cert.CtxWaKVRefIdeal.main_arg1))
      ∧ r.2.sem = fun _ => 0)

def quiescent_CtxNaKV [hCtxNaKV : Cert.CtxNaKV.Facts] : Prop :=
  ∀ (m : (ℓ : Loc Cert.CtxNaKV.nD Cert.CtxNaKV.τ Cert.CtxNaKV.sig) → Buf (Elt Bits) ℓ) (g : Dev Cert.CtxNaKV.nD → PrngReg), Pre_CtxNaKV m →
    θ_run (Cert.CtxNaKV.defs (F := Bits)) (onTc (τ := Cert.CtxNaKV.τ) (Cert.CtxNaKV.main (F := Bits))) ⟨m, fun _ => 0, g⟩ (fun r => (∀ c : Dev Cert.CtxNaKV.nD,
      r.2.mem ((c.tc : Thread Cert.CtxNaKV.nD Cert.CtxNaKV.τ).loc Cert.CtxNaKV.main_arg0) = m ((c.tc : Thread Cert.CtxNaKV.nD Cert.CtxNaKV.τ).loc Cert.CtxNaKV.main_arg0)
      ∧ r.2.mem ((c.tc : Thread Cert.CtxNaKV.nD Cert.CtxNaKV.τ).loc Cert.CtxNaKV.main_arg1) = m ((c.tc : Thread Cert.CtxNaKV.nD Cert.CtxNaKV.τ).loc Cert.CtxNaKV.main_arg1))
      ∧ r.2.sem = fun _ => 0)

def quiescent_CtxNaKVIdeal [hCtxNaKVIdeal : Cert.CtxNaKVIdeal.Facts] : Prop :=
  ∀ (m : (ℓ : Loc Cert.CtxNaKVIdeal.nD Cert.CtxNaKVIdeal.τ Cert.CtxNaKVIdeal.sig) → Buf (Elt Ideal) ℓ) (g : Dev Cert.CtxNaKVIdeal.nD → PrngReg), Pre_CtxNaKVIdeal m →
    θ_run (Cert.CtxNaKVIdeal.defs (F := Ideal)) (onTc (τ := Cert.CtxNaKVIdeal.τ) (Cert.CtxNaKVIdeal.main (F := Ideal))) ⟨m, fun _ => 0, g⟩ (fun r => (∀ c : Dev Cert.CtxNaKVIdeal.nD,
      r.2.mem ((c.tc : Thread Cert.CtxNaKVIdeal.nD Cert.CtxNaKVIdeal.τ).loc Cert.CtxNaKVIdeal.main_arg0) = m ((c.tc : Thread Cert.CtxNaKVIdeal.nD Cert.CtxNaKVIdeal.τ).loc Cert.CtxNaKVIdeal.main_arg0)
      ∧ r.2.mem ((c.tc : Thread Cert.CtxNaKVIdeal.nD Cert.CtxNaKVIdeal.τ).loc Cert.CtxNaKVIdeal.main_arg1) = m ((c.tc : Thread Cert.CtxNaKVIdeal.nD Cert.CtxNaKVIdeal.τ).loc Cert.CtxNaKVIdeal.main_arg1))
      ∧ r.2.sem = fun _ => 0)

def quiescent_CtxNaKVRefIdeal [hCtxNaKVRefIdeal : Cert.CtxNaKVRefIdeal.Facts] : Prop :=
  ∀ (m : (ℓ : Loc Cert.CtxNaKVRefIdeal.nD Cert.CtxNaKVRefIdeal.τ Cert.CtxNaKVRefIdeal.sig) → Buf (Elt Ideal) ℓ) (g : Dev Cert.CtxNaKVRefIdeal.nD → PrngReg), Pre_CtxNaKVRefIdeal m →
    θ_run (Cert.CtxNaKVRefIdeal.defs (F := Ideal)) (onTc (τ := Cert.CtxNaKVRefIdeal.τ) (Cert.CtxNaKVRefIdeal.main (F := Ideal))) ⟨m, fun _ => 0, g⟩ (fun r => (∀ c : Dev Cert.CtxNaKVRefIdeal.nD,
      r.2.mem ((c.tc : Thread Cert.CtxNaKVRefIdeal.nD Cert.CtxNaKVRefIdeal.τ).loc Cert.CtxNaKVRefIdeal.main_arg0) = m ((c.tc : Thread Cert.CtxNaKVRefIdeal.nD Cert.CtxNaKVRefIdeal.τ).loc Cert.CtxNaKVRefIdeal.main_arg0)
      ∧ r.2.mem ((c.tc : Thread Cert.CtxNaKVRefIdeal.nD Cert.CtxNaKVRefIdeal.τ).loc Cert.CtxNaKVRefIdeal.main_arg1) = m ((c.tc : Thread Cert.CtxNaKVRefIdeal.nD Cert.CtxNaKVRefIdeal.τ).loc Cert.CtxNaKVRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Expert_ExpertIdeal : Prop :=
  True

def algebraic_ExpertIdeal_ExpertRefIdeal [hExpertIdeal : Cert.ExpertIdeal.Facts] [hExpertRefIdeal : Cert.ExpertRefIdeal.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal m →
    (∀ c : Dev Cert.ExpertIdeal.nD,
      m' ((c.tc : Thread Cert.ExpertRefIdeal.nD Cert.ExpertRefIdeal.τ).loc Cert.ExpertRefIdeal.main_arg0) = m ((c.tc : Thread Cert.ExpertIdeal.nD Cert.ExpertIdeal.τ).loc Cert.ExpertIdeal.main_arg0)
      ∧ m' ((c.tc : Thread Cert.ExpertRefIdeal.nD Cert.ExpertRefIdeal.τ).loc Cert.ExpertRefIdeal.main_arg1) = m ((c.tc : Thread Cert.ExpertIdeal.nD Cert.ExpertIdeal.τ).loc Cert.ExpertIdeal.main_arg1)) →
    ∃ (v0 : (c : Dev Cert.ExpertIdeal.nD) → Buf (Elt Ideal) ((c.tc : Thread Cert.ExpertIdeal.nD Cert.ExpertIdeal.τ).loc Cert.ExpertIdeal.main_v0)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v0) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1))
      ∧ θ_run (Cert.ExpertRefIdeal.defs (F := Ideal)) (onTc (τ := Cert.ExpertRefIdeal.τ) (Cert.ExpertRefIdeal.main (F := Ideal))) ⟨m', fun _ => 0, g'⟩ (fun r => ∀ c : Dev Cert.ExpertRefIdeal.nD,
          r.2.mem ((c.tc : Thread Cert.ExpertRefIdeal.nD Cert.ExpertRefIdeal.τ).loc Cert.ExpertRefIdeal.main_v0) = v0 c
          ∧ r.2.mem ((c.tc : Thread Cert.ExpertRefIdeal.nD Cert.ExpertRefIdeal.τ).loc Cert.ExpertRefIdeal.main_arg0) = m' ((c.tc : Thread Cert.ExpertRefIdeal.nD Cert.ExpertRefIdeal.τ).loc Cert.ExpertRefIdeal.main_arg0)
          ∧ r.2.mem ((c.tc : Thread Cert.ExpertRefIdeal.nD Cert.ExpertRefIdeal.τ).loc Cert.ExpertRefIdeal.main_arg1) = m' ((c.tc : Thread Cert.ExpertRefIdeal.nD Cert.ExpertRefIdeal.τ).loc Cert.ExpertRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v0) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Hyena_HyenaIdeal : Prop :=
  True

def algebraic_HyenaIdeal_HyenaRefIdeal [hHyenaIdeal : Cert.HyenaIdeal.Facts] [hHyenaRefIdeal : Cert.HyenaRefIdeal.Facts] : Prop :=
  ∀ (m : (ℓ : Loc Cert.HyenaIdeal.nD Cert.HyenaIdeal.τ Cert.HyenaIdeal.sig) → Buf (Elt Ideal) ℓ) (g : Dev Cert.HyenaIdeal.nD → PrngReg)
    (m' : (ℓ : Loc Cert.HyenaRefIdeal.nD Cert.HyenaRefIdeal.τ Cert.HyenaRefIdeal.sig) → Buf (Elt Ideal) ℓ) (g' : Dev Cert.HyenaRefIdeal.nD → PrngReg), Pre_HyenaIdeal m →
    (∀ c : Dev Cert.HyenaIdeal.nD,
      m' ((c.tc : Thread Cert.HyenaRefIdeal.nD Cert.HyenaRefIdeal.τ).loc Cert.HyenaRefIdeal.main_arg0) = m ((c.tc : Thread Cert.HyenaIdeal.nD Cert.HyenaIdeal.τ).loc Cert.HyenaIdeal.main_arg0)
      ∧ m' ((c.tc : Thread Cert.HyenaRefIdeal.nD Cert.HyenaRefIdeal.τ).loc Cert.HyenaRefIdeal.main_arg1) = m ((c.tc : Thread Cert.HyenaIdeal.nD Cert.HyenaIdeal.τ).loc Cert.HyenaIdeal.main_arg1)) →
    ∃ (v0 : (c : Dev Cert.HyenaIdeal.nD) → Buf (Elt Ideal) ((c.tc : Thread Cert.HyenaIdeal.nD Cert.HyenaIdeal.τ).loc Cert.HyenaIdeal.main_v2)),
      θ_run (Cert.HyenaIdeal.defs (F := Ideal)) (onTc (τ := Cert.HyenaIdeal.τ) (Cert.HyenaIdeal.main (F := Ideal))) ⟨m, fun _ => 0, g⟩ (fun r => ∀ c : Dev Cert.HyenaIdeal.nD,
          r.2.mem ((c.tc : Thread Cert.HyenaIdeal.nD Cert.HyenaIdeal.τ).loc Cert.HyenaIdeal.main_v2) = v0 c
          ∧ r.2.mem ((c.tc : Thread Cert.HyenaIdeal.nD Cert.HyenaIdeal.τ).loc Cert.HyenaIdeal.main_arg0) = m ((c.tc : Thread Cert.HyenaIdeal.nD Cert.HyenaIdeal.τ).loc Cert.HyenaIdeal.main_arg0)
          ∧ r.2.mem ((c.tc : Thread Cert.HyenaIdeal.nD Cert.HyenaIdeal.τ).loc Cert.HyenaIdeal.main_arg1) = m ((c.tc : Thread Cert.HyenaIdeal.nD Cert.HyenaIdeal.τ).loc Cert.HyenaIdeal.main_arg1))
      ∧ θ_run (Cert.HyenaRefIdeal.defs (F := Ideal)) (onTc (τ := Cert.HyenaRefIdeal.τ) (Cert.HyenaRefIdeal.main (F := Ideal))) ⟨m', fun _ => 0, g'⟩ (fun r => ∀ c : Dev Cert.HyenaRefIdeal.nD,
          r.2.mem ((c.tc : Thread Cert.HyenaRefIdeal.nD Cert.HyenaRefIdeal.τ).loc Cert.HyenaRefIdeal.main_v2) = v0 c
          ∧ r.2.mem ((c.tc : Thread Cert.HyenaRefIdeal.nD Cert.HyenaRefIdeal.τ).loc Cert.HyenaRefIdeal.main_arg0) = m' ((c.tc : Thread Cert.HyenaRefIdeal.nD Cert.HyenaRefIdeal.τ).loc Cert.HyenaRefIdeal.main_arg0)
          ∧ r.2.mem ((c.tc : Thread Cert.HyenaRefIdeal.nD Cert.HyenaRefIdeal.τ).loc Cert.HyenaRefIdeal.main_arg1) = m' ((c.tc : Thread Cert.HyenaRefIdeal.nD Cert.HyenaRefIdeal.τ).loc Cert.HyenaRefIdeal.main_arg1))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v8) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_NaV_NaVIdeal : Prop :=
  True

def algebraic_NaVIdeal_NaVRefIdeal [hNaVIdeal : Cert.NaVIdeal.Facts] [hNaVRefIdeal : Cert.NaVRefIdeal.Facts] : Prop :=
  ∀ (m : (ℓ : Loc Cert.NaVIdeal.nD Cert.NaVIdeal.τ Cert.NaVIdeal.sig) → Buf (Elt Ideal) ℓ) (g : Dev Cert.NaVIdeal.nD → PrngReg)
    (m' : (ℓ : Loc Cert.NaVRefIdeal.nD Cert.NaVRefIdeal.τ Cert.NaVRefIdeal.sig) → Buf (Elt Ideal) ℓ) (g' : Dev Cert.NaVRefIdeal.nD → PrngReg), Pre_NaVIdeal m →
    (∀ c : Dev Cert.NaVIdeal.nD,
      m' ((c.tc : Thread Cert.NaVRefIdeal.nD Cert.NaVRefIdeal.τ).loc Cert.NaVRefIdeal.main_arg0) = m ((c.tc : Thread Cert.NaVIdeal.nD Cert.NaVIdeal.τ).loc Cert.NaVIdeal.main_arg0)
      ∧ m' ((c.tc : Thread Cert.NaVRefIdeal.nD Cert.NaVRefIdeal.τ).loc Cert.NaVRefIdeal.main_arg1) = m ((c.tc : Thread Cert.NaVIdeal.nD Cert.NaVIdeal.τ).loc Cert.NaVIdeal.main_arg1)) →
    ∃ (v0 : (c : Dev Cert.NaVIdeal.nD) → Buf (Elt Ideal) ((c.tc : Thread Cert.NaVIdeal.nD Cert.NaVIdeal.τ).loc Cert.NaVIdeal.main_v2)),
      θ_run (Cert.NaVIdeal.defs (F := Ideal)) (onTc (τ := Cert.NaVIdeal.τ) (Cert.NaVIdeal.main (F := Ideal))) ⟨m, fun _ => 0, g⟩ (fun r => ∀ c : Dev Cert.NaVIdeal.nD,
          r.2.mem ((c.tc : Thread Cert.NaVIdeal.nD Cert.NaVIdeal.τ).loc Cert.NaVIdeal.main_v2) = v0 c
          ∧ r.2.mem ((c.tc : Thread Cert.NaVIdeal.nD Cert.NaVIdeal.τ).loc Cert.NaVIdeal.main_arg0) = m ((c.tc : Thread Cert.NaVIdeal.nD Cert.NaVIdeal.τ).loc Cert.NaVIdeal.main_arg0)
          ∧ r.2.mem ((c.tc : Thread Cert.NaVIdeal.nD Cert.NaVIdeal.τ).loc Cert.NaVIdeal.main_arg1) = m ((c.tc : Thread Cert.NaVIdeal.nD Cert.NaVIdeal.τ).loc Cert.NaVIdeal.main_arg1))
      ∧ θ_run (Cert.NaVRefIdeal.defs (F := Ideal)) (onTc (τ := Cert.NaVRefIdeal.τ) (Cert.NaVRefIdeal.main (F := Ideal))) ⟨m', fun _ => 0, g'⟩ (fun r => ∀ c : Dev Cert.NaVRefIdeal.nD,
          r.2.mem ((c.tc : Thread Cert.NaVRefIdeal.nD Cert.NaVRefIdeal.τ).loc Cert.NaVRefIdeal.main_v5) = v0 c
          ∧ r.2.mem ((c.tc : Thread Cert.NaVRefIdeal.nD Cert.NaVRefIdeal.τ).loc Cert.NaVRefIdeal.main_arg0) = m' ((c.tc : Thread Cert.NaVRefIdeal.nD Cert.NaVRefIdeal.τ).loc Cert.NaVRefIdeal.main_arg0)
          ∧ r.2.mem ((c.tc : Thread Cert.NaVRefIdeal.nD Cert.NaVRefIdeal.τ).loc Cert.NaVRefIdeal.main_arg1) = m' ((c.tc : Thread Cert.NaVRefIdeal.nD Cert.NaVRefIdeal.τ).loc Cert.NaVRefIdeal.main_arg1))

def preserves_WaV_WaVIdeal : Prop :=
  True

def algebraic_WaVIdeal_WaVRefIdeal [hWaVIdeal : Cert.WaVIdeal.Facts] [hWaVRefIdeal : Cert.WaVRefIdeal.Facts] : Prop :=
  ∀ (m : (ℓ : Loc Cert.WaVIdeal.nD Cert.WaVIdeal.τ Cert.WaVIdeal.sig) → Buf (Elt Ideal) ℓ) (g : Dev Cert.WaVIdeal.nD → PrngReg)
    (m' : (ℓ : Loc Cert.WaVRefIdeal.nD Cert.WaVRefIdeal.τ Cert.WaVRefIdeal.sig) → Buf (Elt Ideal) ℓ) (g' : Dev Cert.WaVRefIdeal.nD → PrngReg), Pre_WaVIdeal m →
    (∀ c : Dev Cert.WaVIdeal.nD,
      m' ((c.tc : Thread Cert.WaVRefIdeal.nD Cert.WaVRefIdeal.τ).loc Cert.WaVRefIdeal.main_arg0) = m ((c.tc : Thread Cert.WaVIdeal.nD Cert.WaVIdeal.τ).loc Cert.WaVIdeal.main_arg0)
      ∧ m' ((c.tc : Thread Cert.WaVRefIdeal.nD Cert.WaVRefIdeal.τ).loc Cert.WaVRefIdeal.main_arg1) = m ((c.tc : Thread Cert.WaVIdeal.nD Cert.WaVIdeal.τ).loc Cert.WaVIdeal.main_arg1)) →
    ∃ (v0 : (c : Dev Cert.WaVIdeal.nD) → Buf (Elt Ideal) ((c.tc : Thread Cert.WaVIdeal.nD Cert.WaVIdeal.τ).loc Cert.WaVIdeal.main_v2)),
      θ_run (Cert.WaVIdeal.defs (F := Ideal)) (onTc (τ := Cert.WaVIdeal.τ) (Cert.WaVIdeal.main (F := Ideal))) ⟨m, fun _ => 0, g⟩ (fun r => ∀ c : Dev Cert.WaVIdeal.nD,
          r.2.mem ((c.tc : Thread Cert.WaVIdeal.nD Cert.WaVIdeal.τ).loc Cert.WaVIdeal.main_v2) = v0 c
          ∧ r.2.mem ((c.tc : Thread Cert.WaVIdeal.nD Cert.WaVIdeal.τ).loc Cert.WaVIdeal.main_arg0) = m ((c.tc : Thread Cert.WaVIdeal.nD Cert.WaVIdeal.τ).loc Cert.WaVIdeal.main_arg0)
          ∧ r.2.mem ((c.tc : Thread Cert.WaVIdeal.nD Cert.WaVIdeal.τ).loc Cert.WaVIdeal.main_arg1) = m ((c.tc : Thread Cert.WaVIdeal.nD Cert.WaVIdeal.τ).loc Cert.WaVIdeal.main_arg1))
      ∧ θ_run (Cert.WaVRefIdeal.defs (F := Ideal)) (onTc (τ := Cert.WaVRefIdeal.τ) (Cert.WaVRefIdeal.main (F := Ideal))) ⟨m', fun _ => 0, g'⟩ (fun r => ∀ c : Dev Cert.WaVRefIdeal.nD,
          r.2.mem ((c.tc : Thread Cert.WaVRefIdeal.nD Cert.WaVRefIdeal.τ).loc Cert.WaVRefIdeal.main_v5) = v0 c
          ∧ r.2.mem ((c.tc : Thread Cert.WaVRefIdeal.nD Cert.WaVRefIdeal.τ).loc Cert.WaVRefIdeal.main_arg0) = m' ((c.tc : Thread Cert.WaVRefIdeal.nD Cert.WaVRefIdeal.τ).loc Cert.WaVRefIdeal.main_arg0)
          ∧ r.2.mem ((c.tc : Thread Cert.WaVRefIdeal.nD Cert.WaVRefIdeal.τ).loc Cert.WaVRefIdeal.main_arg1) = m' ((c.tc : Thread Cert.WaVRefIdeal.nD Cert.WaVRefIdeal.τ).loc Cert.WaVRefIdeal.main_arg1))

def preserves_NaQ_NaQIdeal : Prop :=
  True

def algebraic_NaQIdeal_NaQRefIdeal [hNaQIdeal : Cert.NaQIdeal.Facts] [hNaQRefIdeal : Cert.NaQRefIdeal.Facts] : Prop :=
  ∀ (m : (ℓ : Loc Cert.NaQIdeal.nD Cert.NaQIdeal.τ Cert.NaQIdeal.sig) → Buf (Elt Ideal) ℓ) (g : Dev Cert.NaQIdeal.nD → PrngReg)
    (m' : (ℓ : Loc Cert.NaQRefIdeal.nD Cert.NaQRefIdeal.τ Cert.NaQRefIdeal.sig) → Buf (Elt Ideal) ℓ) (g' : Dev Cert.NaQRefIdeal.nD → PrngReg), Pre_NaQIdeal m →
    (∀ c : Dev Cert.NaQIdeal.nD,
      m' ((c.tc : Thread Cert.NaQRefIdeal.nD Cert.NaQRefIdeal.τ).loc Cert.NaQRefIdeal.main_arg0) = m ((c.tc : Thread Cert.NaQIdeal.nD Cert.NaQIdeal.τ).loc Cert.NaQIdeal.main_arg0)
      ∧ m' ((c.tc : Thread Cert.NaQRefIdeal.nD Cert.NaQRefIdeal.τ).loc Cert.NaQRefIdeal.main_arg1) = m ((c.tc : Thread Cert.NaQIdeal.nD Cert.NaQIdeal.τ).loc Cert.NaQIdeal.main_arg1)
      ∧ m' ((c.tc : Thread Cert.NaQRefIdeal.nD Cert.NaQRefIdeal.τ).loc Cert.NaQRefIdeal.main_arg2) = m ((c.tc : Thread Cert.NaQIdeal.nD Cert.NaQIdeal.τ).loc Cert.NaQIdeal.main_arg2)) →
    ∃ (v0 : (c : Dev Cert.NaQIdeal.nD) → Buf (Elt Ideal) ((c.tc : Thread Cert.NaQIdeal.nD Cert.NaQIdeal.τ).loc Cert.NaQIdeal.main_v3)),
      θ_run (Cert.NaQIdeal.defs (F := Ideal)) (onTc (τ := Cert.NaQIdeal.τ) (Cert.NaQIdeal.main (F := Ideal))) ⟨m, fun _ => 0, g⟩ (fun r => ∀ c : Dev Cert.NaQIdeal.nD,
          r.2.mem ((c.tc : Thread Cert.NaQIdeal.nD Cert.NaQIdeal.τ).loc Cert.NaQIdeal.main_v3) = v0 c
          ∧ r.2.mem ((c.tc : Thread Cert.NaQIdeal.nD Cert.NaQIdeal.τ).loc Cert.NaQIdeal.main_arg0) = m ((c.tc : Thread Cert.NaQIdeal.nD Cert.NaQIdeal.τ).loc Cert.NaQIdeal.main_arg0)
          ∧ r.2.mem ((c.tc : Thread Cert.NaQIdeal.nD Cert.NaQIdeal.τ).loc Cert.NaQIdeal.main_arg1) = m ((c.tc : Thread Cert.NaQIdeal.nD Cert.NaQIdeal.τ).loc Cert.NaQIdeal.main_arg1)
          ∧ r.2.mem ((c.tc : Thread Cert.NaQIdeal.nD Cert.NaQIdeal.τ).loc Cert.NaQIdeal.main_arg2) = m ((c.tc : Thread Cert.NaQIdeal.nD Cert.NaQIdeal.τ).loc Cert.NaQIdeal.main_arg2))
      ∧ θ_run (Cert.NaQRefIdeal.defs (F := Ideal)) (onTc (τ := Cert.NaQRefIdeal.τ) (Cert.NaQRefIdeal.main (F := Ideal))) ⟨m', fun _ => 0, g'⟩ (fun r => ∀ c : Dev Cert.NaQRefIdeal.nD,
          r.2.mem ((c.tc : Thread Cert.NaQRefIdeal.nD Cert.NaQRefIdeal.τ).loc Cert.NaQRefIdeal.main_v20) = v0 c
          ∧ r.2.mem ((c.tc : Thread Cert.NaQRefIdeal.nD Cert.NaQRefIdeal.τ).loc Cert.NaQRefIdeal.main_arg0) = m' ((c.tc : Thread Cert.NaQRefIdeal.nD Cert.NaQRefIdeal.τ).loc Cert.NaQRefIdeal.main_arg0)
          ∧ r.2.mem ((c.tc : Thread Cert.NaQRefIdeal.nD Cert.NaQRefIdeal.τ).loc Cert.NaQRefIdeal.main_arg1) = m' ((c.tc : Thread Cert.NaQRefIdeal.nD Cert.NaQRefIdeal.τ).loc Cert.NaQRefIdeal.main_arg1)
          ∧ r.2.mem ((c.tc : Thread Cert.NaQRefIdeal.nD Cert.NaQRefIdeal.τ).loc Cert.NaQRefIdeal.main_arg2) = m' ((c.tc : Thread Cert.NaQRefIdeal.nD Cert.NaQRefIdeal.τ).loc Cert.NaQRefIdeal.main_arg2))

def preserves_NaK_NaKIdeal : Prop :=
  True

def algebraic_NaKIdeal_NaKRefIdeal [hNaKIdeal : Cert.NaKIdeal.Facts] [hNaKRefIdeal : Cert.NaKRefIdeal.Facts] : Prop :=
  ∀ (m : (ℓ : Loc Cert.NaKIdeal.nD Cert.NaKIdeal.τ Cert.NaKIdeal.sig) → Buf (Elt Ideal) ℓ) (g : Dev Cert.NaKIdeal.nD → PrngReg)
    (m' : (ℓ : Loc Cert.NaKRefIdeal.nD Cert.NaKRefIdeal.τ Cert.NaKRefIdeal.sig) → Buf (Elt Ideal) ℓ) (g' : Dev Cert.NaKRefIdeal.nD → PrngReg), Pre_NaKIdeal m →
    (∀ c : Dev Cert.NaKIdeal.nD,
      m' ((c.tc : Thread Cert.NaKRefIdeal.nD Cert.NaKRefIdeal.τ).loc Cert.NaKRefIdeal.main_arg0) = m ((c.tc : Thread Cert.NaKIdeal.nD Cert.NaKIdeal.τ).loc Cert.NaKIdeal.main_arg0)
      ∧ m' ((c.tc : Thread Cert.NaKRefIdeal.nD Cert.NaKRefIdeal.τ).loc Cert.NaKRefIdeal.main_arg1) = m ((c.tc : Thread Cert.NaKIdeal.nD Cert.NaKIdeal.τ).loc Cert.NaKIdeal.main_arg1)
      ∧ m' ((c.tc : Thread Cert.NaKRefIdeal.nD Cert.NaKRefIdeal.τ).loc Cert.NaKRefIdeal.main_arg2) = m ((c.tc : Thread Cert.NaKIdeal.nD Cert.NaKIdeal.τ).loc Cert.NaKIdeal.main_arg2)) →
    ∃ (v0 : (c : Dev Cert.NaKIdeal.nD) → Buf (Elt Ideal) ((c.tc : Thread Cert.NaKIdeal.nD Cert.NaKIdeal.τ).loc Cert.NaKIdeal.main_v3)),
      θ_run (Cert.NaKIdeal.defs (F := Ideal)) (onTc (τ := Cert.NaKIdeal.τ) (Cert.NaKIdeal.main (F := Ideal))) ⟨m, fun _ => 0, g⟩ (fun r => ∀ c : Dev Cert.NaKIdeal.nD,
          r.2.mem ((c.tc : Thread Cert.NaKIdeal.nD Cert.NaKIdeal.τ).loc Cert.NaKIdeal.main_v3) = v0 c
          ∧ r.2.mem ((c.tc : Thread Cert.NaKIdeal.nD Cert.NaKIdeal.τ).loc Cert.NaKIdeal.main_arg0) = m ((c.tc : Thread Cert.NaKIdeal.nD Cert.NaKIdeal.τ).loc Cert.NaKIdeal.main_arg0)
          ∧ r.2.mem ((c.tc : Thread Cert.NaKIdeal.nD Cert.NaKIdeal.τ).loc Cert.NaKIdeal.main_arg1) = m ((c.tc : Thread Cert.NaKIdeal.nD Cert.NaKIdeal.τ).loc Cert.NaKIdeal.main_arg1)
          ∧ r.2.mem ((c.tc : Thread Cert.NaKIdeal.nD Cert.NaKIdeal.τ).loc Cert.NaKIdeal.main_arg2) = m ((c.tc : Thread Cert.NaKIdeal.nD Cert.NaKIdeal.τ).loc Cert.NaKIdeal.main_arg2))
      ∧ θ_run (Cert.NaKRefIdeal.defs (F := Ideal)) (onTc (τ := Cert.NaKRefIdeal.τ) (Cert.NaKRefIdeal.main (F := Ideal))) ⟨m', fun _ => 0, g'⟩ (fun r => ∀ c : Dev Cert.NaKRefIdeal.nD,
          r.2.mem ((c.tc : Thread Cert.NaKRefIdeal.nD Cert.NaKRefIdeal.τ).loc Cert.NaKRefIdeal.main_v20) = v0 c
          ∧ r.2.mem ((c.tc : Thread Cert.NaKRefIdeal.nD Cert.NaKRefIdeal.τ).loc Cert.NaKRefIdeal.main_arg0) = m' ((c.tc : Thread Cert.NaKRefIdeal.nD Cert.NaKRefIdeal.τ).loc Cert.NaKRefIdeal.main_arg0)
          ∧ r.2.mem ((c.tc : Thread Cert.NaKRefIdeal.nD Cert.NaKRefIdeal.τ).loc Cert.NaKRefIdeal.main_arg1) = m' ((c.tc : Thread Cert.NaKRefIdeal.nD Cert.NaKRefIdeal.τ).loc Cert.NaKRefIdeal.main_arg1)
          ∧ r.2.mem ((c.tc : Thread Cert.NaKRefIdeal.nD Cert.NaKRefIdeal.τ).loc Cert.NaKRefIdeal.main_arg2) = m' ((c.tc : Thread Cert.NaKRefIdeal.nD Cert.NaKRefIdeal.τ).loc Cert.NaKRefIdeal.main_arg2))

def preserves_WaQ_WaQIdeal : Prop :=
  True

def algebraic_WaQIdeal_WaQRefIdeal [hWaQIdeal : Cert.WaQIdeal.Facts] [hWaQRefIdeal : Cert.WaQRefIdeal.Facts] : Prop :=
  ∀ (m : (ℓ : Loc Cert.WaQIdeal.nD Cert.WaQIdeal.τ Cert.WaQIdeal.sig) → Buf (Elt Ideal) ℓ) (g : Dev Cert.WaQIdeal.nD → PrngReg)
    (m' : (ℓ : Loc Cert.WaQRefIdeal.nD Cert.WaQRefIdeal.τ Cert.WaQRefIdeal.sig) → Buf (Elt Ideal) ℓ) (g' : Dev Cert.WaQRefIdeal.nD → PrngReg), Pre_WaQIdeal m →
    (∀ c : Dev Cert.WaQIdeal.nD,
      m' ((c.tc : Thread Cert.WaQRefIdeal.nD Cert.WaQRefIdeal.τ).loc Cert.WaQRefIdeal.main_arg0) = m ((c.tc : Thread Cert.WaQIdeal.nD Cert.WaQIdeal.τ).loc Cert.WaQIdeal.main_arg0)
      ∧ m' ((c.tc : Thread Cert.WaQRefIdeal.nD Cert.WaQRefIdeal.τ).loc Cert.WaQRefIdeal.main_arg1) = m ((c.tc : Thread Cert.WaQIdeal.nD Cert.WaQIdeal.τ).loc Cert.WaQIdeal.main_arg1)
      ∧ m' ((c.tc : Thread Cert.WaQRefIdeal.nD Cert.WaQRefIdeal.τ).loc Cert.WaQRefIdeal.main_arg2) = m ((c.tc : Thread Cert.WaQIdeal.nD Cert.WaQIdeal.τ).loc Cert.WaQIdeal.main_arg2)) →
    ∃ (v0 : (c : Dev Cert.WaQIdeal.nD) → Buf (Elt Ideal) ((c.tc : Thread Cert.WaQIdeal.nD Cert.WaQIdeal.τ).loc Cert.WaQIdeal.main_v36)),
      θ_run (Cert.WaQIdeal.defs (F := Ideal)) (onTc (τ := Cert.WaQIdeal.τ) (Cert.WaQIdeal.main (F := Ideal))) ⟨m, fun _ => 0, g⟩ (fun r => ∀ c : Dev Cert.WaQIdeal.nD,
          r.2.mem ((c.tc : Thread Cert.WaQIdeal.nD Cert.WaQIdeal.τ).loc Cert.WaQIdeal.main_v36) = v0 c
          ∧ r.2.mem ((c.tc : Thread Cert.WaQIdeal.nD Cert.WaQIdeal.τ).loc Cert.WaQIdeal.main_arg0) = m ((c.tc : Thread Cert.WaQIdeal.nD Cert.WaQIdeal.τ).loc Cert.WaQIdeal.main_arg0)
          ∧ r.2.mem ((c.tc : Thread Cert.WaQIdeal.nD Cert.WaQIdeal.τ).loc Cert.WaQIdeal.main_arg1) = m ((c.tc : Thread Cert.WaQIdeal.nD Cert.WaQIdeal.τ).loc Cert.WaQIdeal.main_arg1)
          ∧ r.2.mem ((c.tc : Thread Cert.WaQIdeal.nD Cert.WaQIdeal.τ).loc Cert.WaQIdeal.main_arg2) = m ((c.tc : Thread Cert.WaQIdeal.nD Cert.WaQIdeal.τ).loc Cert.WaQIdeal.main_arg2))
      ∧ θ_run (Cert.WaQRefIdeal.defs (F := Ideal)) (onTc (τ := Cert.WaQRefIdeal.τ) (Cert.WaQRefIdeal.main (F := Ideal))) ⟨m', fun _ => 0, g'⟩ (fun r => ∀ c : Dev Cert.WaQRefIdeal.nD,
          r.2.mem ((c.tc : Thread Cert.WaQRefIdeal.nD Cert.WaQRefIdeal.τ).loc Cert.WaQRefIdeal.main_v67) = v0 c
          ∧ r.2.mem ((c.tc : Thread Cert.WaQRefIdeal.nD Cert.WaQRefIdeal.τ).loc Cert.WaQRefIdeal.main_arg0) = m' ((c.tc : Thread Cert.WaQRefIdeal.nD Cert.WaQRefIdeal.τ).loc Cert.WaQRefIdeal.main_arg0)
          ∧ r.2.mem ((c.tc : Thread Cert.WaQRefIdeal.nD Cert.WaQRefIdeal.τ).loc Cert.WaQRefIdeal.main_arg1) = m' ((c.tc : Thread Cert.WaQRefIdeal.nD Cert.WaQRefIdeal.τ).loc Cert.WaQRefIdeal.main_arg1)
          ∧ r.2.mem ((c.tc : Thread Cert.WaQRefIdeal.nD Cert.WaQRefIdeal.τ).loc Cert.WaQRefIdeal.main_arg2) = m' ((c.tc : Thread Cert.WaQRefIdeal.nD Cert.WaQRefIdeal.τ).loc Cert.WaQRefIdeal.main_arg2))

def preserves_WaK_WaKIdeal : Prop :=
  True

def algebraic_WaKIdeal_WaKRefIdeal [hWaKIdeal : Cert.WaKIdeal.Facts] [hWaKRefIdeal : Cert.WaKRefIdeal.Facts] : Prop :=
  ∀ (m : (ℓ : Loc Cert.WaKIdeal.nD Cert.WaKIdeal.τ Cert.WaKIdeal.sig) → Buf (Elt Ideal) ℓ) (g : Dev Cert.WaKIdeal.nD → PrngReg)
    (m' : (ℓ : Loc Cert.WaKRefIdeal.nD Cert.WaKRefIdeal.τ Cert.WaKRefIdeal.sig) → Buf (Elt Ideal) ℓ) (g' : Dev Cert.WaKRefIdeal.nD → PrngReg), Pre_WaKIdeal m →
    (∀ c : Dev Cert.WaKIdeal.nD,
      m' ((c.tc : Thread Cert.WaKRefIdeal.nD Cert.WaKRefIdeal.τ).loc Cert.WaKRefIdeal.main_arg0) = m ((c.tc : Thread Cert.WaKIdeal.nD Cert.WaKIdeal.τ).loc Cert.WaKIdeal.main_arg0)
      ∧ m' ((c.tc : Thread Cert.WaKRefIdeal.nD Cert.WaKRefIdeal.τ).loc Cert.WaKRefIdeal.main_arg1) = m ((c.tc : Thread Cert.WaKIdeal.nD Cert.WaKIdeal.τ).loc Cert.WaKIdeal.main_arg1)
      ∧ m' ((c.tc : Thread Cert.WaKRefIdeal.nD Cert.WaKRefIdeal.τ).loc Cert.WaKRefIdeal.main_arg2) = m ((c.tc : Thread Cert.WaKIdeal.nD Cert.WaKIdeal.τ).loc Cert.WaKIdeal.main_arg2)) →
    ∃ (v0 : (c : Dev Cert.WaKIdeal.nD) → Buf (Elt Ideal) ((c.tc : Thread Cert.WaKIdeal.nD Cert.WaKIdeal.τ).loc Cert.WaKIdeal.main_v36)),
      θ_run (Cert.WaKIdeal.defs (F := Ideal)) (onTc (τ := Cert.WaKIdeal.τ) (Cert.WaKIdeal.main (F := Ideal))) ⟨m, fun _ => 0, g⟩ (fun r => ∀ c : Dev Cert.WaKIdeal.nD,
          r.2.mem ((c.tc : Thread Cert.WaKIdeal.nD Cert.WaKIdeal.τ).loc Cert.WaKIdeal.main_v36) = v0 c
          ∧ r.2.mem ((c.tc : Thread Cert.WaKIdeal.nD Cert.WaKIdeal.τ).loc Cert.WaKIdeal.main_arg0) = m ((c.tc : Thread Cert.WaKIdeal.nD Cert.WaKIdeal.τ).loc Cert.WaKIdeal.main_arg0)
          ∧ r.2.mem ((c.tc : Thread Cert.WaKIdeal.nD Cert.WaKIdeal.τ).loc Cert.WaKIdeal.main_arg1) = m ((c.tc : Thread Cert.WaKIdeal.nD Cert.WaKIdeal.τ).loc Cert.WaKIdeal.main_arg1)
          ∧ r.2.mem ((c.tc : Thread Cert.WaKIdeal.nD Cert.WaKIdeal.τ).loc Cert.WaKIdeal.main_arg2) = m ((c.tc : Thread Cert.WaKIdeal.nD Cert.WaKIdeal.τ).loc Cert.WaKIdeal.main_arg2))
      ∧ θ_run (Cert.WaKRefIdeal.defs (F := Ideal)) (onTc (τ := Cert.WaKRefIdeal.τ) (Cert.WaKRefIdeal.main (F := Ideal))) ⟨m', fun _ => 0, g'⟩ (fun r => ∀ c : Dev Cert.WaKRefIdeal.nD,
          r.2.mem ((c.tc : Thread Cert.WaKRefIdeal.nD Cert.WaKRefIdeal.τ).loc Cert.WaKRefIdeal.main_v67) = v0 c
          ∧ r.2.mem ((c.tc : Thread Cert.WaKRefIdeal.nD Cert.WaKRefIdeal.τ).loc Cert.WaKRefIdeal.main_arg0) = m' ((c.tc : Thread Cert.WaKRefIdeal.nD Cert.WaKRefIdeal.τ).loc Cert.WaKRefIdeal.main_arg0)
          ∧ r.2.mem ((c.tc : Thread Cert.WaKRefIdeal.nD Cert.WaKRefIdeal.τ).loc Cert.WaKRefIdeal.main_arg1) = m' ((c.tc : Thread Cert.WaKRefIdeal.nD Cert.WaKRefIdeal.τ).loc Cert.WaKRefIdeal.main_arg1)
          ∧ r.2.mem ((c.tc : Thread Cert.WaKRefIdeal.nD Cert.WaKRefIdeal.τ).loc Cert.WaKRefIdeal.main_arg2) = m' ((c.tc : Thread Cert.WaKRefIdeal.nD Cert.WaKRefIdeal.τ).loc Cert.WaKRefIdeal.main_arg2))

def preserves_CtxIn_CtxInIdeal : Prop :=
  True

def algebraic_CtxInIdeal_CtxInRefIdeal [hCtxInIdeal : Cert.CtxInIdeal.Facts] [hCtxInRefIdeal : Cert.CtxInRefIdeal.Facts] : Prop :=
  ∀ (m : (ℓ : Loc Cert.CtxInIdeal.nD Cert.CtxInIdeal.τ Cert.CtxInIdeal.sig) → Buf (Elt Ideal) ℓ) (g : Dev Cert.CtxInIdeal.nD → PrngReg)
    (m' : (ℓ : Loc Cert.CtxInRefIdeal.nD Cert.CtxInRefIdeal.τ Cert.CtxInRefIdeal.sig) → Buf (Elt Ideal) ℓ) (g' : Dev Cert.CtxInRefIdeal.nD → PrngReg), Pre_CtxInIdeal m →
    (∀ c : Dev Cert.CtxInIdeal.nD,
      m' ((c.tc : Thread Cert.CtxInRefIdeal.nD Cert.CtxInRefIdeal.τ).loc Cert.CtxInRefIdeal.main_arg0) = m ((c.tc : Thread Cert.CtxInIdeal.nD Cert.CtxInIdeal.τ).loc Cert.CtxInIdeal.main_arg0)
      ∧ m' ((c.tc : Thread Cert.CtxInRefIdeal.nD Cert.CtxInRefIdeal.τ).loc Cert.CtxInRefIdeal.main_arg1) = m ((c.tc : Thread Cert.CtxInIdeal.nD Cert.CtxInIdeal.τ).loc Cert.CtxInIdeal.main_arg1)) →
    ∃ (v0 : (c : Dev Cert.CtxInIdeal.nD) → Buf (Elt Ideal) ((c.tc : Thread Cert.CtxInIdeal.nD Cert.CtxInIdeal.τ).loc Cert.CtxInIdeal.main_v0)),
      θ_run (Cert.CtxInIdeal.defs (F := Ideal)) (onTc (τ := Cert.CtxInIdeal.τ) (Cert.CtxInIdeal.main (F := Ideal))) ⟨m, fun _ => 0, g⟩ (fun r => ∀ c : Dev Cert.CtxInIdeal.nD,
          r.2.mem ((c.tc : Thread Cert.CtxInIdeal.nD Cert.CtxInIdeal.τ).loc Cert.CtxInIdeal.main_v0) = v0 c
          ∧ r.2.mem ((c.tc : Thread Cert.CtxInIdeal.nD Cert.CtxInIdeal.τ).loc Cert.CtxInIdeal.main_arg0) = m ((c.tc : Thread Cert.CtxInIdeal.nD Cert.CtxInIdeal.τ).loc Cert.CtxInIdeal.main_arg0)
          ∧ r.2.mem ((c.tc : Thread Cert.CtxInIdeal.nD Cert.CtxInIdeal.τ).loc Cert.CtxInIdeal.main_arg1) = m ((c.tc : Thread Cert.CtxInIdeal.nD Cert.CtxInIdeal.τ).loc Cert.CtxInIdeal.main_arg1))
      ∧ θ_run (Cert.CtxInRefIdeal.defs (F := Ideal)) (onTc (τ := Cert.CtxInRefIdeal.τ) (Cert.CtxInRefIdeal.main (F := Ideal))) ⟨m', fun _ => 0, g'⟩ (fun r => ∀ c : Dev Cert.CtxInRefIdeal.nD,
          r.2.mem ((c.tc : Thread Cert.CtxInRefIdeal.nD Cert.CtxInRefIdeal.τ).loc Cert.CtxInRefIdeal.main_v0) = v0 c
          ∧ r.2.mem ((c.tc : Thread Cert.CtxInRefIdeal.nD Cert.CtxInRefIdeal.τ).loc Cert.CtxInRefIdeal.main_arg0) = m' ((c.tc : Thread Cert.CtxInRefIdeal.nD Cert.CtxInRefIdeal.τ).loc Cert.CtxInRefIdeal.main_arg0)
          ∧ r.2.mem ((c.tc : Thread Cert.CtxInRefIdeal.nD Cert.CtxInRefIdeal.τ).loc Cert.CtxInRefIdeal.main_arg1) = m' ((c.tc : Thread Cert.CtxInRefIdeal.nD Cert.CtxInRefIdeal.τ).loc Cert.CtxInRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v21) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_CtxBranch_CtxBranchIdeal : Prop :=
  True

def algebraic_CtxBranchIdeal_CtxBranchRefIdeal [hCtxBranchIdeal : Cert.CtxBranchIdeal.Facts] [hCtxBranchRefIdeal : Cert.CtxBranchRefIdeal.Facts] : Prop :=
  ∀ (m : (ℓ : Loc Cert.CtxBranchIdeal.nD Cert.CtxBranchIdeal.τ Cert.CtxBranchIdeal.sig) → Buf (Elt Ideal) ℓ) (g : Dev Cert.CtxBranchIdeal.nD → PrngReg)
    (m' : (ℓ : Loc Cert.CtxBranchRefIdeal.nD Cert.CtxBranchRefIdeal.τ Cert.CtxBranchRefIdeal.sig) → Buf (Elt Ideal) ℓ) (g' : Dev Cert.CtxBranchRefIdeal.nD → PrngReg), Pre_CtxBranchIdeal m →
    (∀ c : Dev Cert.CtxBranchIdeal.nD,
      m' ((c.tc : Thread Cert.CtxBranchRefIdeal.nD Cert.CtxBranchRefIdeal.τ).loc Cert.CtxBranchRefIdeal.main_arg0) = m ((c.tc : Thread Cert.CtxBranchIdeal.nD Cert.CtxBranchIdeal.τ).loc Cert.CtxBranchIdeal.main_arg0)
      ∧ m' ((c.tc : Thread Cert.CtxBranchRefIdeal.nD Cert.CtxBranchRefIdeal.τ).loc Cert.CtxBranchRefIdeal.main_arg1) = m ((c.tc : Thread Cert.CtxBranchIdeal.nD Cert.CtxBranchIdeal.τ).loc Cert.CtxBranchIdeal.main_arg1)) →
    ∃ (v0 : (c : Dev Cert.CtxBranchIdeal.nD) → Buf (Elt Ideal) ((c.tc : Thread Cert.CtxBranchIdeal.nD Cert.CtxBranchIdeal.τ).loc Cert.CtxBranchIdeal.main_v0)),
      θ_run (Cert.CtxBranchIdeal.defs (F := Ideal)) (onTc (τ := Cert.CtxBranchIdeal.τ) (Cert.CtxBranchIdeal.main (F := Ideal))) ⟨m, fun _ => 0, g⟩ (fun r => ∀ c : Dev Cert.CtxBranchIdeal.nD,
          r.2.mem ((c.tc : Thread Cert.CtxBranchIdeal.nD Cert.CtxBranchIdeal.τ).loc Cert.CtxBranchIdeal.main_v0) = v0 c
          ∧ r.2.mem ((c.tc : Thread Cert.CtxBranchIdeal.nD Cert.CtxBranchIdeal.τ).loc Cert.CtxBranchIdeal.main_arg0) = m ((c.tc : Thread Cert.CtxBranchIdeal.nD Cert.CtxBranchIdeal.τ).loc Cert.CtxBranchIdeal.main_arg0)
          ∧ r.2.mem ((c.tc : Thread Cert.CtxBranchIdeal.nD Cert.CtxBranchIdeal.τ).loc Cert.CtxBranchIdeal.main_arg1) = m ((c.tc : Thread Cert.CtxBranchIdeal.nD Cert.CtxBranchIdeal.τ).loc Cert.CtxBranchIdeal.main_arg1))
      ∧ θ_run (Cert.CtxBranchRefIdeal.defs (F := Ideal)) (onTc (τ := Cert.CtxBranchRefIdeal.τ) (Cert.CtxBranchRefIdeal.main (F := Ideal))) ⟨m', fun _ => 0, g'⟩ (fun r => ∀ c : Dev Cert.CtxBranchRefIdeal.nD,
          r.2.mem ((c.tc : Thread Cert.CtxBranchRefIdeal.nD Cert.CtxBranchRefIdeal.τ).loc Cert.CtxBranchRefIdeal.main_v0) = v0 c
          ∧ r.2.mem ((c.tc : Thread Cert.CtxBranchRefIdeal.nD Cert.CtxBranchRefIdeal.τ).loc Cert.CtxBranchRefIdeal.main_arg0) = m' ((c.tc : Thread Cert.CtxBranchRefIdeal.nD Cert.CtxBranchRefIdeal.τ).loc Cert.CtxBranchRefIdeal.main_arg0)
          ∧ r.2.mem ((c.tc : Thread Cert.CtxBranchRefIdeal.nD Cert.CtxBranchRefIdeal.τ).loc Cert.CtxBranchRefIdeal.main_arg1) = m' ((c.tc : Thread Cert.CtxBranchRefIdeal.nD Cert.CtxBranchRefIdeal.τ).loc Cert.CtxBranchRefIdeal.main_arg1))

def preserves_CtxOut_CtxOutIdeal : Prop :=
  True

def algebraic_CtxOutIdeal_CtxOutRefIdeal [hCtxOutIdeal : Cert.CtxOutIdeal.Facts] [hCtxOutRefIdeal : Cert.CtxOutRefIdeal.Facts] : Prop :=
  ∀ (m : (ℓ : Loc Cert.CtxOutIdeal.nD Cert.CtxOutIdeal.τ Cert.CtxOutIdeal.sig) → Buf (Elt Ideal) ℓ) (g : Dev Cert.CtxOutIdeal.nD → PrngReg)
    (m' : (ℓ : Loc Cert.CtxOutRefIdeal.nD Cert.CtxOutRefIdeal.τ Cert.CtxOutRefIdeal.sig) → Buf (Elt Ideal) ℓ) (g' : Dev Cert.CtxOutRefIdeal.nD → PrngReg), Pre_CtxOutIdeal m →
    (∀ c : Dev Cert.CtxOutIdeal.nD,
      m' ((c.tc : Thread Cert.CtxOutRefIdeal.nD Cert.CtxOutRefIdeal.τ).loc Cert.CtxOutRefIdeal.main_arg0) = m ((c.tc : Thread Cert.CtxOutIdeal.nD Cert.CtxOutIdeal.τ).loc Cert.CtxOutIdeal.main_arg0)
      ∧ m' ((c.tc : Thread Cert.CtxOutRefIdeal.nD Cert.CtxOutRefIdeal.τ).loc Cert.CtxOutRefIdeal.main_arg1) = m ((c.tc : Thread Cert.CtxOutIdeal.nD Cert.CtxOutIdeal.τ).loc Cert.CtxOutIdeal.main_arg1)) →
    ∃ (v0 : (c : Dev Cert.CtxOutIdeal.nD) → Buf (Elt Ideal) ((c.tc : Thread Cert.CtxOutIdeal.nD Cert.CtxOutIdeal.τ).loc Cert.CtxOutIdeal.main_v0)),
      θ_run (Cert.CtxOutIdeal.defs (F := Ideal)) (onTc (τ := Cert.CtxOutIdeal.τ) (Cert.CtxOutIdeal.main (F := Ideal))) ⟨m, fun _ => 0, g⟩ (fun r => ∀ c : Dev Cert.CtxOutIdeal.nD,
          r.2.mem ((c.tc : Thread Cert.CtxOutIdeal.nD Cert.CtxOutIdeal.τ).loc Cert.CtxOutIdeal.main_v0) = v0 c
          ∧ r.2.mem ((c.tc : Thread Cert.CtxOutIdeal.nD Cert.CtxOutIdeal.τ).loc Cert.CtxOutIdeal.main_arg0) = m ((c.tc : Thread Cert.CtxOutIdeal.nD Cert.CtxOutIdeal.τ).loc Cert.CtxOutIdeal.main_arg0)
          ∧ r.2.mem ((c.tc : Thread Cert.CtxOutIdeal.nD Cert.CtxOutIdeal.τ).loc Cert.CtxOutIdeal.main_arg1) = m ((c.tc : Thread Cert.CtxOutIdeal.nD Cert.CtxOutIdeal.τ).loc Cert.CtxOutIdeal.main_arg1))
      ∧ θ_run (Cert.CtxOutRefIdeal.defs (F := Ideal)) (onTc (τ := Cert.CtxOutRefIdeal.τ) (Cert.CtxOutRefIdeal.main (F := Ideal))) ⟨m', fun _ => 0, g'⟩ (fun r => ∀ c : Dev Cert.CtxOutRefIdeal.nD,
          r.2.mem ((c.tc : Thread Cert.CtxOutRefIdeal.nD Cert.CtxOutRefIdeal.τ).loc Cert.CtxOutRefIdeal.main_v0) = v0 c
          ∧ r.2.mem ((c.tc : Thread Cert.CtxOutRefIdeal.nD Cert.CtxOutRefIdeal.τ).loc Cert.CtxOutRefIdeal.main_arg0) = m' ((c.tc : Thread Cert.CtxOutRefIdeal.nD Cert.CtxOutRefIdeal.τ).loc Cert.CtxOutRefIdeal.main_arg0)
          ∧ r.2.mem ((c.tc : Thread Cert.CtxOutRefIdeal.nD Cert.CtxOutRefIdeal.τ).loc Cert.CtxOutRefIdeal.main_arg1) = m' ((c.tc : Thread Cert.CtxOutRefIdeal.nD Cert.CtxOutRefIdeal.τ).loc Cert.CtxOutRefIdeal.main_arg1))

def preserves_CtxExpert_CtxExpertIdeal : Prop :=
  True

def algebraic_CtxExpertIdeal_CtxExpertRefIdeal [hCtxExpertIdeal : Cert.CtxExpertIdeal.Facts] [hCtxExpertRefIdeal : Cert.CtxExpertRefIdeal.Facts] : Prop :=
  ∀ (m : (ℓ : Loc Cert.CtxExpertIdeal.nD Cert.CtxExpertIdeal.τ Cert.CtxExpertIdeal.sig) → Buf (Elt Ideal) ℓ) (g : Dev Cert.CtxExpertIdeal.nD → PrngReg)
    (m' : (ℓ : Loc Cert.CtxExpertRefIdeal.nD Cert.CtxExpertRefIdeal.τ Cert.CtxExpertRefIdeal.sig) → Buf (Elt Ideal) ℓ) (g' : Dev Cert.CtxExpertRefIdeal.nD → PrngReg), Pre_CtxExpertIdeal m →
    (∀ c : Dev Cert.CtxExpertIdeal.nD,
      m' ((c.tc : Thread Cert.CtxExpertRefIdeal.nD Cert.CtxExpertRefIdeal.τ).loc Cert.CtxExpertRefIdeal.main_arg0) = m ((c.tc : Thread Cert.CtxExpertIdeal.nD Cert.CtxExpertIdeal.τ).loc Cert.CtxExpertIdeal.main_arg0)
      ∧ m' ((c.tc : Thread Cert.CtxExpertRefIdeal.nD Cert.CtxExpertRefIdeal.τ).loc Cert.CtxExpertRefIdeal.main_arg1) = m ((c.tc : Thread Cert.CtxExpertIdeal.nD Cert.CtxExpertIdeal.τ).loc Cert.CtxExpertIdeal.main_arg1)) →
    ∃ (v0 : (c : Dev Cert.CtxExpertIdeal.nD) → Buf (Elt Ideal) ((c.tc : Thread Cert.CtxExpertIdeal.nD Cert.CtxExpertIdeal.τ).loc Cert.CtxExpertIdeal.main_v0)),
      θ_run (Cert.CtxExpertIdeal.defs (F := Ideal)) (onTc (τ := Cert.CtxExpertIdeal.τ) (Cert.CtxExpertIdeal.main (F := Ideal))) ⟨m, fun _ => 0, g⟩ (fun r => ∀ c : Dev Cert.CtxExpertIdeal.nD,
          r.2.mem ((c.tc : Thread Cert.CtxExpertIdeal.nD Cert.CtxExpertIdeal.τ).loc Cert.CtxExpertIdeal.main_v0) = v0 c
          ∧ r.2.mem ((c.tc : Thread Cert.CtxExpertIdeal.nD Cert.CtxExpertIdeal.τ).loc Cert.CtxExpertIdeal.main_arg0) = m ((c.tc : Thread Cert.CtxExpertIdeal.nD Cert.CtxExpertIdeal.τ).loc Cert.CtxExpertIdeal.main_arg0)
          ∧ r.2.mem ((c.tc : Thread Cert.CtxExpertIdeal.nD Cert.CtxExpertIdeal.τ).loc Cert.CtxExpertIdeal.main_arg1) = m ((c.tc : Thread Cert.CtxExpertIdeal.nD Cert.CtxExpertIdeal.τ).loc Cert.CtxExpertIdeal.main_arg1))
      ∧ θ_run (Cert.CtxExpertRefIdeal.defs (F := Ideal)) (onTc (τ := Cert.CtxExpertRefIdeal.τ) (Cert.CtxExpertRefIdeal.main (F := Ideal))) ⟨m', fun _ => 0, g'⟩ (fun r => ∀ c : Dev Cert.CtxExpertRefIdeal.nD,
          r.2.mem ((c.tc : Thread Cert.CtxExpertRefIdeal.nD Cert.CtxExpertRefIdeal.τ).loc Cert.CtxExpertRefIdeal.main_v0) = v0 c
          ∧ r.2.mem ((c.tc : Thread Cert.CtxExpertRefIdeal.nD Cert.CtxExpertRefIdeal.τ).loc Cert.CtxExpertRefIdeal.main_arg0) = m' ((c.tc : Thread Cert.CtxExpertRefIdeal.nD Cert.CtxExpertRefIdeal.τ).loc Cert.CtxExpertRefIdeal.main_arg0)
          ∧ r.2.mem ((c.tc : Thread Cert.CtxExpertRefIdeal.nD Cert.CtxExpertRefIdeal.τ).loc Cert.CtxExpertRefIdeal.main_arg1) = m' ((c.tc : Thread Cert.CtxExpertRefIdeal.nD Cert.CtxExpertRefIdeal.τ).loc Cert.CtxExpertRefIdeal.main_arg1))

def preserves_CtxDown_CtxDownIdeal : Prop :=
  True

def algebraic_CtxDownIdeal_CtxDownRefIdeal [hCtxDownIdeal : Cert.CtxDownIdeal.Facts] [hCtxDownRefIdeal : Cert.CtxDownRefIdeal.Facts] : Prop :=
  ∀ (m : (ℓ : Loc Cert.CtxDownIdeal.nD Cert.CtxDownIdeal.τ Cert.CtxDownIdeal.sig) → Buf (Elt Ideal) ℓ) (g : Dev Cert.CtxDownIdeal.nD → PrngReg)
    (m' : (ℓ : Loc Cert.CtxDownRefIdeal.nD Cert.CtxDownRefIdeal.τ Cert.CtxDownRefIdeal.sig) → Buf (Elt Ideal) ℓ) (g' : Dev Cert.CtxDownRefIdeal.nD → PrngReg), Pre_CtxDownIdeal m →
    (∀ c : Dev Cert.CtxDownIdeal.nD,
      m' ((c.tc : Thread Cert.CtxDownRefIdeal.nD Cert.CtxDownRefIdeal.τ).loc Cert.CtxDownRefIdeal.main_arg0) = m ((c.tc : Thread Cert.CtxDownIdeal.nD Cert.CtxDownIdeal.τ).loc Cert.CtxDownIdeal.main_arg0)
      ∧ m' ((c.tc : Thread Cert.CtxDownRefIdeal.nD Cert.CtxDownRefIdeal.τ).loc Cert.CtxDownRefIdeal.main_arg1) = m ((c.tc : Thread Cert.CtxDownIdeal.nD Cert.CtxDownIdeal.τ).loc Cert.CtxDownIdeal.main_arg1)) →
    ∃ (v0 : (c : Dev Cert.CtxDownIdeal.nD) → Buf (Elt Ideal) ((c.tc : Thread Cert.CtxDownIdeal.nD Cert.CtxDownIdeal.τ).loc Cert.CtxDownIdeal.main_v0)),
      θ_run (Cert.CtxDownIdeal.defs (F := Ideal)) (onTc (τ := Cert.CtxDownIdeal.τ) (Cert.CtxDownIdeal.main (F := Ideal))) ⟨m, fun _ => 0, g⟩ (fun r => ∀ c : Dev Cert.CtxDownIdeal.nD,
          r.2.mem ((c.tc : Thread Cert.CtxDownIdeal.nD Cert.CtxDownIdeal.τ).loc Cert.CtxDownIdeal.main_v0) = v0 c
          ∧ r.2.mem ((c.tc : Thread Cert.CtxDownIdeal.nD Cert.CtxDownIdeal.τ).loc Cert.CtxDownIdeal.main_arg0) = m ((c.tc : Thread Cert.CtxDownIdeal.nD Cert.CtxDownIdeal.τ).loc Cert.CtxDownIdeal.main_arg0)
          ∧ r.2.mem ((c.tc : Thread Cert.CtxDownIdeal.nD Cert.CtxDownIdeal.τ).loc Cert.CtxDownIdeal.main_arg1) = m ((c.tc : Thread Cert.CtxDownIdeal.nD Cert.CtxDownIdeal.τ).loc Cert.CtxDownIdeal.main_arg1))
      ∧ θ_run (Cert.CtxDownRefIdeal.defs (F := Ideal)) (onTc (τ := Cert.CtxDownRefIdeal.τ) (Cert.CtxDownRefIdeal.main (F := Ideal))) ⟨m', fun _ => 0, g'⟩ (fun r => ∀ c : Dev Cert.CtxDownRefIdeal.nD,
          r.2.mem ((c.tc : Thread Cert.CtxDownRefIdeal.nD Cert.CtxDownRefIdeal.τ).loc Cert.CtxDownRefIdeal.main_v0) = v0 c
          ∧ r.2.mem ((c.tc : Thread Cert.CtxDownRefIdeal.nD Cert.CtxDownRefIdeal.τ).loc Cert.CtxDownRefIdeal.main_arg0) = m' ((c.tc : Thread Cert.CtxDownRefIdeal.nD Cert.CtxDownRefIdeal.τ).loc Cert.CtxDownRefIdeal.main_arg0)
          ∧ r.2.mem ((c.tc : Thread Cert.CtxDownRefIdeal.nD Cert.CtxDownRefIdeal.τ).loc Cert.CtxDownRefIdeal.main_arg1) = m' ((c.tc : Thread Cert.CtxDownRefIdeal.nD Cert.CtxDownRefIdeal.τ).loc Cert.CtxDownRefIdeal.main_arg1))

def preserves_CtxWaKV_CtxWaKVIdeal : Prop :=
  True

def algebraic_CtxWaKVIdeal_CtxWaKVRefIdeal [hCtxWaKVIdeal : Cert.CtxWaKVIdeal.Facts] [hCtxWaKVRefIdeal : Cert.CtxWaKVRefIdeal.Facts] : Prop :=
  ∀ (m : (ℓ : Loc Cert.CtxWaKVIdeal.nD Cert.CtxWaKVIdeal.τ Cert.CtxWaKVIdeal.sig) → Buf (Elt Ideal) ℓ) (g : Dev Cert.CtxWaKVIdeal.nD → PrngReg)
    (m' : (ℓ : Loc Cert.CtxWaKVRefIdeal.nD Cert.CtxWaKVRefIdeal.τ Cert.CtxWaKVRefIdeal.sig) → Buf (Elt Ideal) ℓ) (g' : Dev Cert.CtxWaKVRefIdeal.nD → PrngReg), Pre_CtxWaKVIdeal m →
    (∀ c : Dev Cert.CtxWaKVIdeal.nD,
      m' ((c.tc : Thread Cert.CtxWaKVRefIdeal.nD Cert.CtxWaKVRefIdeal.τ).loc Cert.CtxWaKVRefIdeal.main_arg0) = m ((c.tc : Thread Cert.CtxWaKVIdeal.nD Cert.CtxWaKVIdeal.τ).loc Cert.CtxWaKVIdeal.main_arg0)
      ∧ m' ((c.tc : Thread Cert.CtxWaKVRefIdeal.nD Cert.CtxWaKVRefIdeal.τ).loc Cert.CtxWaKVRefIdeal.main_arg1) = m ((c.tc : Thread Cert.CtxWaKVIdeal.nD Cert.CtxWaKVIdeal.τ).loc Cert.CtxWaKVIdeal.main_arg1)) →
    ∃ (v0 : (c : Dev Cert.CtxWaKVIdeal.nD) → Buf (Elt Ideal) ((c.tc : Thread Cert.CtxWaKVIdeal.nD Cert.CtxWaKVIdeal.τ).loc Cert.CtxWaKVIdeal.main_v1)),
      θ_run (Cert.CtxWaKVIdeal.defs (F := Ideal)) (onTc (τ := Cert.CtxWaKVIdeal.τ) (Cert.CtxWaKVIdeal.main (F := Ideal))) ⟨m, fun _ => 0, g⟩ (fun r => ∀ c : Dev Cert.CtxWaKVIdeal.nD,
          r.2.mem ((c.tc : Thread Cert.CtxWaKVIdeal.nD Cert.CtxWaKVIdeal.τ).loc Cert.CtxWaKVIdeal.main_v1) = v0 c
          ∧ r.2.mem ((c.tc : Thread Cert.CtxWaKVIdeal.nD Cert.CtxWaKVIdeal.τ).loc Cert.CtxWaKVIdeal.main_arg0) = m ((c.tc : Thread Cert.CtxWaKVIdeal.nD Cert.CtxWaKVIdeal.τ).loc Cert.CtxWaKVIdeal.main_arg0)
          ∧ r.2.mem ((c.tc : Thread Cert.CtxWaKVIdeal.nD Cert.CtxWaKVIdeal.τ).loc Cert.CtxWaKVIdeal.main_arg1) = m ((c.tc : Thread Cert.CtxWaKVIdeal.nD Cert.CtxWaKVIdeal.τ).loc Cert.CtxWaKVIdeal.main_arg1))
      ∧ θ_run (Cert.CtxWaKVRefIdeal.defs (F := Ideal)) (onTc (τ := Cert.CtxWaKVRefIdeal.τ) (Cert.CtxWaKVRefIdeal.main (F := Ideal))) ⟨m', fun _ => 0, g'⟩ (fun r => ∀ c : Dev Cert.CtxWaKVRefIdeal.nD,
          r.2.mem ((c.tc : Thread Cert.CtxWaKVRefIdeal.nD Cert.CtxWaKVRefIdeal.τ).loc Cert.CtxWaKVRefIdeal.main_v1) = v0 c
          ∧ r.2.mem ((c.tc : Thread Cert.CtxWaKVRefIdeal.nD Cert.CtxWaKVRefIdeal.τ).loc Cert.CtxWaKVRefIdeal.main_arg0) = m' ((c.tc : Thread Cert.CtxWaKVRefIdeal.nD Cert.CtxWaKVRefIdeal.τ).loc Cert.CtxWaKVRefIdeal.main_arg0)
          ∧ r.2.mem ((c.tc : Thread Cert.CtxWaKVRefIdeal.nD Cert.CtxWaKVRefIdeal.τ).loc Cert.CtxWaKVRefIdeal.main_arg1) = m' ((c.tc : Thread Cert.CtxWaKVRefIdeal.nD Cert.CtxWaKVRefIdeal.τ).loc Cert.CtxWaKVRefIdeal.main_arg1))

def preserves_CtxNaKV_CtxNaKVIdeal : Prop :=
  True

def algebraic_CtxNaKVIdeal_CtxNaKVRefIdeal [hCtxNaKVIdeal : Cert.CtxNaKVIdeal.Facts] [hCtxNaKVRefIdeal : Cert.CtxNaKVRefIdeal.Facts] : Prop :=
  ∀ (m : (ℓ : Loc Cert.CtxNaKVIdeal.nD Cert.CtxNaKVIdeal.τ Cert.CtxNaKVIdeal.sig) → Buf (Elt Ideal) ℓ) (g : Dev Cert.CtxNaKVIdeal.nD → PrngReg)
    (m' : (ℓ : Loc Cert.CtxNaKVRefIdeal.nD Cert.CtxNaKVRefIdeal.τ Cert.CtxNaKVRefIdeal.sig) → Buf (Elt Ideal) ℓ) (g' : Dev Cert.CtxNaKVRefIdeal.nD → PrngReg), Pre_CtxNaKVIdeal m →
    (∀ c : Dev Cert.CtxNaKVIdeal.nD,
      m' ((c.tc : Thread Cert.CtxNaKVRefIdeal.nD Cert.CtxNaKVRefIdeal.τ).loc Cert.CtxNaKVRefIdeal.main_arg0) = m ((c.tc : Thread Cert.CtxNaKVIdeal.nD Cert.CtxNaKVIdeal.τ).loc Cert.CtxNaKVIdeal.main_arg0)
      ∧ m' ((c.tc : Thread Cert.CtxNaKVRefIdeal.nD Cert.CtxNaKVRefIdeal.τ).loc Cert.CtxNaKVRefIdeal.main_arg1) = m ((c.tc : Thread Cert.CtxNaKVIdeal.nD Cert.CtxNaKVIdeal.τ).loc Cert.CtxNaKVIdeal.main_arg1)) →
    ∃ (v0 : (c : Dev Cert.CtxNaKVIdeal.nD) → Buf (Elt Ideal) ((c.tc : Thread Cert.CtxNaKVIdeal.nD Cert.CtxNaKVIdeal.τ).loc Cert.CtxNaKVIdeal.main_v1)),
      θ_run (Cert.CtxNaKVIdeal.defs (F := Ideal)) (onTc (τ := Cert.CtxNaKVIdeal.τ) (Cert.CtxNaKVIdeal.main (F := Ideal))) ⟨m, fun _ => 0, g⟩ (fun r => ∀ c : Dev Cert.CtxNaKVIdeal.nD,
          r.2.mem ((c.tc : Thread Cert.CtxNaKVIdeal.nD Cert.CtxNaKVIdeal.τ).loc Cert.CtxNaKVIdeal.main_v1) = v0 c
          ∧ r.2.mem ((c.tc : Thread Cert.CtxNaKVIdeal.nD Cert.CtxNaKVIdeal.τ).loc Cert.CtxNaKVIdeal.main_arg0) = m ((c.tc : Thread Cert.CtxNaKVIdeal.nD Cert.CtxNaKVIdeal.τ).loc Cert.CtxNaKVIdeal.main_arg0)
          ∧ r.2.mem ((c.tc : Thread Cert.CtxNaKVIdeal.nD Cert.CtxNaKVIdeal.τ).loc Cert.CtxNaKVIdeal.main_arg1) = m ((c.tc : Thread Cert.CtxNaKVIdeal.nD Cert.CtxNaKVIdeal.τ).loc Cert.CtxNaKVIdeal.main_arg1))
      ∧ θ_run (Cert.CtxNaKVRefIdeal.defs (F := Ideal)) (onTc (τ := Cert.CtxNaKVRefIdeal.τ) (Cert.CtxNaKVRefIdeal.main (F := Ideal))) ⟨m', fun _ => 0, g'⟩ (fun r => ∀ c : Dev Cert.CtxNaKVRefIdeal.nD,
          r.2.mem ((c.tc : Thread Cert.CtxNaKVRefIdeal.nD Cert.CtxNaKVRefIdeal.τ).loc Cert.CtxNaKVRefIdeal.main_v1) = v0 c
          ∧ r.2.mem ((c.tc : Thread Cert.CtxNaKVRefIdeal.nD Cert.CtxNaKVRefIdeal.τ).loc Cert.CtxNaKVRefIdeal.main_arg0) = m' ((c.tc : Thread Cert.CtxNaKVRefIdeal.nD Cert.CtxNaKVRefIdeal.τ).loc Cert.CtxNaKVRefIdeal.main_arg0)
          ∧ r.2.mem ((c.tc : Thread Cert.CtxNaKVRefIdeal.nD Cert.CtxNaKVRefIdeal.τ).loc Cert.CtxNaKVRefIdeal.main_arg1) = m' ((c.tc : Thread Cert.CtxNaKVRefIdeal.nD Cert.CtxNaKVRefIdeal.τ).loc Cert.CtxNaKVRefIdeal.main_arg1))

def Claim : Prop :=
  ∃ (hKernel : Cert.Kernel.Facts) (hKernelIdeal : Cert.KernelIdeal.Facts) (hReferenceIdeal : Cert.ReferenceIdeal.Facts) (hExpert : Cert.Expert.Facts) (hExpertIdeal : Cert.ExpertIdeal.Facts) (hExpertRefIdeal : Cert.ExpertRefIdeal.Facts) (hDown : Cert.Down.Facts) (hDownIdeal : Cert.DownIdeal.Facts) (hDownRefIdeal : Cert.DownRefIdeal.Facts) (hBranch : Cert.Branch.Facts) (hBranchIdeal : Cert.BranchIdeal.Facts) (hBranchRefIdeal : Cert.BranchRefIdeal.Facts) (hOutProj : Cert.OutProj.Facts) (hOutProjIdeal : Cert.OutProjIdeal.Facts) (hOutProjRefIdeal : Cert.OutProjRefIdeal.Facts) (hHyena : Cert.Hyena.Facts) (hHyenaIdeal : Cert.HyenaIdeal.Facts) (hHyenaRefIdeal : Cert.HyenaRefIdeal.Facts) (hGates : Cert.Gates.Facts) (hGatesIdeal : Cert.GatesIdeal.Facts) (hGatesRefIdeal : Cert.GatesRefIdeal.Facts) (hNaV : Cert.NaV.Facts) (hNaVIdeal : Cert.NaVIdeal.Facts) (hNaVRefIdeal : Cert.NaVRefIdeal.Facts) (hWaV : Cert.WaV.Facts) (hWaVIdeal : Cert.WaVIdeal.Facts) (hWaVRefIdeal : Cert.WaVRefIdeal.Facts) (hNaQ : Cert.NaQ.Facts) (hNaQIdeal : Cert.NaQIdeal.Facts) (hNaQRefIdeal : Cert.NaQRefIdeal.Facts) (hNaK : Cert.NaK.Facts) (hNaKIdeal : Cert.NaKIdeal.Facts) (hNaKRefIdeal : Cert.NaKRefIdeal.Facts) (hWaQ : Cert.WaQ.Facts) (hWaQIdeal : Cert.WaQIdeal.Facts) (hWaQRefIdeal : Cert.WaQRefIdeal.Facts) (hWaK : Cert.WaK.Facts) (hWaKIdeal : Cert.WaKIdeal.Facts) (hWaKRefIdeal : Cert.WaKRefIdeal.Facts) (hCtxIn : Cert.CtxIn.Facts) (hCtxInIdeal : Cert.CtxInIdeal.Facts) (hCtxInRefIdeal : Cert.CtxInRefIdeal.Facts) (hNorm : Cert.Norm.Facts) (hNormIdeal : Cert.NormIdeal.Facts) (hNormRefIdeal : Cert.NormRefIdeal.Facts) (hCtxBranch : Cert.CtxBranch.Facts) (hCtxBranchIdeal : Cert.CtxBranchIdeal.Facts) (hCtxBranchRefIdeal : Cert.CtxBranchRefIdeal.Facts) (hCtxOut : Cert.CtxOut.Facts) (hCtxOutIdeal : Cert.CtxOutIdeal.Facts) (hCtxOutRefIdeal : Cert.CtxOutRefIdeal.Facts) (hCtxExpert : Cert.CtxExpert.Facts) (hCtxExpertIdeal : Cert.CtxExpertIdeal.Facts) (hCtxExpertRefIdeal : Cert.CtxExpertRefIdeal.Facts) (hCtxDown : Cert.CtxDown.Facts) (hCtxDownIdeal : Cert.CtxDownIdeal.Facts) (hCtxDownRefIdeal : Cert.CtxDownRefIdeal.Facts) (hCtxWaKV : Cert.CtxWaKV.Facts) (hCtxWaKVIdeal : Cert.CtxWaKVIdeal.Facts) (hCtxWaKVRefIdeal : Cert.CtxWaKVRefIdeal.Facts) (hCtxNaKV : Cert.CtxNaKV.Facts) (hCtxNaKVIdeal : Cert.CtxNaKVIdeal.Facts) (hCtxNaKVRefIdeal : Cert.CtxNaKVRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Expert (hExpert := hExpert)
    ∧ quiescent_ExpertIdeal (hExpertIdeal := hExpertIdeal)
    ∧ quiescent_ExpertRefIdeal (hExpertRefIdeal := hExpertRefIdeal)
    ∧ quiescent_Down (hDown := hDown)
    ∧ quiescent_DownIdeal (hDownIdeal := hDownIdeal)
    ∧ quiescent_DownRefIdeal (hDownRefIdeal := hDownRefIdeal)
    ∧ quiescent_Branch (hBranch := hBranch)
    ∧ quiescent_BranchIdeal (hBranchIdeal := hBranchIdeal)
    ∧ quiescent_BranchRefIdeal (hBranchRefIdeal := hBranchRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Hyena (hHyena := hHyena)
    ∧ quiescent_HyenaIdeal (hHyenaIdeal := hHyenaIdeal)
    ∧ quiescent_HyenaRefIdeal (hHyenaRefIdeal := hHyenaRefIdeal)
    ∧ quiescent_Gates (hGates := hGates)
    ∧ quiescent_GatesIdeal (hGatesIdeal := hGatesIdeal)
    ∧ quiescent_GatesRefIdeal (hGatesRefIdeal := hGatesRefIdeal)
    ∧ quiescent_NaV (hNaV := hNaV)
    ∧ quiescent_NaVIdeal (hNaVIdeal := hNaVIdeal)
    ∧ quiescent_NaVRefIdeal (hNaVRefIdeal := hNaVRefIdeal)
    ∧ quiescent_WaV (hWaV := hWaV)
    ∧ quiescent_WaVIdeal (hWaVIdeal := hWaVIdeal)
    ∧ quiescent_WaVRefIdeal (hWaVRefIdeal := hWaVRefIdeal)
    ∧ quiescent_NaQ (hNaQ := hNaQ)
    ∧ quiescent_NaQIdeal (hNaQIdeal := hNaQIdeal)
    ∧ quiescent_NaQRefIdeal (hNaQRefIdeal := hNaQRefIdeal)
    ∧ quiescent_NaK (hNaK := hNaK)
    ∧ quiescent_NaKIdeal (hNaKIdeal := hNaKIdeal)
    ∧ quiescent_NaKRefIdeal (hNaKRefIdeal := hNaKRefIdeal)
    ∧ quiescent_WaQ (hWaQ := hWaQ)
    ∧ quiescent_WaQIdeal (hWaQIdeal := hWaQIdeal)
    ∧ quiescent_WaQRefIdeal (hWaQRefIdeal := hWaQRefIdeal)
    ∧ quiescent_WaK (hWaK := hWaK)
    ∧ quiescent_WaKIdeal (hWaKIdeal := hWaKIdeal)
    ∧ quiescent_WaKRefIdeal (hWaKRefIdeal := hWaKRefIdeal)
    ∧ quiescent_CtxIn (hCtxIn := hCtxIn)
    ∧ quiescent_CtxInIdeal (hCtxInIdeal := hCtxInIdeal)
    ∧ quiescent_CtxInRefIdeal (hCtxInRefIdeal := hCtxInRefIdeal)
    ∧ quiescent_Norm (hNorm := hNorm)
    ∧ quiescent_NormIdeal (hNormIdeal := hNormIdeal)
    ∧ quiescent_NormRefIdeal (hNormRefIdeal := hNormRefIdeal)
    ∧ quiescent_CtxBranch (hCtxBranch := hCtxBranch)
    ∧ quiescent_CtxBranchIdeal (hCtxBranchIdeal := hCtxBranchIdeal)
    ∧ quiescent_CtxBranchRefIdeal (hCtxBranchRefIdeal := hCtxBranchRefIdeal)
    ∧ quiescent_CtxOut (hCtxOut := hCtxOut)
    ∧ quiescent_CtxOutIdeal (hCtxOutIdeal := hCtxOutIdeal)
    ∧ quiescent_CtxOutRefIdeal (hCtxOutRefIdeal := hCtxOutRefIdeal)
    ∧ quiescent_CtxExpert (hCtxExpert := hCtxExpert)
    ∧ quiescent_CtxExpertIdeal (hCtxExpertIdeal := hCtxExpertIdeal)
    ∧ quiescent_CtxExpertRefIdeal (hCtxExpertRefIdeal := hCtxExpertRefIdeal)
    ∧ quiescent_CtxDown (hCtxDown := hCtxDown)
    ∧ quiescent_CtxDownIdeal (hCtxDownIdeal := hCtxDownIdeal)
    ∧ quiescent_CtxDownRefIdeal (hCtxDownRefIdeal := hCtxDownRefIdeal)
    ∧ quiescent_CtxWaKV (hCtxWaKV := hCtxWaKV)
    ∧ quiescent_CtxWaKVIdeal (hCtxWaKVIdeal := hCtxWaKVIdeal)
    ∧ quiescent_CtxWaKVRefIdeal (hCtxWaKVRefIdeal := hCtxWaKVRefIdeal)
    ∧ quiescent_CtxNaKV (hCtxNaKV := hCtxNaKV)
    ∧ quiescent_CtxNaKVIdeal (hCtxNaKVIdeal := hCtxNaKVIdeal)
    ∧ quiescent_CtxNaKVRefIdeal (hCtxNaKVRefIdeal := hCtxNaKVRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Expert_ExpertIdeal
    ∧ algebraic_ExpertIdeal_ExpertRefIdeal (hExpertIdeal := hExpertIdeal) (hExpertRefIdeal := hExpertRefIdeal)
    ∧ preserves_Down_DownIdeal
    ∧ algebraic_DownIdeal_DownRefIdeal (hDownIdeal := hDownIdeal) (hDownRefIdeal := hDownRefIdeal)
    ∧ preserves_Branch_BranchIdeal
    ∧ algebraic_BranchIdeal_BranchRefIdeal (hBranchIdeal := hBranchIdeal) (hBranchRefIdeal := hBranchRefIdeal)
    ∧ preserves_OutProj_OutProjIdeal
    ∧ algebraic_OutProjIdeal_OutProjRefIdeal (hOutProjIdeal := hOutProjIdeal) (hOutProjRefIdeal := hOutProjRefIdeal)
    ∧ preserves_Hyena_HyenaIdeal
    ∧ algebraic_HyenaIdeal_HyenaRefIdeal (hHyenaIdeal := hHyenaIdeal) (hHyenaRefIdeal := hHyenaRefIdeal)
    ∧ preserves_Gates_GatesIdeal
    ∧ algebraic_GatesIdeal_GatesRefIdeal (hGatesIdeal := hGatesIdeal) (hGatesRefIdeal := hGatesRefIdeal)
    ∧ preserves_NaV_NaVIdeal
    ∧ algebraic_NaVIdeal_NaVRefIdeal (hNaVIdeal := hNaVIdeal) (hNaVRefIdeal := hNaVRefIdeal)
    ∧ preserves_WaV_WaVIdeal
    ∧ algebraic_WaVIdeal_WaVRefIdeal (hWaVIdeal := hWaVIdeal) (hWaVRefIdeal := hWaVRefIdeal)
    ∧ preserves_NaQ_NaQIdeal
    ∧ algebraic_NaQIdeal_NaQRefIdeal (hNaQIdeal := hNaQIdeal) (hNaQRefIdeal := hNaQRefIdeal)
    ∧ preserves_NaK_NaKIdeal
    ∧ algebraic_NaKIdeal_NaKRefIdeal (hNaKIdeal := hNaKIdeal) (hNaKRefIdeal := hNaKRefIdeal)
    ∧ preserves_WaQ_WaQIdeal
    ∧ algebraic_WaQIdeal_WaQRefIdeal (hWaQIdeal := hWaQIdeal) (hWaQRefIdeal := hWaQRefIdeal)
    ∧ preserves_WaK_WaKIdeal
    ∧ algebraic_WaKIdeal_WaKRefIdeal (hWaKIdeal := hWaKIdeal) (hWaKRefIdeal := hWaKRefIdeal)
    ∧ preserves_CtxIn_CtxInIdeal
    ∧ algebraic_CtxInIdeal_CtxInRefIdeal (hCtxInIdeal := hCtxInIdeal) (hCtxInRefIdeal := hCtxInRefIdeal)
    ∧ preserves_Norm_NormIdeal
    ∧ algebraic_NormIdeal_NormRefIdeal (hNormIdeal := hNormIdeal) (hNormRefIdeal := hNormRefIdeal)
    ∧ preserves_CtxBranch_CtxBranchIdeal
    ∧ algebraic_CtxBranchIdeal_CtxBranchRefIdeal (hCtxBranchIdeal := hCtxBranchIdeal) (hCtxBranchRefIdeal := hCtxBranchRefIdeal)
    ∧ preserves_CtxOut_CtxOutIdeal
    ∧ algebraic_CtxOutIdeal_CtxOutRefIdeal (hCtxOutIdeal := hCtxOutIdeal) (hCtxOutRefIdeal := hCtxOutRefIdeal)
    ∧ preserves_CtxExpert_CtxExpertIdeal
    ∧ algebraic_CtxExpertIdeal_CtxExpertRefIdeal (hCtxExpertIdeal := hCtxExpertIdeal) (hCtxExpertRefIdeal := hCtxExpertRefIdeal)
    ∧ preserves_CtxDown_CtxDownIdeal
    ∧ algebraic_CtxDownIdeal_CtxDownRefIdeal (hCtxDownIdeal := hCtxDownIdeal) (hCtxDownRefIdeal := hCtxDownRefIdeal)
    ∧ preserves_CtxWaKV_CtxWaKVIdeal
    ∧ algebraic_CtxWaKVIdeal_CtxWaKVRefIdeal (hCtxWaKVIdeal := hCtxWaKVIdeal) (hCtxWaKVRefIdeal := hCtxWaKVRefIdeal)
    ∧ preserves_CtxNaKV_CtxNaKVIdeal
    ∧ algebraic_CtxNaKVIdeal_CtxNaKVRefIdeal (hCtxNaKVIdeal := hCtxNaKVIdeal) (hCtxNaKVRefIdeal := hCtxNaKVRefIdeal)
-- ==== Pre_finite_scores.lean ====
abbrev S8 : Shape := ⟨1, ![8]⟩
abbrev S16384x1024 : Shape := ⟨2, ![16384, 1024]⟩
abbrev S16384x256 : Shape := ⟨2, ![16384, 256]⟩
abbrev S256x256 : Shape := ⟨2, ![256, 256]⟩
abbrev S_ : Shape := ⟨0, ![]⟩

class Facts : Prop where
  bcast_S_S8 : S_.BroadcastsInDim S8 (![] : Fin 0 → Fin S8.rank)
  bitsLt_bf16_f32 : FTy.bits .bf16 < FTy.bits .f32
  bcast_S_S16384x1024 : S_.BroadcastsInDim S16384x1024 (![] : Fin 0 → Fin S16384x1024.rank)
  bcast_S_S16384x256 : S_.BroadcastsInDim S16384x256 (![] : Fin 0 → Fin S16384x256.rank)
  bcast_S_S256x256 : S_.BroadcastsInDim S256x256 (![] : Fin 0 → Fin S256x256.rank)

variable [Facts]

def fn {F : FTy → Type} [FloatOps F] (main_arg0 : FVec F S8 .f32) (main_arg1 : FVec F S16384x1024 .bf16) (main_arg2 : FVec F S16384x256 .bf16) (main_arg3 : FVec F S16384x256 .bf16) (main_arg4 : FVec F S256x256 .bf16) (main_arg5 : FVec F S256x256 .bf16) : IVec S8 1 × IVec S16384x1024 1 × IVec S16384x256 1 × IVec S256x256 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S16384x1024 .f32 := (extf .f32 · bitsLt_bf16_f32) main_arg1
  let main_v4 : FVec F S16384x1024 .f32 := Host.absf main_v3
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_v7 : FVec F S16384x256 .f32 := (extf .f32 · bitsLt_bf16_f32) main_arg2
  let main_v8 : FVec F S16384x256 .f32 := Host.absf main_v7
  let main_cst_1 : FVec F S_ .f32 := constant S_ .f32 0x7F800000#32
  let main_v9 : FVec F S16384x256 .f32 := broadcastInDim S16384x256 ![] bcast_S_S16384x256 main_cst_1
  let main_v10 : IVec S16384x256 1 := cmpf .olt main_v8 main_v9
  let main_v11 : FVec F S256x256 .f32 := (extf .f32 · bitsLt_bf16_f32) main_arg4
  let main_v12 : FVec F S256x256 .f32 := Host.absf main_v11
  let main_cst_2 : FVec F S_ .f32 := constant S_ .f32 0x7F800000#32
  let main_v13 : FVec F S256x256 .f32 := broadcastInDim S256x256 ![] bcast_S_S256x256 main_cst_2
  let main_v14 : IVec S256x256 1 := cmpf .olt main_v12 main_v13
  (main_v2, main_v6, main_v10, main_v14)
-- ==== Kernel.lean ====
abbrev S8 : Shape := ⟨1, ![8]⟩
abbrev S16384x1024 : Shape := ⟨2, ![16384, 1024]⟩
abbrev S16384x256 : Shape := ⟨2, ![16384, 256]⟩
abbrev S256x256 : Shape := ⟨2, ![256, 256]⟩
abbrev S256x512 : Shape := ⟨2, ![256, 512]⟩
abbrev S16384x128 : Shape := ⟨2, ![16384, 128]⟩
abbrev S256x128 : Shape := ⟨2, ![256, 128]⟩
abbrev S512x128 : Shape := ⟨2, ![512, 128]⟩
abbrev S1 : Shape := ⟨1, ![1]⟩
abbrev S256 : Shape := ⟨1, ![256]⟩
abbrev S256x1 : Shape := ⟨2, ![256, 1]⟩

abbrev nBuf : Space → Nat
  | .hbm => 7
  | .vmem => 12
  | .smem => 1
  | _ => 0

abbrev bufTy : (tb : Table) → Fin (tcTables nBuf tb) → BufTy
  | .hbm, ⟨0, _⟩ => ⟨S8, .f32⟩
  | .hbm, ⟨1, _⟩ => ⟨S16384x1024, .bf16⟩
  | .hbm, ⟨2, _⟩ => ⟨S16384x256, .bf16⟩
  | .hbm, ⟨3, _⟩ => ⟨S16384x256, .bf16⟩
  | .hbm, ⟨4, _⟩ => ⟨S256x256, .bf16⟩
  | .hbm, ⟨5, _⟩ => ⟨S256x256, .bf16⟩
  | .hbm, ⟨6, _⟩ => ⟨S16384x1024, .bf16⟩
  | .local _ .vmem, ⟨0, _⟩ => ⟨S256x512, .bf16⟩
  | .local _ .vmem, ⟨1, _⟩ => ⟨S256x512, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x512, .bf16⟩
  | .local _ .vmem, ⟨11, _⟩ => ⟨S256x512, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let c15872_i32 : BitVec 32 := 15872#32
  let c0_i32 : BitVec 32 := 0#32
  let arg1 : BitVec 32 := BitVec.ofNat 32 (i 1).val
  let c256_i32 : BitVec 32 := 256#32
  let v0 : BitVec 32 := Scalar.muli arg1 c256_i32
  let c128_i32 : BitVec 32 := 128#32
  let v1 : BitVec 32 := Scalar.subi v0 c128_i32
  let v2 : BitVec 32 := Scalar.maxsi c0_i32 v1
  let v3 : BitVec 32 := Scalar.minsi c15872_i32 v2
  v3
def k0_off1 (i : grid0.Coords) : Fin 2 → Nat :=
  let c15872_i32 : BitVec 32 := 15872#32
  let c0_i32 : BitVec 32 := 0#32
  let arg1 : BitVec 32 := BitVec.ofNat 32 (i 1).val
  let c256_i32 : BitVec 32 := 256#32
  let v0 : BitVec 32 := Scalar.muli arg1 c256_i32
  let c128_i32 : BitVec 32 := 128#32
  let v1 : BitVec 32 := Scalar.subi v0 c128_i32
  let v2 : BitVec 32 := Scalar.maxsi c0_i32 v1
  let v3 : BitVec 32 := Scalar.minsi c15872_i32 v2
  let v4 : BitVec 32 := v3
  let v5 : Index := Scalar.indexCast v4
  let c0 : Index := 0#32
  ![v5.toNat, 0]
def k0_off2 (i : grid0.Coords) (c0_i32_9 : BitVec 32) : Fin 1 → Nat :=
  let arg0 : BitVec 32 := BitVec.ofNat 32 (i 0).val
  let c4_i32 : BitVec 32 := 4#32
  let v26 : BitVec 32 := Scalar.muli arg0 c4_i32
  let v27 : BitVec 32 := Scalar.addi v26 c0_i32_9
  let v28 : Index := Scalar.indexCast v27
  ![v28.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8 : Shape := ⟨1, ![8]⟩
abbrev S16384x1024 : Shape := ⟨2, ![16384, 1024]⟩
abbrev S16384x256 : Shape := ⟨2, ![16384, 256]⟩
abbrev S256x256 : Shape := ⟨2, ![256, 256]⟩
abbrev S128x128x2x4x128 : Shape := ⟨5, ![128, 128, 2, 4, 128]⟩
abbrev S256x2x128 : Shape := ⟨3, ![256, 2, 128]⟩
abbrev S16384x2x128 : Shape := ⟨3, ![16384, 2, 128]⟩
abbrev S_ : Shape := ⟨0, ![]⟩
abbrev S16640x2x128 : Shape := ⟨3, ![16640, 2, 128]⟩
abbrev S130x128x2x128 : Shape := ⟨4, ![130, 128, 2, 128]⟩
abbrev S128x128x2x128 : Shape := ⟨4, ![128, 128, 2, 128]⟩
abbrev S128x384x2x128 : Shape := ⟨4, ![128, 384, 2, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S384 : Shape := ⟨1, ![384]⟩
abbrev S1x384 : Shape := ⟨2, ![1, 384]⟩
abbrev S128x384 : Shape := ⟨2, ![128, 384]⟩
abbrev S128x1x384 : Shape := ⟨3, ![128, 1, 384]⟩
abbrev S128x128x384 : Shape := ⟨3, ![128, 128, 384]⟩
abbrev S128x2x384x128x4 : Shape := ⟨5, ![128, 2, 384, 128, 4]⟩
abbrev S128x2x4x128x384 : Shape := ⟨5, ![128, 2, 4, 128, 384]⟩
abbrev S128x1x1x128x384 : Shape := ⟨5, ![128, 1, 1, 128, 384]⟩
abbrev S2x256x128x128x4 : Shape := ⟨5, ![2, 256, 128, 128, 4]⟩
abbrev S128x2x4x128x256 : Shape := ⟨5, ![128, 2, 4, 128, 256]⟩
abbrev S1x2x4x1x1 : Shape := ⟨5, ![1, 2, 4, 1, 1]⟩
abbrev S128x2x4x128x1 : Shape := ⟨5, ![128, 2, 4, 128, 1]⟩
abbrev S128x2x4x128x641 : Shape := ⟨5, ![128, 2, 4, 128, 641]⟩
abbrev S128x2x4x128 : Shape := ⟨4, ![128, 2, 4, 128]⟩
abbrev S128x2x128x4x128 : Shape := ⟨5, ![128, 2, 128, 4, 128]⟩
abbrev S2x128x128x4x128 : Shape := ⟨5, ![2, 128, 128, 4, 128]⟩

abbrev nBuf : Space → Nat
  | .hbm => 104
  | .vmem => 0
  | .smem => 0
  | _ => 0

abbrev bufTy : (tb : Table) → Fin (tcTables nBuf tb) → BufTy
  | .hbm, ⟨0, _⟩ => ⟨S8, .f32⟩
  | .hbm, ⟨1, _⟩ => ⟨S16384x1024, .bf16⟩
  | .hbm, ⟨2, _⟩ => ⟨S16384x256, .bf16⟩
  | .hbm, ⟨3, _⟩ => ⟨S16384x256, .bf16⟩
  | .hbm, ⟨4, _⟩ => ⟨S256x256, .bf16⟩
  | .hbm, ⟨5, _⟩ => ⟨S256x256, .bf16⟩
  | .hbm, ⟨6, _⟩ => ⟨S16384x1024, .f32⟩
  | .hbm, ⟨7, _⟩ => ⟨S16384x256, .f32⟩
  | .hbm, ⟨8, _⟩ => ⟨S16384x256, .f32⟩
  | .hbm, ⟨9, _⟩ => ⟨S256x256, .f32⟩
  | .hbm, ⟨10, _⟩ => ⟨S256x256, .f32⟩
  | .hbm, ⟨11, _⟩ => ⟨S128x128x2x4x128, .f32⟩
  | .hbm, ⟨12, _⟩ => ⟨S256x2x128, .f32⟩
  | .hbm, ⟨13, _⟩ => ⟨S256x2x128, .f32⟩
  | .hbm, ⟨14, _⟩ => ⟨S16384x2x128, .f32⟩
  | .hbm, ⟨15, _⟩ => ⟨S_, .i32⟩
  | .hbm, ⟨16, _⟩ => ⟨S_, .f32⟩
  | .hbm, ⟨17, _⟩ => ⟨S16640x2x128, .f32⟩
  | .hbm, ⟨18, _⟩ => ⟨S130x128x2x128, .f32⟩
  | .hbm, ⟨19, _⟩ => ⟨S128x128x2x128, .f32⟩
  | .hbm, ⟨20, _⟩ => ⟨S128x128x2x128, .f32⟩
  | .hbm, ⟨21, _⟩ => ⟨S128x128x2x128, .f32⟩
  | .hbm, ⟨22, _⟩ => ⟨S128x384x2x128, .f32⟩
  | .hbm, ⟨23, _⟩ => ⟨S16384x2x128, .f32⟩
  | .hbm, ⟨24, _⟩ => ⟨S_, .i32⟩
  | .hbm, ⟨25, _⟩ => ⟨S_, .f32⟩
  | .hbm, ⟨26, _⟩ => ⟨S16640x2x128, .f32⟩
  | .hbm, ⟨27, _⟩ => ⟨S130x128x2x128, .f32⟩
  | .hbm, ⟨28, _⟩ => ⟨S128x128x2x128, .f32⟩
  | .hbm, ⟨29, _⟩ => ⟨S128x128x2x128, .f32⟩
  | .hbm, ⟨30, _⟩ => ⟨S128x128x2x128, .f32⟩
  | .hbm, ⟨31, _⟩ => ⟨S128x384x2x128, .f32⟩
  | .hbm, ⟨32, _⟩ => ⟨S128, .i32⟩
  | .hbm, ⟨33, _⟩ => ⟨S128x1, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128, .i32⟩
  | .hbm, ⟨38, _⟩ => ⟨S1x128, .i32⟩
  | .hbm, ⟨39, _⟩ => ⟨S128x128, .i32⟩
  | .hbm, ⟨40, _⟩ => ⟨S128x128, .i32⟩
  | .hbm, ⟨41, _⟩ => ⟨S128x128, .i32⟩
  | .hbm, ⟨42, _⟩ => ⟨S128x128x1, .i32⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S384, .i32⟩
  | .hbm, ⟨47, _⟩ => ⟨S1x384, .i32⟩
  | .hbm, ⟨48, _⟩ => ⟨S128x384, .i32⟩
  | .hbm, ⟨49, _⟩ => ⟨S128x384, .i32⟩
  | .hbm, ⟨50, _⟩ => ⟨S128x384, .i32⟩
  | .hbm, ⟨51, _⟩ => ⟨S128x1x384, .i32⟩
  | .hbm, ⟨52, _⟩ => ⟨S_, .i32⟩
  | .hbm, ⟨53, _⟩ => ⟨S128x1x384, .i32⟩
  | .hbm, ⟨54, _⟩ => ⟨S128x1x384, .i1⟩
  | .hbm, ⟨55, _⟩ => ⟨S_, .i32⟩
  | .hbm, ⟨56, _⟩ => ⟨S128x1x384, .i32⟩
  | .hbm, ⟨57, _⟩ => ⟨S128x1x384, .i1⟩
  | .hbm, ⟨58, _⟩ => ⟨S128x1x384, .i1⟩
  | .hbm, ⟨59, _⟩ => ⟨S128x128x384, .i32⟩
  | .hbm, ⟨60, _⟩ => ⟨S128x128x384, .i32⟩
  | .hbm, ⟨61, _⟩ => ⟨S128x128x384, .i32⟩
  | .hbm, ⟨62, _⟩ => ⟨S128x128x384, .i32⟩
  | .hbm, ⟨63, _⟩ => ⟨S_, .i32⟩
  | .hbm, ⟨64, _⟩ => ⟨S128x128x384, .i32⟩
  | .hbm, ⟨65, _⟩ => ⟨S128x128x384, .i1⟩
  | .hbm, ⟨66, _⟩ => ⟨S128x128x384, .i1⟩
  | .hbm, ⟨67, _⟩ => ⟨S128x128x384, .i1⟩
  | .hbm, ⟨68, _⟩ => ⟨S128x2x384x128x4, .f32⟩
  | .hbm, ⟨69, _⟩ => ⟨S128x2x4x128x384, .f32⟩
  | .hbm, ⟨70, _⟩ => ⟨S128x1x1x128x384, .i1⟩
  | .hbm, ⟨71, _⟩ => ⟨S_, .f32⟩
  | .hbm, ⟨72, _⟩ => ⟨S_, .f32⟩
  | .hbm, ⟨73, _⟩ => ⟨S128x2x4x128x384, .i1⟩
  | .hbm, ⟨74, _⟩ => ⟨S128x2x4x128x384, .f32⟩
  | .hbm, ⟨75, _⟩ => ⟨S128x2x4x128x384, .f32⟩
  | .hbm, ⟨76, _⟩ => ⟨S2x256x128x128x4, .f32⟩
  | .hbm, ⟨77, _⟩ => ⟨S128x2x4x128x256, .f32⟩
  | .hbm, ⟨78, _⟩ => ⟨S1x2x4x1x1, .f32⟩
  | .hbm, ⟨79, _⟩ => ⟨S128x2x4x128x1, .f32⟩
  | .hbm, ⟨80, _⟩ => ⟨S128x2x4x128x641, .f32⟩
  | .hbm, ⟨81, _⟩ => ⟨S_, .f32⟩
  | .hbm, ⟨82, _⟩ => ⟨S128x2x4x128, .f32⟩
  | .hbm, ⟨83, _⟩ => ⟨S_, .f32⟩
  | .hbm, ⟨84, _⟩ => ⟨S128x2x4x128, .f32⟩
  | .hbm, ⟨85, _⟩ => ⟨S128x2x4x128, .f32⟩
  | .hbm, ⟨86, _⟩ => ⟨S128x2x4x128x1, .f32⟩
  | .hbm, ⟨87, _⟩ => ⟨S128x2x4x128x641, .f32⟩
  | .hbm, ⟨88, _⟩ => ⟨S128x2x4x128x641, .f32⟩
  | .hbm, ⟨89, _⟩ => ⟨S128x2x4x128x641, .f32⟩
  | .hbm, ⟨90, _⟩ => ⟨S_, .f32⟩
  | .hbm, ⟨91, _⟩ => ⟨S128x2x4x128, .f32⟩
  | .hbm, ⟨92, _⟩ => ⟨S128x2x4x128x1, .f32⟩
  | .hbm, ⟨93, _⟩ => ⟨S128x2x4x128x641, .f32⟩
  | .hbm, ⟨94, _⟩ => ⟨S128x2x4x128x641, .f32⟩
  | .hbm, ⟨95, _⟩ => ⟨S128x2x4x128x384, .f32⟩
  | .hbm, ⟨96, _⟩ => ⟨S128x2x128x4x128, .f32⟩
  | .hbm, ⟨97, _⟩ => ⟨S128x128x2x4x128, .f32⟩
  | .hbm, ⟨98, _⟩ => ⟨S128x2x4x128x256, .f32⟩
  | .hbm, ⟨99, _⟩ => ⟨S2x128x128x4x128, .f32⟩
  | .hbm, ⟨100, _⟩ => ⟨S128x128x2x4x128, .f32⟩
  | .hbm, ⟨101, _⟩ => ⟨S128x128x2x4x128, .f32⟩
  | .hbm, ⟨102, _⟩ => ⟨S16384x1024, .f32⟩
  | .hbm, ⟨103, _⟩ => ⟨S16384x1024, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_3 : Ref sig .tc := ⟨.hbm, 52, rfl⟩
abbrev main_v40 : Ref sig .tc := ⟨.hbm, 53, rfl⟩
abbrev main_v41 : Ref sig .tc := ⟨.hbm, 54, rfl⟩
abbrev main_c_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_6 : Ref sig .tc := ⟨.hbm, 81, rfl⟩
abbrev main_v62 : Ref sig .tc := ⟨.hbm, 82, rfl⟩
abbrev main_cst_7 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_8 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩

abbrev nD : Nat := 1
abbrev τ : Topo := Topo.v7x

variable {F : FTy → Type} [FloatOps F]

def κ : String → Option EReal := fun
  | "mask" => some ⊥
  | _ => none
-- ==== Expert.lean ====
abbrev S16x2048x2048 : Shape := ⟨3, ![16, 2048, 2048]⟩
abbrev S16x2048x1024 : Shape := ⟨3, ![16, 2048, 1024]⟩
abbrev S1x512x2048 : Shape := ⟨3, ![1, 512, 2048]⟩
abbrev S1x2048x1024 : Shape := ⟨3, ![1, 2048, 1024]⟩
abbrev S1x512x1024 : Shape := ⟨3, ![1, 512, 1024]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .f32⟩
  | .hbm, ⟨2, _⟩ => ⟨S16x2048x1024, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x512x1024, .f32⟩
  | .local _ .vmem, ⟨5, _⟩ => ⟨S1x512x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ExpertRefIdeal.lean ====
abbrev S16x2048x2048 : Shape := ⟨3, ![16, 2048, 2048]⟩
abbrev S16x2048x1024 : Shape := ⟨3, ![16, 2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .f32⟩
  | .hbm, ⟨2, _⟩ => ⟨S16x2048x1024, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Down.lean ====
abbrev S16x2048x1024 : Shape := ⟨3, ![16, 2048, 1024]⟩
abbrev S16x1024x2048 : Shape := ⟨3, ![16, 1024, 2048]⟩
abbrev S16x2048x2048 : Shape := ⟨3, ![16, 2048, 2048]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S16x1024x2048, .f32⟩
  | .hbm, ⟨2, _⟩ => ⟨S16x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x512x1024, .f32⟩
  | .local _ .vmem, ⟨5, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DownRefIdeal.lean ====
abbrev S16x2048x1024 : Shape := ⟨3, ![16, 2048, 1024]⟩
abbrev S16x1024x2048 : Shape := ⟨3, ![16, 1024, 2048]⟩
abbrev S16x2048x2048 : Shape := ⟨3, ![16, 2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1024x2048, .f32⟩
  | .hbm, ⟨2, _⟩ => ⟨S16x2048x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Branch.lean ====
abbrev S16384x1024 : Shape := ⟨2, ![16384, 1024]⟩
abbrev S1024x2048 : Shape := ⟨2, ![1024, 2048]⟩
abbrev S16384x2048 : Shape := ⟨2, ![16384, 2048]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BranchRefIdeal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProj.lean ====
abbrev S16384x2048 : Shape := ⟨2, ![16384, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S16384x2048 : Shape := ⟨2, ![16384, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Hyena.lean ====
abbrev S16384x2048 : Shape := ⟨2, ![16384, 2048]⟩
abbrev S2048x13824 : Shape := ⟨2, ![2048, 13824]⟩
abbrev S2048x3072 : Shape := ⟨2, ![2048, 3072]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S2048x13824, .bf16⟩
  | .hbm, ⟨3, _⟩ => ⟨S2048x3072, .bf16⟩
  | .hbm, ⟨4, _⟩ => ⟨S16384x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HyenaRefIdeal.lean ====
abbrev S16384x2048 : Shape := ⟨2, ![16384, 2048]⟩
abbrev S2048x13824 : Shape := ⟨2, ![2048, 13824]⟩
abbrev S16384x13824 : Shape := ⟨2, ![16384, 13824]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S16384x2048, .f32⟩
  | .hbm, ⟨3, _⟩ => ⟨S16384x13824, .f32⟩
  | .hbm, ⟨4, _⟩ => ⟨S16384x3072, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gates.lean ====
abbrev S16384x2048 : Shape := ⟨2, ![16384, 2048]⟩
abbrev S2048x13824 : Shape := ⟨2, ![2048, 13824]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S2048x13824, .bf16⟩
  | .hbm, ⟨3, _⟩ => ⟨S2048x6144, .bf16⟩
  | .hbm, ⟨4, _⟩ => ⟨S16384x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S16384x2048 : Shape := ⟨2, ![16384, 2048]⟩
abbrev S2048x13824 : Shape := ⟨2, ![2048, 13824]⟩
abbrev S16384x13824 : Shape := ⟨2, ![16384, 13824]⟩
abbrev S16384x6144 : Shape := ⟨2, ![16384, 6144]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S16384x2048, .f32⟩
  | .hbm, ⟨3, _⟩ => ⟨S16384x13824, .f32⟩
  | .hbm, ⟨4, _⟩ => ⟨S16384x6144, .f32⟩
  | .hbm, ⟨5, _⟩ => ⟨S16384x6144, .f32⟩
  | .hbm, ⟨6, _⟩ => ⟨S16384x6144, .f32⟩
  | .hbm, ⟨7, _⟩ => ⟨S_, .f32⟩
  | .hbm, ⟨8, _⟩ => ⟨S16384x6144, .f32⟩
  | .hbm, ⟨9, _⟩ => ⟨S16384x6144, .f32⟩
  | .hbm, ⟨10, _⟩ => ⟨S_, .f32⟩
  | .hbm, ⟨11, _⟩ => ⟨S16384x6144, .f32⟩
  | .hbm, ⟨12, _⟩ => ⟨S16384x6144, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== NaV.lean ====
abbrev S16384x2048 : Shape := ⟨2, ![16384, 2048]⟩
abbrev S2048x13824 : Shape := ⟨2, ![2048, 13824]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S2048x13824, .bf16⟩
  | .hbm, ⟨3, _⟩ => ⟨S2048x1024, .bf16⟩
  | .hbm, ⟨4, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NaVRefIdeal.lean ====
abbrev S16384x2048 : Shape := ⟨2, ![16384, 2048]⟩
abbrev S2048x13824 : Shape := ⟨2, ![2048, 13824]⟩
abbrev S16384x13824 : Shape := ⟨2, ![16384, 13824]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S16384x2048, .f32⟩
  | .hbm, ⟨3, _⟩ => ⟨S16384x13824, .f32⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== WaV.lean ====
abbrev S16384x2048 : Shape := ⟨2, ![16384, 2048]⟩
abbrev S2048x13824 : Shape := ⟨2, ![2048, 13824]⟩
abbrev S2048x256 : Shape := ⟨2, ![2048, 256]⟩
abbrev S16384x256 : Shape := ⟨2, ![16384, 256]⟩
abbrev S1024x2048 : Shape := ⟨2, ![1024, 2048]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S2048x13824, .bf16⟩
  | .hbm, ⟨3, _⟩ => ⟨S2048x256, .bf16⟩
  | .hbm, ⟨4, _⟩ => ⟨S16384x256, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x256, .bf16⟩
  | .local _ .vmem, ⟨4, _⟩ => ⟨S1024x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WaVRefIdeal.lean ====
abbrev S16384x2048 : Shape := ⟨2, ![16384, 2048]⟩
abbrev S2048x13824 : Shape := ⟨2, ![2048, 13824]⟩
abbrev S16384x13824 : Shape := ⟨2, ![16384, 13824]⟩
abbrev S16384x512 : Shape := ⟨2, ![16384, 512]⟩
abbrev S16384x256 : Shape := ⟨2, ![16384, 256]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S16384x2048, .f32⟩
  | .hbm, ⟨3, _⟩ => ⟨S16384x13824, .f32⟩
  | .hbm, ⟨4, _⟩ => ⟨S16384x512, .f32⟩
  | .hbm, ⟨5, _⟩ => ⟨S16384x256, .f32⟩
  | .hbm, ⟨6, _⟩ => ⟨S16384x256, .f32⟩
  | .hbm, ⟨7, _⟩ => ⟨S16384x256, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NaQ.lean ====
abbrev S16384x2048 : Shape := ⟨2, ![16384, 2048]⟩
abbrev S2048x13824 : Shape := ⟨2, ![2048, 13824]⟩
abbrev S128 : Shape := ⟨1, ![128]⟩
abbrev S2048x1024 : Shape := ⟨2, ![2048, 1024]⟩
abbrev S1x128 : Shape := ⟨2, ![1, 128]⟩
abbrev S16384x1024 : Shape := ⟨2, ![16384, 1024]⟩
abbrev S1024x2048 : Shape := ⟨2, ![1024, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S128, .f32⟩
  | .hbm, ⟨3, _⟩ => ⟨S2048x13824, .bf16⟩
  | .hbm, ⟨4, _⟩ => ⟨S2048x1024, .bf16⟩
  | .hbm, ⟨5, _⟩ => ⟨S1x128, .f32⟩
  | .hbm, ⟨6, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x128, .f32⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NaQRefIdeal.lean ====
abbrev S16384x2048 : Shape := ⟨2, ![16384, 2048]⟩
abbrev S2048x13824 : Shape := ⟨2, ![2048, 13824]⟩
abbrev S128 : Shape := ⟨1, ![128]⟩
abbrev S16384x13824 : Shape := ⟨2, ![16384, 13824]⟩
abbrev S16384x1024 : Shape := ⟨2, ![16384, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S128, .f32⟩
  | .hbm, ⟨3, _⟩ => ⟨S16384x2048, .f32⟩
  | .hbm, ⟨4, _⟩ => ⟨S16384x13824, .f32⟩
  | .hbm, ⟨5, _⟩ => ⟨S16384x1024, .f32⟩
  | .hbm, ⟨6, _⟩ => ⟨S16384x8x128, .f32⟩
  | .hbm, ⟨7, _⟩ => ⟨S16384x8x128, .f32⟩
  | .hbm, ⟨8, _⟩ => ⟨S_, .f32⟩
  | .hbm, ⟨9, _⟩ => ⟨S16384x8, .f32⟩
  | .hbm, ⟨10, _⟩ => ⟨S16384x8x1, .f32⟩
  | .hbm, ⟨11, _⟩ => ⟨S_, .f32⟩
  | .hbm, ⟨12, _⟩ => ⟨S16384x8x1, .f32⟩
  | .hbm, ⟨13, _⟩ => ⟨S16384x8x1, .f32⟩
  | .hbm, ⟨14, _⟩ => ⟨S_, .f32⟩
  | .hbm, ⟨15, _⟩ => ⟨S16384x8x1, .f32⟩
  | .hbm, ⟨16, _⟩ => ⟨S16384x8x1, .f32⟩
  | .hbm, ⟨17, _⟩ => ⟨S16384x8x1, .f32⟩
  | .hbm, ⟨18, _⟩ => ⟨S16384x8x128, .f32⟩
  | .hbm, ⟨19, _⟩ => ⟨S16384x8x128, .f32⟩
  | .hbm, ⟨20, _⟩ => ⟨S1x1x128, .f32⟩
  | .hbm, ⟨21, _⟩ => ⟨S16384x8x128, .f32⟩
  | .hbm, ⟨22, _⟩ => ⟨S16384x8x128, .f32⟩
  | .hbm, ⟨23, _⟩ => ⟨S_, .f32⟩
  | .hbm, ⟨24, _⟩ => ⟨S16384x8x128, .f32⟩
  | .hbm, ⟨25, _⟩ => ⟨S16384x8x128, .f32⟩
  | .hbm, ⟨26, _⟩ => ⟨S16384x1024, .f32⟩
  | .hbm, ⟨27, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== NaK.lean ====
abbrev S16384x2048 : Shape := ⟨2, ![16384, 2048]⟩
abbrev S2048x13824 : Shape := ⟨2, ![2048, 13824]⟩
abbrev S128 : Shape := ⟨1, ![128]⟩
abbrev S2048x1024 : Shape := ⟨2, ![2048, 1024]⟩
abbrev S1x128 : Shape := ⟨2, ![1, 128]⟩
abbrev S16384x1024 : Shape := ⟨2, ![16384, 1024]⟩
abbrev S1024x2048 : Shape := ⟨2, ![1024, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S128, .f32⟩
  | .hbm, ⟨3, _⟩ => ⟨S2048x13824, .bf16⟩
  | .hbm, ⟨4, _⟩ => ⟨S2048x1024, .bf16⟩
  | .hbm, ⟨5, _⟩ => ⟨S1x128, .f32⟩
  | .hbm, ⟨6, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x128, .f32⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NaKRefIdeal.lean ====
abbrev S16384x2048 : Shape := ⟨2, ![16384, 2048]⟩
abbrev S2048x13824 : Shape := ⟨2, ![2048, 13824]⟩
abbrev S128 : Shape := ⟨1, ![128]⟩
abbrev S16384x13824 : Shape := ⟨2, ![16384, 13824]⟩
abbrev S16384x1024 : Shape := ⟨2, ![16384, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S128, .f32⟩
  | .hbm, ⟨3, _⟩ => ⟨S16384x2048, .f32⟩
  | .hbm, ⟨4, _⟩ => ⟨S16384x13824, .f32⟩
  | .hbm, ⟨5, _⟩ => ⟨S16384x2048, .f32⟩
  | .hbm, ⟨6, _⟩ => ⟨S16384x1024, .f32⟩
  | .hbm, ⟨7, _⟩ => ⟨S16384x1024, .f32⟩
  | .hbm, ⟨8, _⟩ => ⟨S16384x8x128, .f32⟩
  | .hbm, ⟨9, _⟩ => ⟨S16384x8x128, .f32⟩
  | .hbm, ⟨10, _⟩ => ⟨S_, .f32⟩
  | .hbm, ⟨11, _⟩ => ⟨S16384x8, .f32⟩
  | .hbm, ⟨12, _⟩ => ⟨S16384x8x1, .f32⟩
  | .hbm, ⟨13, _⟩ => ⟨S_, .f32⟩
  | .hbm, ⟨14, _⟩ => ⟨S16384x8x1, .f32⟩
  | .hbm, ⟨15, _⟩ => ⟨S16384x8x1, .f32⟩
  | .hbm, ⟨16, _⟩ => ⟨S_, .f32⟩
  | .hbm, ⟨17, _⟩ => ⟨S16384x8x1, .f32⟩
  | .hbm, ⟨18, _⟩ => ⟨S16384x8x1, .f32⟩
  | .hbm, ⟨19, _⟩ => ⟨S16384x8x1, .f32⟩
  | .hbm, ⟨20, _⟩ => ⟨S16384x8x128, .f32⟩
  | .hbm, ⟨21, _⟩ => ⟨S16384x8x128, .f32⟩
  | .hbm, ⟨22, _⟩ => ⟨S1x1x128, .f32⟩
  | .hbm, ⟨23, _⟩ => ⟨S16384x8x128, .f32⟩
  | .hbm, ⟨24, _⟩ => ⟨S16384x8x128, .f32⟩
  | .hbm, ⟨25, _⟩ => ⟨S16384x1024, .f32⟩
  | .hbm, ⟨26, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== WaQ.lean ====
abbrev S16384x2048 : Shape := ⟨2, ![16384, 2048]⟩
abbrev S2048x13824 : Shape := ⟨2, ![2048, 13824]⟩
abbrev S128 : Shape := ⟨1, ![128]⟩
abbrev S2048x1024 : Shape := ⟨2, ![2048, 1024]⟩
abbrev S16384 : Shape := ⟨1, ![16384]⟩
abbrev S_ : Shape := ⟨0, ![]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S1x128 : Shape := ⟨2, ![1, 128]⟩
abbrev S16384x1024 : Shape := ⟨2, ![16384, 1024]⟩
abbrev S1024x2048 : Shape := ⟨2, ![1024, 2048]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 80
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S128, .f32⟩
  | .hbm, ⟨3, _⟩ => ⟨S2048x13824, .bf16⟩
  | .hbm, ⟨4, _⟩ => ⟨S2048x1024, .bf16⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S_, .i1⟩
  | .hbm, ⟨41, _⟩ => ⟨S16384, .i1⟩
  | .hbm, ⟨42, _⟩ => ⟨S16384, .i1⟩
  | .hbm, ⟨43, _⟩ => ⟨S16384, .i1⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S16384x1, .f32⟩
  | .hbm, ⟨57, _⟩ => ⟨S1x32, .f32⟩
  | .hbm, ⟨58, _⟩ => ⟨S16384x32, .f32⟩
  | .hbm, ⟨59, _⟩ => ⟨S16384x32, .f32⟩
  | .hbm, ⟨60, _⟩ => ⟨S16384x32, .f32⟩
  | .hbm, ⟨61, _⟩ => ⟨S16384x1, .f32⟩
  | .hbm, ⟨62, _⟩ => ⟨S1x32, .f32⟩
  | .hbm, ⟨63, _⟩ => ⟨S16384x32, .f32⟩
  | .hbm, ⟨64, _⟩ => ⟨S16384x32, .f32⟩
  | .hbm, ⟨65, _⟩ => ⟨S16384x32, .f32⟩
  | .hbm, ⟨66, _⟩ => ⟨S16384x32, .f32⟩
  | .hbm, ⟨67, _⟩ => ⟨S16384x32, .f32⟩
  | .hbm, ⟨68, _⟩ => ⟨S16384x32, .f32⟩
  | .hbm, ⟨69, _⟩ => ⟨S16384x32, .f32⟩
  | .hbm, ⟨70, _⟩ => ⟨S16384x128, .f32⟩
  | .hbm, ⟨71, _⟩ => ⟨S16384x32, .f32⟩
  | .hbm, ⟨72, _⟩ => ⟨S16384x32, .f32⟩
  | .hbm, ⟨73, _⟩ => ⟨S16384x32, .f32⟩
  | .hbm, ⟨74, _⟩ => ⟨S16384x32, .f32⟩
  | .hbm, ⟨75, _⟩ => ⟨S16384x32, .f32⟩
  | .hbm, ⟨76, _⟩ => ⟨S16384x32, .f32⟩
  | .hbm, ⟨77, _⟩ => ⟨S16384x128, .f32⟩
  | .hbm, ⟨78, _⟩ => ⟨S1x128, .f32⟩
  | .hbm, ⟨79, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_cst : Ref sig .tc := ⟨.hbm, 50, rfl⟩
abbrev main_v9 : Ref sig .tc := ⟨.hbm, 51, rfl⟩
abbrev main_v10 : Ref sig .tc := ⟨.hbm, 52, rfl⟩
abbrev main_cst_1 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WaQRefIdeal.lean ====
abbrev S16384x2048 : Shape := ⟨2, ![16384, 2048]⟩
abbrev S2048x13824 : Shape := ⟨2, ![2048, 13824]⟩
abbrev S128 : Shape := ⟨1, ![128]⟩
abbrev S16384x13824 : Shape := ⟨2, ![16384, 13824]⟩
abbrev S16384x1024 : Shape := ⟨2, ![16384, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S16384x2x32 : Shape := ⟨3, ![16384, 2, 32]⟩
abbrev S16384x8x2x2x32 : Shape := ⟨5, ![16384, 8, 2, 2, 32]⟩
abbrev S16384x8x2x1x32 : Shape := ⟨5, ![16384, 8, 2, 1, 32]⟩
abbrev S16384x8x2x32 : Shape := ⟨4, ![16384, 8, 2, 32]⟩
abbrev S16384x1x2x32 : Shape := ⟨4, ![16384, 1, 2, 32]⟩

abbrev nBuf : Space → Nat
  | .hbm => 115
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S128, .f32⟩
  | .hbm, ⟨3, _⟩ => ⟨S16384x2048, .f32⟩
  | .hbm, ⟨4, _⟩ => ⟨S16384x13824, .f32⟩
  | .hbm, ⟨5, _⟩ => ⟨S16384x1024, .f32⟩
  | .hbm, ⟨6, _⟩ => ⟨S16384x8x128, .f32⟩
  | .hbm, ⟨7, _⟩ => ⟨S16384x8x128, .f32⟩
  | .hbm, ⟨8, _⟩ => ⟨S_, .f32⟩
  | .hbm, ⟨9, _⟩ => ⟨S16384x8, .f32⟩
  | .hbm, ⟨10, _⟩ => ⟨S16384x8x1, .f32⟩
  | .hbm, ⟨11, _⟩ => ⟨S_, .f32⟩
  | .hbm, ⟨12, _⟩ => ⟨S16384x8x1, .f32⟩
  | .hbm, ⟨13, _⟩ => ⟨S16384x8x1, .f32⟩
  | .hbm, ⟨14, _⟩ => ⟨S_, .f32⟩
  | .hbm, ⟨15, _⟩ => ⟨S16384x8x1, .f32⟩
  | .hbm, ⟨16, _⟩ => ⟨S16384x8x1, .f32⟩
  | .hbm, ⟨17, _⟩ => ⟨S16384x8x1, .f32⟩
  | .hbm, ⟨18, _⟩ => ⟨S16384x8x128, .f32⟩
  | .hbm, ⟨19, _⟩ => ⟨S16384x8x128, .f32⟩
  | .hbm, ⟨20, _⟩ => ⟨S1x1x128, .f32⟩
  | .hbm, ⟨21, _⟩ => ⟨S16384x8x128, .f32⟩
  | .hbm, ⟨22, _⟩ => ⟨S16384x8x128, .f32⟩
  | .hbm, ⟨23, _⟩ => ⟨S16384, .i32⟩
  | .hbm, ⟨24, _⟩ => ⟨S_, .i32⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S16384, .i32⟩
  | .hbm, ⟨33, _⟩ => ⟨S16384, .i32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i1⟩
  | .hbm, ⟨57, _⟩ => ⟨S_, .i32⟩
  | .hbm, ⟨58, _⟩ => ⟨S_, .i1⟩
  | .hbm, ⟨59, _⟩ => ⟨S16384, .i1⟩
  | .hbm, ⟨60, _⟩ => ⟨S16384, .i1⟩
  | .hbm, ⟨61, _⟩ => ⟨S16384, .i1⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S16384, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S16384x1, .f32⟩
  | .hbm, ⟨75, _⟩ => ⟨S1x32, .f32⟩
  | .hbm, ⟨76, _⟩ => ⟨S16384x32, .f32⟩
  | .hbm, ⟨77, _⟩ => ⟨S16384x32, .f32⟩
  | .hbm, ⟨78, _⟩ => ⟨S16384x32, .f32⟩
  | .hbm, ⟨79, _⟩ => ⟨S16384x1, .f32⟩
  | .hbm, ⟨80, _⟩ => ⟨S1x32, .f32⟩
  | .hbm, ⟨81, _⟩ => ⟨S16384x32, .f32⟩
  | .hbm, ⟨82, _⟩ => ⟨S16384x32, .f32⟩
  | .hbm, ⟨83, _⟩ => ⟨S16384x32, .f32⟩
  | .hbm, ⟨84, _⟩ => ⟨S16384x1x32, .f32⟩
  | .hbm, ⟨85, _⟩ => ⟨S16384x1x32, .f32⟩
  | .hbm, ⟨86, _⟩ => ⟨S16384x2x32, .f32⟩
  | .hbm, ⟨87, _⟩ => ⟨S16384x2x32, .f32⟩
  | .hbm, ⟨88, _⟩ => ⟨S16384x2x32, .f32⟩
  | .hbm, ⟨89, _⟩ => ⟨S16384x8x2x2x32, .f32⟩
  | .hbm, ⟨90, _⟩ => ⟨S16384x8x2x1x32, .f32⟩
  | .hbm, ⟨91, _⟩ => ⟨S16384x8x2x32, .f32⟩
  | .hbm, ⟨92, _⟩ => ⟨S16384x8x2x1x32, .f32⟩
  | .hbm, ⟨93, _⟩ => ⟨S16384x8x2x32, .f32⟩
  | .hbm, ⟨94, _⟩ => ⟨S16384x1x2x32, .f32⟩
  | .hbm, ⟨95, _⟩ => ⟨S16384x1x2x32, .f32⟩
  | .hbm, ⟨96, _⟩ => ⟨S16384x8x2x32, .f32⟩
  | .hbm, ⟨97, _⟩ => ⟨S16384x8x2x32, .f32⟩
  | .hbm, ⟨98, _⟩ => ⟨S16384x8x2x32, .f32⟩
  | .hbm, ⟨99, _⟩ => ⟨S16384x8x2x32, .f32⟩
  | .hbm, ⟨100, _⟩ => ⟨S16384x8x2x32, .f32⟩
  | .hbm, ⟨101, _⟩ => ⟨S16384x8x2x32, .f32⟩
  | .hbm, ⟨102, _⟩ => ⟨S16384x8x2x32, .f32⟩
  | .hbm, ⟨103, _⟩ => ⟨S16384x8x2x32, .f32⟩
  | .hbm, ⟨104, _⟩ => ⟨S16384x8x2x32, .f32⟩
  | .hbm, ⟨105, _⟩ => ⟨S16384x8x2x32, .f32⟩
  | .hbm, ⟨106, _⟩ => ⟨S16384x8x2x1x32, .f32⟩
  | .hbm, ⟨107, _⟩ => ⟨S16384x8x2x1x32, .f32⟩
  | .hbm, ⟨108, _⟩ => ⟨S16384x8x2x2x32, .f32⟩
  | .hbm, ⟨109, _⟩ => ⟨S16384x8x128, .f32⟩
  | .hbm, ⟨110, _⟩ => ⟨S_, .f32⟩
  | .hbm, ⟨111, _⟩ => ⟨S16384x8x128, .f32⟩
  | .hbm, ⟨112, _⟩ => ⟨S16384x8x128, .f32⟩
  | .hbm, ⟨113, _⟩ => ⟨S16384x1024, .f32⟩
  | .hbm, ⟨114, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v18 : Ref sig .tc := ⟨.hbm, 41, rfl⟩
abbrev main_v19 : Ref sig .tc := ⟨.hbm, 42, rfl⟩
abbrev main_c_2 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_cst_3 : Ref sig .tc := ⟨.hbm, 68, rfl⟩
abbrev main_v24 : Ref sig .tc := ⟨.hbm, 69, rfl⟩
abbrev main_v25 : Ref sig .tc := ⟨.hbm, 70, rfl⟩
abbrev main_cst_4 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_5 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩

abbrev nD : Nat := 1
abbrev τ : Topo := Topo.v7x

variable {F : FTy → Type} [FloatOps F]
-- ==== WaK.lean ====
abbrev S16384x2048 : Shape := ⟨2, ![16384, 2048]⟩
abbrev S2048x13824 : Shape := ⟨2, ![2048, 13824]⟩
abbrev S128 : Shape := ⟨1, ![128]⟩
abbrev S2048x256 : Shape := ⟨2, ![2048, 256]⟩
abbrev S16384 : Shape := ⟨1, ![16384]⟩
abbrev S_ : Shape := ⟨0, ![]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S1x128 : Shape := ⟨2, ![1, 128]⟩
abbrev S16384x256 : Shape := ⟨2, ![16384, 256]⟩
abbrev S1024x2048 : Shape := ⟨2, ![1024, 2048]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 80
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S128, .f32⟩
  | .hbm, ⟨3, _⟩ => ⟨S2048x13824, .bf16⟩
  | .hbm, ⟨4, _⟩ => ⟨S2048x256, .bf16⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S_, .i32⟩
  | .hbm, ⟨40, _⟩ => ⟨S_, .i1⟩
  | .hbm, ⟨41, _⟩ => ⟨S16384, .i1⟩
  | .hbm, ⟨42, _⟩ => ⟨S16384, .i1⟩
  | .hbm, ⟨43, _⟩ => ⟨S16384, .i1⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S16384x1, .f32⟩
  | .hbm, ⟨57, _⟩ => ⟨S1x32, .f32⟩
  | .hbm, ⟨58, _⟩ => ⟨S16384x32, .f32⟩
  | .hbm, ⟨59, _⟩ => ⟨S16384x32, .f32⟩
  | .hbm, ⟨60, _⟩ => ⟨S16384x32, .f32⟩
  | .hbm, ⟨61, _⟩ => ⟨S16384x1, .f32⟩
  | .hbm, ⟨62, _⟩ => ⟨S1x32, .f32⟩
  | .hbm, ⟨63, _⟩ => ⟨S16384x32, .f32⟩
  | .hbm, ⟨64, _⟩ => ⟨S16384x32, .f32⟩
  | .hbm, ⟨65, _⟩ => ⟨S16384x32, .f32⟩
  | .hbm, ⟨66, _⟩ => ⟨S16384x32, .f32⟩
  | .hbm, ⟨67, _⟩ => ⟨S16384x32, .f32⟩
  | .hbm, ⟨68, _⟩ => ⟨S16384x32, .f32⟩
  | .hbm, ⟨69, _⟩ => ⟨S16384x32, .f32⟩
  | .hbm, ⟨70, _⟩ => ⟨S16384x128, .f32⟩
  | .hbm, ⟨71, _⟩ => ⟨S16384x32, .f32⟩
  | .hbm, ⟨72, _⟩ => ⟨S16384x32, .f32⟩
  | .hbm, ⟨73, _⟩ => ⟨S16384x32, .f32⟩
  | .hbm, ⟨74, _⟩ => ⟨S16384x32, .f32⟩
  | .hbm, ⟨75, _⟩ => ⟨S16384x32, .f32⟩
  | .hbm, ⟨76, _⟩ => ⟨S16384x32, .f32⟩
  | .hbm, ⟨77, _⟩ => ⟨S16384x128, .f32⟩
  | .hbm, ⟨78, _⟩ => ⟨S1x128, .f32⟩
  | .hbm, ⟨79, _⟩ => ⟨S16384x256, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x256, .bf16⟩
  | .local _ .vmem, ⟨9, _⟩ => ⟨S1024x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_cst : Ref sig .tc := ⟨.hbm, 50, rfl⟩
abbrev main_v9 : Ref sig .tc := ⟨.hbm, 51, rfl⟩
abbrev main_v10 : Ref sig .tc := ⟨.hbm, 52, rfl⟩
abbrev main_cst_1 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== WaKRefIdeal.lean ====
abbrev S16384x2048 : Shape := ⟨2, ![16384, 2048]⟩
abbrev S2048x13824 : Shape := ⟨2, ![2048, 13824]⟩
abbrev S128 : Shape := ⟨1, ![128]⟩
abbrev S16384x13824 : Shape := ⟨2, ![16384, 13824]⟩
abbrev S16384x512 : Shape := ⟨2, ![16384, 512]⟩
abbrev S16384x256 : Shape := ⟨2, ![16384, 256]⟩
abbrev S16384x2x128 : Shape := ⟨3, ![16384, 2, 128]⟩
abbrev S_ : Shape := ⟨0, ![]⟩
abbrev S16384x2 : Shape := ⟨2, ![16384, 2]⟩
abbrev S16384x2x1 : Shape := ⟨3, ![16384, 2, 1]⟩
abbrev S1x1x128 : Shape := ⟨3, ![1, 1, 128]⟩
abbrev S16384 : Shape := ⟨1, ![16384]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S16384x1x32 : Shape := ⟨3, ![16384, 1, 32]⟩
abbrev S16384x2x32 : Shape := ⟨3, ![16384, 2, 32]⟩
abbrev S16384x2x2x2x32 : Shape := ⟨5, ![16384, 2, 2, 2, 32]⟩
abbrev S16384x2x2x1x32 : Shape := ⟨5, ![16384, 2, 2, 1, 32]⟩
abbrev S16384x2x2x32 : Shape := ⟨4, ![16384, 2, 2, 32]⟩
abbrev S16384x1x2x32 : Shape := ⟨4, ![16384, 1, 2, 32]⟩

abbrev nBuf : Space → Nat
  | .hbm => 114
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x13824, .f32⟩
  | .hbm, ⟨2, _⟩ => ⟨S128, .f32⟩
  | .hbm, ⟨3, _⟩ => ⟨S16384x2048, .f32⟩
  | .hbm, ⟨4, _⟩ => ⟨S16384x13824, .f32⟩
  | .hbm, ⟨5, _⟩ => ⟨S16384x512, .f32⟩
  | .hbm, ⟨6, _⟩ => ⟨S16384x256, .f32⟩
  | .hbm, ⟨7, _⟩ => ⟨S16384x256, .f32⟩
  | .hbm, ⟨8, _⟩ => ⟨S16384x2x128, .f32⟩
  | .hbm, ⟨9, _⟩ => ⟨S16384x2x128, .f32⟩
  | .hbm, ⟨10, _⟩ => ⟨S_, .f32⟩
  | .hbm, ⟨11, _⟩ => ⟨S16384x2, .f32⟩
  | .hbm, ⟨12, _⟩ => ⟨S16384x2x1, .f32⟩
  | .hbm, ⟨13, _⟩ => ⟨S_, .f32⟩
  | .hbm, ⟨14, _⟩ => ⟨S16384x2x1, .f32⟩
  | .hbm, ⟨15, _⟩ => ⟨S16384x2x1, .f32⟩
  | .hbm, ⟨16, _⟩ => ⟨S_, .f32⟩
  | .hbm, ⟨17, _⟩ => ⟨S16384x2x1, .f32⟩
  | .hbm, ⟨18, _⟩ => ⟨S16384x2x1, .f32⟩
  | .hbm, ⟨19, _⟩ => ⟨S16384x2x1, .f32⟩
  | .hbm, ⟨20, _⟩ => ⟨S16384x2x128, .f32⟩
  | .hbm, ⟨21, _⟩ => ⟨S16384x2x128, .f32⟩
  | .hbm, ⟨22, _⟩ => ⟨S1x1x128, .f32⟩
  | .hbm, ⟨23, _⟩ => ⟨S16384x2x128, .f32⟩
  | .hbm, ⟨24, _⟩ => ⟨S16384x2x128, .f32⟩
  | .hbm, ⟨25, _⟩ => ⟨S16384, .i32⟩
  | .hbm, ⟨26, _⟩ => ⟨S_, .i32⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i1⟩
  | .hbm, ⟨34, _⟩ => ⟨S16384, .i32⟩
  | .hbm, ⟨35, _⟩ => ⟨S16384, .i32⟩
  | .hbm, ⟨36, _⟩ => ⟨S_, .i32⟩
  | .hbm, ⟨37, _⟩ => ⟨S16384, .i32⟩
  | .hbm, ⟨38, _⟩ => ⟨S16384, .i1⟩
  | .hbm, ⟨39, _⟩ => ⟨S16384, .i1⟩
  | .hbm, ⟨40, _⟩ => ⟨S_, .i32⟩
  | .hbm, ⟨41, _⟩ => ⟨S16384, .i32⟩
  | .hbm, ⟨42, _⟩ => ⟨S16384, .i32⟩
  | .hbm, ⟨43, _⟩ => ⟨S16384, .i32⟩
  | .hbm, ⟨44, _⟩ => ⟨S16384, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S_, .i32⟩
  | .hbm, ⟨54, _⟩ => ⟨S16384, .i32⟩
  | .hbm, ⟨55, _⟩ => ⟨S16384, .i1⟩
  | .hbm, ⟨56, _⟩ => ⟨S_, .i32⟩
  | .hbm, ⟨57, _⟩ => ⟨S16384, .i32⟩
  | .hbm, ⟨58, _⟩ => ⟨S16384, .i1⟩
  | .hbm, ⟨59, _⟩ => ⟨S_, .i32⟩
  | .hbm, ⟨60, _⟩ => ⟨S_, .i1⟩
  | .hbm, ⟨61, _⟩ => ⟨S16384, .i1⟩
  | .hbm, ⟨62, _⟩ => ⟨S16384, .i1⟩
  | .hbm, ⟨63, _⟩ => ⟨S16384, .i1⟩
  | .hbm, ⟨64, _⟩ => ⟨S16384, .i32⟩
  | .hbm, ⟨65, _⟩ => ⟨S16384, .i32⟩
  | .hbm, ⟨66, _⟩ => ⟨S16384, .i32⟩
  | .hbm, ⟨67, _⟩ => ⟨S16384, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S16384x1, .f32⟩
  | .hbm, ⟨77, _⟩ => ⟨S1x32, .f32⟩
  | .hbm, ⟨78, _⟩ => ⟨S16384x32, .f32⟩
  | .hbm, ⟨79, _⟩ => ⟨S16384x32, .f32⟩
  | .hbm, ⟨80, _⟩ => ⟨S16384x32, .f32⟩
  | .hbm, ⟨81, _⟩ => ⟨S16384x1, .f32⟩
  | .hbm, ⟨82, _⟩ => ⟨S1x32, .f32⟩
  | .hbm, ⟨83, _⟩ => ⟨S16384x32, .f32⟩
  | .hbm, ⟨84, _⟩ => ⟨S16384x32, .f32⟩
  | .hbm, ⟨85, _⟩ => ⟨S16384x32, .f32⟩
  | .hbm, ⟨86, _⟩ => ⟨S16384x1x32, .f32⟩
  | .hbm, ⟨87, _⟩ => ⟨S16384x1x32, .f32⟩
  | .hbm, ⟨88, _⟩ => ⟨S16384x2x32, .f32⟩
  | .hbm, ⟨89, _⟩ => ⟨S16384x2x32, .f32⟩
  | .hbm, ⟨90, _⟩ => ⟨S16384x2x32, .f32⟩
  | .hbm, ⟨91, _⟩ => ⟨S16384x2x2x2x32, .f32⟩
  | .hbm, ⟨92, _⟩ => ⟨S16384x2x2x1x32, .f32⟩
  | .hbm, ⟨93, _⟩ => ⟨S16384x2x2x32, .f32⟩
  | .hbm, ⟨94, _⟩ => ⟨S16384x2x2x1x32, .f32⟩
  | .hbm, ⟨95, _⟩ => ⟨S16384x2x2x32, .f32⟩
  | .hbm, ⟨96, _⟩ => ⟨S16384x1x2x32, .f32⟩
  | .hbm, ⟨97, _⟩ => ⟨S16384x1x2x32, .f32⟩
  | .hbm, ⟨98, _⟩ => ⟨S16384x2x2x32, .f32⟩
  | .hbm, ⟨99, _⟩ => ⟨S16384x2x2x32, .f32⟩
  | .hbm, ⟨100, _⟩ => ⟨S16384x2x2x32, .f32⟩
  | .hbm, ⟨101, _⟩ => ⟨S16384x2x2x32, .f32⟩
  | .hbm, ⟨102, _⟩ => ⟨S16384x2x2x32, .f32⟩
  | .hbm, ⟨103, _⟩ => ⟨S16384x2x2x32, .f32⟩
  | .hbm, ⟨104, _⟩ => ⟨S16384x2x2x32, .f32⟩
  | .hbm, ⟨105, _⟩ => ⟨S16384x2x2x32, .f32⟩
  | .hbm, ⟨106, _⟩ => ⟨S16384x2x2x32, .f32⟩
  | .hbm, ⟨107, _⟩ => ⟨S16384x2x2x32, .f32⟩
  | .hbm, ⟨108, _⟩ => ⟨S16384x2x2x1x32, .f32⟩
  | .hbm, ⟨109, _⟩ => ⟨S16384x2x2x1x32, .f32⟩
  | .hbm, ⟨110, _⟩ => ⟨S16384x2x2x2x32, .f32⟩
  | .hbm, ⟨111, _⟩ => ⟨S16384x2x128, .f32⟩
  | .hbm, ⟨112, _⟩ => ⟨S16384x256, .f32⟩
  | .hbm, ⟨113, _⟩ => ⟨S16384x256, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_3 : Ref sig .tc := ⟨.hbm, 70, rfl⟩
abbrev main_v26 : Ref sig .tc := ⟨.hbm, 71, rfl⟩
abbrev main_v27 : Ref sig .tc := ⟨.hbm, 72, rfl⟩
abbrev main_cst_4 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩

abbrev nD : Nat := 1
abbrev τ : Topo := Topo.v7x

variable {F : FTy → Type} [FloatOps F]
-- ==== CtxIn.lean ====
abbrev S256x2048 : Shape := ⟨2, ![256, 2048]⟩
abbrev S2048x13824 : Shape := ⟨2, ![2048, 13824]⟩
abbrev S256x13824 : Shape := ⟨2, ![256, 13824]⟩
abbrev S2048x512 : Shape := ⟨2, ![2048, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048x13824, .f32⟩
  | .hbm, ⟨2, _⟩ => ⟨S256x13824, .f32⟩
  | .local _ .vmem, ⟨0, _⟩ => ⟨S256x2048, .f32⟩
  | .local _ .vmem, ⟨1, _⟩ => ⟨S2048x512, .f32⟩
  | .local _ .vmem, ⟨2, _⟩ => ⟨S2048x512, .f32⟩
  | .local _ .vmem, ⟨3, _⟩ => ⟨S256x512, .f32⟩
  | .local _ .vmem, ⟨4, _⟩ => ⟨S256x512, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![27, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxInRefIdeal.lean ====
abbrev S256x2048 : Shape := ⟨2, ![256, 2048]⟩
abbrev S2048x13824 : Shape := ⟨2, ![2048, 13824]⟩
abbrev S256x13824 : Shape := ⟨2, ![256, 13824]⟩

abbrev nBuf : Space → Nat
  | .hbm => 3
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x13824, .f32⟩
  | .hbm, ⟨2, _⟩ => ⟨S256x13824, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Norm.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== CtxBranch.lean ====
abbrev S256x1024 : Shape := ⟨2, ![256, 1024]⟩
abbrev S1024x2048 : Shape := ⟨2, ![1024, 2048]⟩
abbrev S256x2048 : Shape := ⟨2, ![256, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x2048, .f32⟩
  | .local _ .vmem, ⟨0, _⟩ => ⟨S256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxBranchRefIdeal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== CtxOut.lean ====
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .f32⟩
  | .local _ .vmem, ⟨0, _⟩ => ⟨S256x2048, .f32⟩
  | .local _ .vmem, ⟨1, _⟩ => ⟨S2048x1024, .f32⟩
  | .local _ .vmem, ⟨2, _⟩ => ⟨S2048x1024, .f32⟩
  | .local _ .vmem, ⟨3, _⟩ => ⟨S256x1024, .f32⟩
  | .local _ .vmem, ⟨4, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxOutRefIdeal.lean ====
abbrev S256x2048 : Shape := ⟨2, ![256, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== CtxExpert.lean ====
abbrev S16x32x2048 : Shape := ⟨3, ![16, 32, 2048]⟩
abbrev S16x2048x1024 : Shape := ⟨3, ![16, 2048, 1024]⟩
abbrev S16x32x1024 : Shape := ⟨3, ![16, 32, 1024]⟩
abbrev S1x32x2048 : Shape := ⟨3, ![1, 32, 2048]⟩
abbrev S1x2048x1024 : Shape := ⟨3, ![1, 2048, 1024]⟩
abbrev S1x32x1024 : Shape := ⟨3, ![1, 32, 1024]⟩
abbrev S32x2048 : Shape := ⟨2, ![32, 2048]⟩
abbrev S2048x1024 : Shape := ⟨2, ![2048, 1024]⟩
abbrev S32x1024 : Shape := ⟨2, ![32, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x32x2048, .f32⟩
  | .hbm, ⟨1, _⟩ => ⟨S16x2048x1024, .f32⟩
  | .hbm, ⟨2, _⟩ => ⟨S16x32x1024, .f32⟩
  | .local _ .vmem, ⟨0, _⟩ => ⟨S1x32x2048, .f32⟩
  | .local _ .vmem, ⟨1, _⟩ => ⟨S1x32x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x32x1024, .f32⟩
  | .local _ .vmem, ⟨5, _⟩ => ⟨S1x32x1024, .f32⟩
  | _, _ => ⟨S16x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== CtxExpertRefIdeal.lean ====
abbrev S16x32x2048 : Shape := ⟨3, ![16, 32, 2048]⟩
abbrev S16x2048x1024 : Shape := ⟨3, ![16, 2048, 1024]⟩
abbrev S16x32x1024 : Shape := ⟨3, ![16, 32, 1024]⟩

abbrev nBuf : Space → Nat
  | .hbm => 3
  | .vmem => 0
  | .smem => 0
  | _ => 0

abbrev bufTy : (tb : Table) → Fin (tcTables nBuf tb) → BufTy
  | .hbm, ⟨0, _⟩ => ⟨S16x32x2048, .f32⟩
  | .hbm, ⟨1, _⟩ => ⟨S16x2048x1024, .f32⟩
  | .hbm, ⟨2, _⟩ => ⟨S16x32x1024, .f32⟩
  | _, _ => ⟨S16x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== CtxDown.lean ====
abbrev S16x32x1024 : Shape := ⟨3, ![16, 32, 1024]⟩
abbrev S16x1024x2048 : Shape := ⟨3, ![16, 1024, 2048]⟩
abbrev S16x32x2048 : Shape := ⟨3, ![16, 32, 2048]⟩
abbrev S1x32x1024 : Shape := ⟨3, ![1, 32, 1024]⟩
abbrev S1x1024x1024 : Shape := ⟨3, ![1, 1024, 1024]⟩
abbrev S32x1024 : Shape := ⟨2, ![32, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x32x1024, .f32⟩
  | .hbm, ⟨1, _⟩ => ⟨S16x1024x2048, .f32⟩
  | .hbm, ⟨2, _⟩ => ⟨S16x32x2048, .f32⟩
  | .local _ .vmem, ⟨0, _⟩ => ⟨S1x32x1024, .f32⟩
  | .local _ .vmem, ⟨1, _⟩ => ⟨S1x32x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x32x1024, .f32⟩
  | .local _ .vmem, ⟨5, _⟩ => ⟨S1x32x1024, .f32⟩
  | _, _ => ⟨S16x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== CtxDownRefIdeal.lean ====
abbrev S16x32x1024 : Shape := ⟨3, ![16, 32, 1024]⟩
abbrev S16x1024x2048 : Shape := ⟨3, ![16, 1024, 2048]⟩
abbrev S16x32x2048 : Shape := ⟨3, ![16, 32, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16x32x1024, .f32⟩
  | .hbm, ⟨1, _⟩ => ⟨S16x1024x2048, .f32⟩
  | .hbm, ⟨2, _⟩ => ⟨S16x32x2048, .f32⟩
  | _, _ => ⟨S16x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== CtxWaKV.lean ====
abbrev S256x2048 : Shape := ⟨2, ![256, 2048]⟩
abbrev S2048x13824 : Shape := ⟨2, ![2048, 13824]⟩
abbrev S2048x512 : Shape := ⟨2, ![2048, 512]⟩
abbrev S256x512 : Shape := ⟨2, ![256, 512]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048x13824, .f32⟩
  | .hbm, ⟨2, _⟩ => ⟨S2048x512, .f32⟩
  | .hbm, ⟨3, _⟩ => ⟨S256x512, .f32⟩
  | .local _ .vmem, ⟨0, _⟩ => ⟨S256x2048, .f32⟩
  | .local _ .vmem, ⟨1, _⟩ => ⟨S2048x512, .f32⟩
  | .local _ .vmem, ⟨2, _⟩ => ⟨S256x512, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== CtxWaKVRefIdeal.lean ====
abbrev S256x2048 : Shape := ⟨2, ![256, 2048]⟩
abbrev S2048x13824 : Shape := ⟨2, ![2048, 13824]⟩
abbrev S2048x512 : Shape := ⟨2, ![2048, 512]⟩
abbrev S256x512 : Shape := ⟨2, ![256, 512]⟩

abbrev nBuf : Space → Nat
  | .hbm => 4
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x13824, .f32⟩
  | .hbm, ⟨2, _⟩ => ⟨S2048x512, .f32⟩
  | .hbm, ⟨3, _⟩ => ⟨S256x512, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== CtxNaKV.lean ====
abbrev S256x2048 : Shape := ⟨2, ![256, 2048]⟩
abbrev S2048x13824 : Shape := ⟨2, ![2048, 13824]⟩
abbrev S2048x2048 : Shape := ⟨2, ![2048, 2048]⟩
abbrev S2048x1024 : Shape := ⟨2, ![2048, 1024]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048x13824, .f32⟩
  | .hbm, ⟨2, _⟩ => ⟨S2048x2048, .f32⟩
  | .hbm, ⟨3, _⟩ => ⟨S256x2048, .f32⟩
  | .local _ .vmem, ⟨0, _⟩ => ⟨S256x2048, .f32⟩
  | .local _ .vmem, ⟨1, _⟩ => ⟨S2048x1024, .f32⟩
  | .local _ .vmem, ⟨2, _⟩ => ⟨S2048x1024, .f32⟩
  | .local _ .vmem, ⟨3, _⟩ => ⟨S256x1024, .f32⟩
  | .local _ .vmem, ⟨4, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxNaKVRefIdeal.lean ====
abbrev S256x2048 : Shape := ⟨2, ![256, 2048]⟩
abbrev S2048x13824 : Shape := ⟨2, ![2048, 13824]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x13824, .f32⟩
  | .hbm, ⟨2, _⟩ => ⟨S2048x2048, .f32⟩
  | .hbm, ⟨3, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Softmax.lean ====
/- Sums, maxima and quotients of extended reals, as a softmax takes them: nothing here mentions a program. -/
module

public import Idealize.ShloMosaic.PureOps.Ideal.Laws

@[expose] public section

noncomputable section

namespace Cert.Softmax

open Idealize.ShloMosaic
open scoped BigOperators

/-- A finite number that is not negative. -/
def NN (x : EReal) : Prop := ∃ r : ℝ, 0 ≤ r ∧ x = (r : EReal)

/-- A finite number. -/
def Fin' (x : EReal) : Prop := ∃ r : ℝ, x = (r : EReal)

theorem NN.zero : NN 0 := ⟨0, le_refl _, rfl⟩

theorem NN.add {x y : EReal} (hx : NN x) (hy : NN y) : NN (x + y) := by
  obtain ⟨a, ha, rfl⟩ := hx
  obtain ⟨b, hb, rfl⟩ := hy
  exact ⟨a + b, add_nonneg ha hb, (EReal.coe_add a b).symm⟩

theorem NN.sum {ι : Type} (s : Finset ι) (f : ι → EReal) (h : ∀ i, NN (f i)) : NN (∑ i ∈ s, f i) := by
  classical
  induction s using Finset.induction_on with
  | empty => simpa using NN.zero
  | insert a s ha ih => rw [Finset.sum_insert ha]; exact (h a).add ih

theorem Fin'.add {x y : EReal} (hx : Fin' x) (hy : Fin' y) : Fin' (x + y) := by
  obtain ⟨a, rfl⟩ := hx
  obtain ⟨b, rfl⟩ := hy
  exact ⟨a + b, (EReal.coe_add a b).symm⟩

theorem Fin'.mul {x y : EReal} (hx : Fin' x) (hy : Fin' y) : Fin' (x * y) := by
  obtain ⟨a, rfl⟩ := hx
  obtain ⟨b, rfl⟩ := hy
  exact ⟨a * b, (EReal.coe_mul a b).symm⟩

theorem Fin'.sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih

theorem Fin'.of_ne {x : EReal} (h1 : x ≠ ⊥) (h2 : x ≠ ⊤) : Fin' x :=
  ⟨x.toReal, (EReal.coe_toReal h2 h1).symm⟩

theorem Fin'.ne_top {x : EReal} (h : Fin' x) : x ≠ ⊤ := by
  obtain ⟨a, rfl⟩ := h; exact EReal.coe_ne_top a

theorem Fin'.ne_bot {x : EReal} (h : Fin' x) : x ≠ ⊥ := by
  obtain ⟨a, rfl⟩ := h; exact EReal.coe_ne_bot a

/-- A number whose absolute value is below `+∞` is finite. -/
theorem Fin'.of_abs {x : EReal} (h : max x (-x) < ⊤) : Fin' x := by
  refine Fin'.of_ne (fun hb => ?_) (fun ht => ?_)
  · subst hb; simp at h
  · subst ht; simp at h

/-- The exponential of a score that is finite or `-∞`, minus a finite number, is finite and not negative. -/
theorem exp_nn {x m : EReal} (hx : x ≠ ⊤) (hm : Fin' m) : NN (Ideal.exp (x - m)) := by
  obtain ⟨b, rfl⟩ := hm
  induction x using EReal.rec with
  | bot => rw [EReal.bot_sub]; exact NN.zero
  | top => exact absurd rfl hx
  | coe a =>
    rw [← EReal.coe_sub, Ideal.exp_coe]
    exact ⟨_, (Real.exp_pos _).le, rfl⟩

theorem exp_pos {x m : EReal} (hx : Fin' x) (hm : Fin' m) : 0 < Ideal.exp (x - m) := by
  obtain ⟨a, rfl⟩ := hx
  obtain ⟨b, rfl⟩ := hm
  rw [← EReal.coe_sub, Ideal.exp_coe]
  exact_mod_cast Real.exp_pos _

theorem exp_bot_sub (m : EReal) : Ideal.exp (⊥ - m) = 0 := by
  rw [EReal.bot_sub]; rfl

theorem NN.nonneg {x : EReal} (h : NN x) : 0 ≤ x := by
  obtain ⟨a, ha, rfl⟩ := h; exact_mod_cast ha

/-- Multiplying by a finite number that is not negative distributes over any sum of extended reals. -/
theorem sum_mul_nn {ι : Type} (s : Finset ι) (f : ι → EReal) {z : EReal} (hz : NN z) :
    (∑ i ∈ s, f i) * z = ∑ i ∈ s, f i * z := by
  classical
  obtain ⟨r, hr, rfl⟩ := hz
  induction s using Finset.induction_on with
  | empty => simp
  | insert a s ha ih =>
    rw [Finset.sum_insert ha, Finset.sum_insert ha, ← ih,
      EReal.right_distrib_of_nonneg_of_ne_top (by exact_mod_cast hr) (EReal.coe_ne_top r)]

theorem inv_nn {z : EReal} (hz : NN z) : NN z⁻¹ := by
  obtain ⟨r, hr, rfl⟩ := hz
  exact ⟨r⁻¹, inv_nonneg.mpr hr, (EReal.coe_inv r).symm⟩

/-- Weights divided by their (finite, positive) denominator before they meet the values, or the weighted sum divided
    after: the same number. -/
theorem sum_div_mul {ι : Type} (s : Finset ι) (e v : ι → EReal) {z : EReal} (hz : NN z) (h0 : z ≠ 0) :
    ∑ i ∈ s, Ideal.div (e i) z * v i = (∑ i ∈ s, e i * v i) * z⁻¹ := by
  rw [sum_mul_nn s _ (inv_nn hz)]
  refine Finset.sum_congr rfl fun i _ => ?_
  rw [Ideal.div, if_neg h0, mul_assoc, mul_comm z⁻¹, ← mul_assoc]

/-- Two weighted sums under one denominator. -/
theorem two_sums {ι κ : Type} [Fintype ι] [Fintype κ] (e v : ι → EReal) (e' v' : κ → EReal) {z : EReal} (hz : NN z)
    (h0 : z ≠ 0) :
    ∑ i, Ideal.div (e i) z * v i + ∑ i, Ideal.div (e' i) z * v' i
      = Ideal.div (∑ i, e i * v i + ∑ i, e' i * v' i) z := by
  rw [sum_div_mul _ e v hz h0, sum_div_mul _ e' v' hz h0, Ideal.div, if_neg h0]
  obtain ⟨r, hr, hi⟩ := inv_nn hz
  rw [hi, EReal.right_distrib_of_nonneg_of_ne_top (by exact_mod_cast hr) (EReal.coe_ne_top r)]

/-- A sum over a window of `n` positions that begins at `o` is the sum over all `N` positions, where what the window
    leaves out is zero and what the window holds past the ends is zero. -/
theorem sum_window {n N : ℕ} (o : ℤ) (f : Fin n → EReal) (g : Fin N → EReal)
    (h1 : ∀ (x : Fin n) (t : Fin N), (t.val : ℤ) = o + x.val → f x = g t)
    (h2 : ∀ x : Fin n, o + x.val < 0 ∨ (N : ℤ) ≤ o + x.val → f x = 0)
    (h3 : ∀ t : Fin N, (t.val : ℤ) < o ∨ o + n ≤ t.val → g t = 0) :
    ∑ x, f x = ∑ t, g t := by
  have key : ∀ x : Fin n, f x ≠ 0 → 0 ≤ o + x.val ∧ o + x.val < N := by
    intro x hx
    by_contra hc
    exact hx (h2 x (by omega))
  refine Finset.sum_bij_ne_zero (fun x _ hx => ⟨(o + x.val).toNat, by have := key x hx; omega⟩) ?_ ?_ ?_ ?_
  · intro x _ hx; exact Finset.mem_univ _
  · intro x _ hx y _ hy he
    have hx' := key x hx
    have hy' := key y hy
    have := Fin.mk.inj_iff.mp he
    exact Fin.ext (by omega)
  · intro t _ ht
    have hb : ¬ ((t.val : ℤ) < o ∨ o + n ≤ t.val) := fun hb => ht (h3 t hb)
    have hlt : ((t.val : ℤ) - o).toNat < n := by omega
    have hf : f ⟨((t.val : ℤ) - o).toNat, hlt⟩ = g t := h1 _ _ (by show (t.val : ℤ) = o + (((t.val : ℤ) - o).toNat : ℕ); omega)
    refine ⟨⟨((t.val : ℤ) - o).toNat, hlt⟩, Finset.mem_univ _, by rw [hf]; exact ht, Fin.ext ?_⟩
    show (o + (((t.val : ℤ) - o).toNat : ℕ)).toNat = t.val
    omega
  · intro x _ hx
    have := key x hx
    exact h1 x _ (by show ((o + x.val).toNat : ℤ) = o + x.val; omega)

/-- The same for the greatest of the scores, where the scores left out are `-∞`. -/
theorem sup_window {n N : ℕ} (o : ℤ) (f : Fin n → EReal) (g : Fin N → EReal)
    (h1 : ∀ (x : Fin n) (t : Fin N), (t.val : ℤ) = o + x.val → f x = g t)
    (h2 : ∀ x : Fin n, o + x.val < 0 ∨ (N : ℤ) ≤ o + x.val → f x = ⊥)
    (h3 : ∀ t : Fin N, (t.val : ℤ) < o ∨ o + n ≤ t.val → g t = ⊥) :
    Finset.univ.sup f = Finset.univ.sup g := by
  apply le_antisymm
  · refine Finset.sup_le fun x _ => ?_
    by_cases hx : o + x.val < 0 ∨ (N : ℤ) ≤ o + x.val
    · rw [h2 x hx]; exact bot_le
    · have hlt : (o + x.val).toNat < N := by omega
      rw [h1 x ⟨_, hlt⟩ (by show ((o + x.val).toNat : ℤ) = o + x.val; omega)]
      exact Finset.le_sup (f := g) (Finset.mem_univ _)
  · refine Finset.sup_le fun t _ => ?_
    by_cases ht : (t.val : ℤ) < o ∨ o + n ≤ t.val
    · rw [h3 t ht]; exact bot_le
    · have hlt : ((t.val : ℤ) - o).toNat < n := by omega
      rw [← h1 ⟨_, hlt⟩ t (by show (t.val : ℤ) = o + (((t.val : ℤ) - o).toNat : ℕ); omega)]
      exact Finset.le_sup (f := f) (Finset.mem_univ _)

/-- A maximum folded from `-∞` is the supremum. -/
theorem fold_max {ι : Type} (s : Finset ι) (f : ι → EReal) : Finset.fold max ⊥ f s = s.sup f := rfl

/-- ATTENTION WITH A SINK: the keys' scores `s`, the context's scores `c`, the sink `z`; the values `v` and `w`. -/
def att {N M : ℕ} (s : Fin N → EReal) (c : Fin M → EReal) (z : EReal) (v : Fin N → EReal) (w : Fin M → EReal) : EReal :=
  let m := max (max (Finset.univ.sup s) (Finset.univ.sup c)) z
  Ideal.div (∑ t, Ideal.exp (s t - m) * v t + ∑ t, Ideal.exp (c t - m) * w t)
    (∑ t, Ideal.exp (s t - m) + ∑ t, Ideal.exp (c t - m) + Ideal.exp (z - m))

/-- The scores of a window stand for those of all positions. -/
theorem att_window {n N M : ℕ} (o : ℤ) (f : Fin n → EReal) (g : Fin N → EReal) (c : Fin M → EReal) (z : EReal)
    (u : Fin n → EReal) (v : Fin N → EReal) (w : Fin M → EReal)
    (h1 : ∀ (x : Fin n) (t : Fin N), (t.val : ℤ) = o + x.val → f x = g t)
    (hv : ∀ (x : Fin n) (t : Fin N), (t.val : ℤ) = o + x.val → u x = v t)
    (h2 : ∀ x : Fin n, o + x.val < 0 ∨ (N : ℤ) ≤ o + x.val → f x = ⊥)
    (h3 : ∀ t : Fin N, (t.val : ℤ) < o ∨ o + n ≤ t.val → g t = ⊥) :
    att f c z u w = att g c z v w := by
  unfold att
  rw [sup_window o f g h1 h2 h3]
  dsimp only
  generalize max (max (Finset.univ.sup g) (Finset.univ.sup c)) z = m
  rw [sum_window o (fun x => Ideal.exp (f x - m) * u x) (fun t => Ideal.exp (g t - m) * v t)
      (fun x t h => by rw [h1 x t h, hv x t h]) (fun x h => by rw [h2 x h, exp_bot_sub, zero_mul])
      (fun t h => by rw [h3 t h, exp_bot_sub, zero_mul]),
    sum_window o (fun x => Ideal.exp (f x - m)) (fun t => Ideal.exp (g t - m))
      (fun x t h => by rw [h1 x t h]) (fun x h => by rw [h2 x h, exp_bot_sub])
      (fun t h => by rw [h3 t h, exp_bot_sub])]

/-- A row of the local scores, the context's and the sink's, side by side. -/
def row {N M : ℕ} (s : Fin N → EReal) (c : Fin M → EReal) (z : EReal) (j : Fin (N + M + 1)) : EReal :=
  if h : j.val < N then s ⟨j.val, h⟩ else if h' : j.val - N < M then c ⟨j.val - N, h'⟩ else z

theorem row_sum {N M : ℕ} (s : Fin N → EReal) (c : Fin M → EReal) (z : EReal) (φ : EReal → EReal) :
    ∑ j, φ (row s c z j) = ∑ t, φ (s t) + ∑ t, φ (c t) + φ z := by
  rw [Fin.sum_univ_castSucc, Fin.sum_univ_add]
  congr 1
  · congr 1
    · refine Finset.sum_congr rfl fun t _ => ?_
      simp [row]
    · refine Finset.sum_congr rfl fun t _ => ?_
      simp [row]
  · simp [row]

theorem row_sup {N M : ℕ} (s : Fin N → EReal) (c : Fin M → EReal) (z : EReal) :
    Finset.univ.sup (row s c z) = max (max (Finset.univ.sup s) (Finset.univ.sup c)) z := by
  apply le_antisymm
  · refine Finset.sup_le fun j _ => ?_
    unfold row
    split
    · exact le_max_of_le_left (le_max_of_le_left (Finset.le_sup (f := s) (Finset.mem_univ _)))
    · split
      · exact le_max_of_le_left (le_max_of_le_right (Finset.le_sup (f := c) (Finset.mem_univ _)))
      · exact le_max_right _ _
  · refine max_le (max_le (Finset.sup_le fun t _ => ?_) (Finset.sup_le fun t _ => ?_)) ?_
    · have h : row s c z ⟨t.val, by omega⟩ = s t := by simp [row]
      exact h.symm.le.trans (Finset.le_sup (f := row s c z) (Finset.mem_univ _))
    · have h : row s c z ⟨N + t.val, by omega⟩ = c t := by simp [row]
      exact h.symm.le.trans (Finset.le_sup (f := row s c z) (Finset.mem_univ _))
    · have h : row s c z ⟨N + M, by omega⟩ = z := by simp [row]
      exact h.symm.le.trans (Finset.le_sup (f := row s c z) (Finset.mem_univ _))

/-- SOFTMAX OF A ROW, then the values: the attention with a sink, where the scores are finite or masked. -/
theorem softmax_row {N M : ℕ} (s : Fin N → EReal) (c : Fin M → EReal) (z : EReal) (v : Fin N → EReal) (w : Fin M → EReal)
    (hs : ∀ t, s t ≠ ⊤) (hc : ∀ t, c t ≠ ⊤) (hz : Fin' z) (m d : EReal)
    (hm : m = Finset.univ.sup (row s c z)) (hd : d = ∑ j, Ideal.exp (row s c z j - m)) :
    ∑ t, Ideal.div (Ideal.exp (s t - m)) d * v t + ∑ t, Ideal.div (Ideal.exp (c t - m)) d * w t = att s c z v w := by
  rw [row_sup] at hm
  rw [row_sum s c z (fun x => Ideal.exp (x - m))] at hd
  have hmf : Fin' m := by
    refine Fin'.of_ne (fun hb => ?_) (fun ht => ?_)
    · exact hz.ne_bot (le_bot_iff.mp (hb ▸ hm ▸ le_max_right _ _))
    · have hlt : m < ⊤ := by
        rw [hm]
        refine max_lt (max_lt ?_ ?_) (lt_top_iff_ne_top.mpr hz.ne_top)
        · exact (Finset.sup_lt_iff (bot_lt_top)).mpr fun t _ => lt_top_iff_ne_top.mpr (hs t)
        · exact (Finset.sup_lt_iff (bot_lt_top)).mpr fun t _ => lt_top_iff_ne_top.mpr (hc t)
      exact hlt.ne ht
  have hdn : NN (∑ t, Ideal.exp (s t - m) + ∑ t, Ideal.exp (c t - m)) :=
    (NN.sum _ _ fun t => exp_nn (hs t) hmf).add (NN.sum _ _ fun t => exp_nn (hc t) hmf)
  have hpos : 0 < d := by
    rw [hd]
    exact lt_of_lt_of_le (exp_pos hz hmf) (le_add_of_nonneg_left hdn.nonneg)
  have hnn : NN d := hd ▸ hdn.add (exp_nn hz.ne_top hmf)
  rw [two_sums _ v _ w hnn hpos.ne', hd]
  unfold att
  dsimp only
  rw [← hm]

end Cert.Softmax

end
-- ==== Proof.Words.lean ====
/- 32-bit words of index arithmetic read as the integers they stand for. -/
module

public import Idealize.ShloMosaic.Lib.WordArith

@[expose] public section

namespace Cert.Words

open Idealize.ShloMosaic Idealize.ShloMosaic.WordArith

theorem toInt_addi (x y : BitVec 32) (h1 : -2 ^ 31 ≤ x.toInt + y.toInt) (h2 : x.toInt + y.toInt < 2 ^ 31) :
    (IntOp.addi x y).toInt = x.toInt + y.toInt := toInt_add_of_bounds x y h1 h2

theorem toInt_subi (x y : BitVec 32) (h1 : -2 ^ 31 ≤ x.toInt - y.toInt) (h2 : x.toInt - y.toInt < 2 ^ 31) :
    (IntOp.subi x y).toInt = x.toInt - y.toInt := toInt_sub_of_bounds x y h1 h2

theorem toInt_muli (x y : BitVec 32) (h1 : -2 ^ 31 ≤ x.toInt * y.toInt) (h2 : x.toInt * y.toInt < 2 ^ 31) :
    (IntOp.muli x y).toInt = x.toInt * y.toInt := toInt_mul_of_bounds x y h1 h2

/-- The absolute value of a word that is not the least one. -/
theorem toInt_absi (x : BitVec 32) (h : -2 ^ 31 < x.toInt) : (IntOp.absi x).toInt = |x.toInt| := by
  unfold IntOp.absi
  have hc := BitVec.toInt_eq_toNat_cond x
  have hlt := x.isLt
  by_cases hm : x.msb = true
  · rw [if_pos hm]
    have hge := BitVec.msb_eq_true_iff_two_mul_ge.mp hm
    rw [BitVec.toInt_neg, Int.bmod_def]
    have : x.toInt < 0 := by omega
    rw [abs_of_neg this]
    omega
  · rw [if_neg hm]
    have hge : 2 * x.toNat < 2 ^ 32 := by
      by_contra hcon
      exact hm (BitVec.msb_eq_true_iff_two_mul_ge.mpr (by omega))
    rw [abs_of_nonneg (by omega)]

theorem sle_iff (x y : BitVec 32) : IntOp.cmpi .sle x y = 1#1 ↔ x.toInt ≤ y.toInt := by
  simp only [IntOp.cmpi, ofBool_eq_one_iff, BitVec.sle_iff_toInt_le]

theorem sge_iff (x y : BitVec 32) : IntOp.cmpi .sge x y = 1#1 ↔ y.toInt ≤ x.toInt := by
  simp only [IntOp.cmpi, ofBool_eq_one_iff, BitVec.sle_iff_toInt_le]

theorem slt_iff (x y : BitVec 32) : IntOp.cmpi .slt x y = 1#1 ↔ x.toInt < y.toInt := by
  simp only [IntOp.cmpi, ofBool_eq_one_iff, BitVec.slt_iff_toInt_lt]

theorem andi_iff (a b : BitVec 1) : IntOp.andi a b = 1#1 ↔ a = 1#1 ∧ b = 1#1 := by
  revert a b; decide

/-- A choice by a bit is a choice by the proposition the bit says. -/
theorem select_iff {α : Type} {w : BitVec 1} {p : Prop} [Decidable p] (h : w = 1#1 ↔ p) (a b : α) :
    Scalar.select w a b = if p then a else b := by
  unfold Scalar.select
  by_cases hp : p
  · rw [if_pos hp]; exact if_pos (h.mpr hp)
  · rw [if_neg hp]; exact if_neg (fun hw => hp (h.mp hw))

end Cert.Words
-- ==== Proof.Wa.Block.lean ====
/- What one grid point of the windowed attention computes, head by head. -/
module

public import proofs.«01_k».proof.Proof.Gen.KernelIdeal.Skeleton
public import proofs.«01_k».proof.Proof.Softmax
public import proofs.«01_k».proof.Proof.Words
public import Idealize.ShloMosaic.Lib.Pointwise

@[expose] public section

set_option maxRecDepth 16384

noncomputable section

namespace Cert.Wa

open Cert.KernelIdeal Cert.KernelIdeal.Gen Idealize.ShloMosaic Idealize.ShloMosaic.TcCoe Idealize.ShloMosaic.WordArith
open Cert.Words Cert.Softmax

/-- Key `t` is within the window of query `p`. -/
def near (p t : ℤ) : Prop := |p - t| ≤ 128

instance (p t : ℤ) : Decidable (near p t) := inferInstanceAs (Decidable (|p - t| ≤ 128))

/-- The first key of the window that query block `i` reads: 128 before its first query, within the array. -/
def ws (i : ℕ) : ℕ := min 15872 (256 * i - 128)

theorem ws_word : ∀ i : Fin 64, (Scalar.minsi (15872#32) (Scalar.maxsi (0#32)
    (Scalar.subi (Scalar.muli (BitVec.ofNat 32 i.val) 256#32) 128#32))).toInt = (ws i.val : ℤ) := by
  decide +kernel

/-- The mask's bit, read. -/
theorem mask_iff (i : grid0.Coords) (r : Fin 256) (x : Fin 512) :
    k0_pay2 i (ix2 r x) = 1#1 ↔ near (256 * (i 1).val + r.val) (ws (i 1).val + x.val) := by
  pointwise [k0_pay2]
  have hi : (i 1).val < 64 := (i 1).isLt
  have hw := ws_word ⟨(i 1).val, hi⟩
  dsimp only at hw
  generalize hW : Scalar.minsi (15872#32) (Scalar.maxsi (0#32)
    (Scalar.subi (Scalar.muli (BitVec.ofNat 32 (i 1).val) 256#32) 128#32)) = W at hw ⊢
  have hws : ws (i 1).val ≤ 15872 := Nat.min_le_left _ _
  have hr := r.isLt
  have hx := x.isLt
  have h1 : (Scalar.muli (BitVec.ofNat 32 (i 1).val) 256#32).toInt = (i 1).val * 256 := by
    show (IntOp.muli _ _).toInt = _
    rw [toInt_muli] <;> rw [toInt_ofNat_small _ (by omega), show (256#32).toInt = 256 from rfl] <;> omega
  have h2 := toInt_ofNat_small r.val (by omega)
  have h3 := toInt_ofNat_small x.val (by omega)
  have h4 : (IntOp.addi (Scalar.muli (BitVec.ofNat 32 (i 1).val) 256#32) (BitVec.ofNat 32 r.val)).toInt
      = (i 1).val * 256 + r.val := by
    rw [toInt_addi] <;> rw [h1, h2] <;> omega
  have h5 : (IntOp.addi W (BitVec.ofNat 32 x.val)).toInt = ws (i 1).val + x.val := by
    rw [toInt_addi] <;> rw [hw, h3] <;> omega
  have h6 : (IntOp.subi (IntOp.addi (Scalar.muli (BitVec.ofNat 32 (i 1).val) 256#32) (BitVec.ofNat 32 r.val))
      (IntOp.addi W (BitVec.ofNat 32 x.val))).toInt = ((i 1).val * 256 + r.val) - (ws (i 1).val + x.val) := by
    rw [toInt_subi] <;> rw [h4, h5] <;> omega
  rw [sle_iff, toInt_absi _ (by rw [h6]; omega), h6, show (128#32).toInt = 128 from rfl]
  unfold near
  rw [mul_comm]

theorem mask_select {α : Type} (i : grid0.Coords) (r : Fin 256) (x : Fin 512) (a b : α) :
    Scalar.select (k0_pay2 i (ix2 r x)) a b
      = if near (256 * (i 1).val + r.val) (ws (i 1).val + x.val) then a else b :=
  select_iff (mask_iff i r x) a b

/-- The mask's constant denotes `-∞`, -/
theorem mask_bot : (Named.named κ "mask" 0xF149F2CA#32 : Ideal .f32) = ⊥ :=
  IdealRules.named_const.ideal_named_scalar _ _ _ _ rfl

/-- and so does the word a maximum begins from. -/
theorem ofBits_ninf : Ideal.ofBits .f32 0xFF800000#32 = ⊥ := by simp [Ideal.ofBits, Ideal.ieee]

/-- One head of one query block: the attention of row `r` over the window's keys. -/
def head (i : ℕ) (kw vw : FVec Ideal S512x128 .bf16) (q kc vc : FVec Ideal S256x128 .bf16) (sk : EReal)
    (r : Fin 256) (d : Fin 128) : EReal :=
  att (fun x : Fin 512 => if near (256 * i + r.val) (ws i + x.val) then ∑ j : Fin 128, q (ix2 r j) * kw (ix2 x j) else ⊥)
    (fun x : Fin 256 => ∑ j : Fin 128, q (ix2 r j) * kc (ix2 x j)) sk (fun x => vw (ix2 x d)) (fun x => vc (ix2 x d))

section
variable (i : grid0.Coords) (kw vw : FVec Ideal S512x128 .bf16) (q kc kc' vc : FVec Ideal S256x128 .bf16) (sk : Ideal .f32)
  (r : Fin 256) (d : Fin 128)

theorem head0 : k0_pay7 (F := Ideal) vw (k0_pay4 q kc) sk (k0_pay5 i kw q kc sk) (k0_pay6 i kw q kc sk) vc (ix2 r d)
    = head (i 1).val kw vw q kc vc sk r d := by
  pointwise [k0_pay7, k0_pay6, k0_pay5, k0_pay4, k0_pay3]
  simp only [mask_select, mask_bot, ofBits_ninf, fold_max]
  rfl

theorem head1 : k0_pay11 (F := Ideal) vw (k0_pay8 kw (k0_pay2 i) q) (k0_pay9 q kc) sk
      (k0_pay10 kw (k0_pay2 i) q kc sk) vc (ix2 r d) = head (i 1).val kw vw q kc vc sk r d := by
  pointwise [k0_pay11, k0_pay10, k0_pay9, k0_pay8]
  simp only [mask_select, mask_bot, ofBits_ninf, fold_max]
  rfl

theorem head2 : k0_pay15 (F := Ideal) vw (k0_pay12 kw (k0_pay2 i) q) (k0_pay13 q kc) sk
      (k0_pay14 kw (k0_pay2 i) q kc) vc (ix2 r d) = head (i 1).val kw vw q kc vc sk r d := by
  pointwise [k0_pay15, k0_pay14, k0_pay13, k0_pay12]
  simp only [mask_select, mask_bot, ofBits_ninf, fold_max]
  rfl

theorem head3 : k0_pay1 (F := Ideal) vw (k0_pay16 kw (k0_pay2 i) q) (k0_pay17 q kc) sk
      (k0_pay18 kw (k0_pay2 i) q) (k0_pay19 q kc) vc (ix2 r d) = head (i 1).val kw vw q kc vc sk r d := by
  pointwise [k0_pay1, k0_pay19, k0_pay18, k0_pay17, k0_pay16]
  simp only [mask_select, mask_bot, ofBits_ninf, fold_max]
  rfl

end

end Cert.Wa

end
-- ==== Proof.Wa.Window.lean ====
/- A head's window of keys stands for the whole sequence. -/
module

public import proofs.«01_k».proof.Proof.Wa.Block

@[expose] public section

set_option maxRecDepth 16384

noncomputable section

namespace Cert.Wa

open Cert.KernelIdeal Cert.KernelIdeal.Gen Idealize.ShloMosaic Idealize.ShloMosaic.TcCoe Idealize.ShloMosaic.WordArith
open Cert.Words Cert.Softmax

/-- The window holds every key near the block's queries, so a head's tile gives the attention over all positions. -/
theorem head_eq (i : ℕ) (hi : i < 64) (kw vw : FVec Ideal S512x128 .bf16) (q kc vc : FVec Ideal S256x128 .bf16)
    (sk : EReal) (r : Fin 256) (d : Fin 128) (p : ℕ) (hp : p = 256 * i + r.val) (Q : Fin 128 → EReal)
    (K V : Fin 16384 → Fin 128 → EReal) (KC VC : Fin 256 → Fin 128 → EReal)
    (hq : ∀ j, q (ix2 r j) = Q j)
    (hk : ∀ (x : Fin 512) (t : Fin 16384) j, t.val = ws i + x.val → kw (ix2 x j) = K t j)
    (hv : ∀ (x : Fin 512) (t : Fin 16384) j, t.val = ws i + x.val → vw (ix2 x j) = V t j)
    (hkc : ∀ t j, kc (ix2 t j) = KC t j) (hvc : ∀ t j, vc (ix2 t j) = VC t j) :
    head i kw vw q kc vc sk r d
      = att (fun t : Fin 16384 => if near p t.val then ∑ j, Q j * K t j else ⊥) (fun t => ∑ j, Q j * KC t j) sk
          (fun t => V t d) (fun t => VC t d) := by
  unfold head
  simp only [hq, hkc, hvc]
  have hws : ws i ≤ 15872 := Nat.min_le_left _ _
  have hr := r.isLt
  refine att_window (n := 512) (ws i) _ _ _ _ _ _ _ (fun x t h => ?_) (fun x t h => hv x t d (by omega)) (fun x h => ?_) (fun t h => ?_)
  · rw [show ((256 * i + r.val : ℤ)) = (p : ℤ) by rw [hp]; push_cast; ring, h]
    congr 1
    exact Finset.sum_congr rfl fun j _ => by rw [hk x t j (by omega)]
  · have hx := x.isLt; omega
  · have ht := t.isLt
    rw [if_neg]
    unfold near
    intro hn
    rw [abs_le] at hn
    unfold ws at h
    omega

end Cert.Wa

end
-- ==== Proof.Wa.Array.lean ====
/- What the windowed attention's result array holds: every element is the attention of its query and head over the whole
   sequence. -/
module

public import proofs.«01_k».proof.Proof.Gen.KernelIdeal.Frame
public import proofs.«01_k».proof.Proof.Wa.Window
public import Idealize.ShloMosaic.Lib.Pipeline.ValueKit

@[expose] public section

set_option maxRecDepth 16384

noncomputable section

namespace Cert.Wa

open Cert.KernelIdeal Cert.KernelIdeal.Gen Idealize.ShloMosaic Idealize.ShloMosaic.TcCoe Idealize.SL.Sem
open Idealize.ShloMosaic.Pipeline (Dat)
open Cert.Softmax

/-- THE ATTENTION, element by element: query `p`, head `h`, lane `d`; the keys within 128 of the query, the context's keys,
    and the head's sink. Head `h` reads the keys and values of group `h / 4`. -/
def watt (sk : FVec Ideal S8 .f32) (q : FVec Ideal S16384x1024 .bf16) (k v : FVec Ideal S16384x256 .bf16)
    (kc vc : FVec Ideal S256x256 .bf16) (p : Fin 16384) (h : Fin 8) (d : Fin 128) : EReal :=
  att (fun t : Fin 16384 => if near p.val t.val then
        ∑ j : Fin 128, q (ix2 p (⟨128 * h.val + j.val, by omega⟩ : Fin 1024)) * k (ix2 t (⟨128 * (h.val / 4) + j.val, by omega⟩ : Fin 256)) else ⊥)
    (fun t : Fin 256 => ∑ j : Fin 128, q (ix2 p (⟨128 * h.val + j.val, by omega⟩ : Fin 1024)) * kc (ix2 t (⟨128 * (h.val / 4) + j.val, by omega⟩ : Fin 256)))
    (sk (ix1 h)) (fun t => v (ix2 t (⟨128 * (h.val / 4) + d.val, by omega⟩ : Fin 256)))
    (fun t => vc (ix2 t (⟨128 * (h.val / 4) + d.val, by omega⟩ : Fin 256)))

/-- The array of it. -/
def wattArr (sk : FVec Ideal S8 .f32) (q : FVec Ideal S16384x1024 .bf16) (k v : FVec Ideal S16384x256 .bf16)
    (kc vc : FVec Ideal S256x256 .bf16) : FVec Ideal S16384x1024 .bf16 := fun i =>
  watt sk q k v kc vc (i 0) ⟨(i 1).val / 128, by have : (i 1).val < 1024 := (i 1).isLt; omega⟩ ⟨(i 1).val % 128, Nat.mod_lt _ (by decide)⟩

variable (m : (ℓ : Loc nD τ sig) → Buf (Elt Ideal) ℓ)

theorem idx : ∀ t : Fin cfg0.N, win0_0.index t = ![0] ∧ win0_1.index t = ![t.val % 64, t.val / 64]
    ∧ win0_2.index t = ![0, t.val / 64] ∧ win0_3.index t = ![0, t.val / 64] ∧ win0_4.index t = ![0, t.val / 64]
    ∧ win0_5.index t = ![0, t.val / 64] ∧ win0_6.index t = ![t.val % 64, t.val / 64]
    ∧ (grid0.coords t 0).val = t.val / 64 ∧ (grid0.coords t 1).val = t.val % 64 :=
  (by decide +kernel : ∀ t : Fin grid0.N, _)

/-- The offsets the body computes: the window's first row, and the head's sink. -/
theorem offs : ∀ t : Fin cfg0.N, k0_off1 (grid0.coords t) = ![ws (t.val % 64), 0] :=
  (by decide +kernel : ∀ t : Fin grid0.N, _)

theorem offs' : ∀ t : Fin cfg0.N, ∀ r : Fin 4, k0_off2 (grid0.coords t) (BitVec.ofNat 32 r.val) = ![4 * (t.val / 64) + r.val] :=
  (by decide +kernel : ∀ t : Fin grid0.N, ∀ r : Fin 4, _)

theorem t_lt (t : Fin cfg0.N) : t.val < 128 := lt_of_lt_of_eq t.isLt (by decide)

section reads
variable (c : Dev nD) (t : Fin cfg0.N)

theorem kwin (h) (x : Fin 512) (j : Fin 128) (s : Fin 16384) (g : Fin 2)
    (hs : s.val = ws (t.val % 64) + x.val) (hg : g.val = t.val / 64) :
    View.ld (Val := Elt Ideal) (e' := .bf16) (iblk m c 2 t) (Rect.unit (s := S16384x128) (k0_off1 (grid0.coords t)) ![512, 128] h) (ix2 x j)
      = m ((c : Thread nD τ).loc main_arg2) (ix2 s (⟨128 * g.val + j.val, by omega⟩ : Fin 256)) := by
  rw [View.ld_apply]
  blk_ext [iblk, V, idx t]
  · rw [Rect.idx_unit_val]
    exact (congrArg (· + x.val) (congrFun (offs t) 0)).trans hs.symm
  · rw [Rect.idx_unit_val]
    refine (congrArg (fun o => t.val / 64 * 128 + (o + j.val)) (congrFun (offs t) 1)).trans ?_
    show t.val / 64 * 128 + (0 + j.val) = 128 * g.val + j.val
    omega

theorem vwin (h) (x : Fin 512) (j : Fin 128) (s : Fin 16384) (g : Fin 2)
    (hs : s.val = ws (t.val % 64) + x.val) (hg : g.val = t.val / 64) :
    View.ld (Val := Elt Ideal) (e' := .bf16) (iblk m c 3 t) (Rect.unit (s := S16384x128) (k0_off1 (grid0.coords t)) ![512, 128] h) (ix2 x j)
      = m ((c : Thread nD τ).loc main_arg3) (ix2 s (⟨128 * g.val + j.val, by omega⟩ : Fin 256)) := by
  rw [View.ld_apply]
  blk_ext [iblk, V, idx t]
  · rw [Rect.idx_unit_val]
    exact (congrArg (· + x.val) (congrFun (offs t) 0)).trans hs.symm
  · rw [Rect.idx_unit_val]
    refine (congrArg (fun o => t.val / 64 * 128 + (o + j.val)) (congrFun (offs t) 1)).trans ?_
    show t.val / 64 * 128 + (0 + j.val) = 128 * g.val + j.val
    omega

theorem qread (o : ℕ) (h) (x : Fin 256) (j : Fin 128) (p : Fin 16384) (l : Fin 1024)
    (hp : p.val = 256 * (t.val % 64) + x.val) (hl : l.val = 512 * (t.val / 64) + o + j.val) :
    View.ld (Val := Elt Ideal) (e' := .bf16) (iblk m c 1 t) (Rect.unit (s := S256x512) ![0, o] ![256, 128] h) (ix2 x j)
      = m ((c : Thread nD τ).loc main_arg1) (ix2 p l) := by
  rw [View.ld_apply]
  blk_ext [iblk, V, idx t]
  · rw [Rect.idx_unit_val]
    show t.val % 64 * 256 + (0 + x.val) = p.val
    omega
  · rw [Rect.idx_unit_val]
    show t.val / 64 * 512 + (o + j.val) = l.val
    omega

theorem kcread (x : Fin 256) (j : Fin 128) (g : Fin 2) (hg : g.val = t.val / 64) :
    iblk m c 4 t (ix2 x j) = m ((c : Thread nD τ).loc main_arg4) (ix2 x (⟨128 * g.val + j.val, by omega⟩ : Fin 256)) := by
  blk_ext [iblk, V, idx t]

theorem vcread (x : Fin 256) (j : Fin 128) (g : Fin 2) (hg : g.val = t.val / 64) :
    iblk m c 5 t (ix2 x j) = m ((c : Thread nD τ).loc main_arg5) (ix2 x (⟨128 * g.val + j.val, by omega⟩ : Fin 256)) := by
  blk_ext [iblk, V, idx t]

theorem sread (r : Fin 4) (h) (y) (n : Fin 8) (hn : n.val = 4 * (t.val / 64) + r.val) :
    View.ld (Val := Elt Ideal) (e' := .f32) (iblk m c 0 t) (Rect.unit (s := S8) (k0_off2 (grid0.coords t) (BitVec.ofNat 32 r.val)) ![1] h) y
      = m ((c : Thread nD τ).loc main_arg0) (ix1 n) := by
  have hy : (y 0).val < 1 := (y 0).isLt
  rw [View.ld_apply]
  blk_ext [iblk, V, idx t]
  rw [Rect.idx_unit_val]
  refine (congrArg (· + (y 0).val) (congrFun (offs' t r) 0)).trans ?_
  show 4 * (t.val / 64) + r.val + (y 0).val = n.val
  omega

/-- One head's tile at block `t`: the attention of the query and head it stands for. -/
theorem tile (hh : Fin 4) (h1 h2 h3 h4) (s0) (r : Fin 256) (d : Fin 128) (y : S256x512.Idx) (h0 : (y 0).val = r.val)
    (hy : (y 1).val = 128 * hh.val + d.val) :
    head (grid0.coords t 1).val
        (View.ld (Val := Elt Ideal) (e' := .bf16) (iblk m c 2 t) (Rect.unit (s := S16384x128) (k0_off1 (grid0.coords t)) ![512, 128] h1))
        (View.ld (Val := Elt Ideal) (e' := .bf16) (iblk m c 3 t) (Rect.unit (s := S16384x128) (k0_off1 (grid0.coords t)) ![512, 128] h2))
        (View.ld (Val := Elt Ideal) (e' := .bf16) (iblk m c 1 t) (Rect.unit (s := S256x512) ![0, 128 * hh.val] ![256, 128] h3))
        (iblk m c 4 t) (iblk m c 5 t)
        (View.ld (Val := Elt Ideal) (e' := .f32) (iblk m c 0 t) (Rect.unit (s := S8) (k0_off2 (grid0.coords t) (BitVec.ofNat 32 hh.val)) ![1] h4) s0)
        r d
      = wattArr (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (((cfg0.win 6).blk t).view.emb y) := by
  have ht := t_lt t
  have hr := r.isLt
  have hd := d.isLt
  have hb := hh.isLt
  have e0 : ((((cfg0.win 6).blk t).view.emb y) 0 : Fin 16384).val = 256 * (t.val % 64) + r.val := by
    blk_simp [idx t]; omega
  have e1 : ((((cfg0.win 6).blk t).view.emb y) 1 : Fin 1024).val = 512 * (t.val / 64) + (128 * hh.val + d.val) := by
    blk_simp [idx t]; omega
  generalize ((cfg0.win 6).blk t).view.emb y = z at e0 e1
  have hz : (⟨(z 1).val / 128, by have : (z 1).val < 1024 := (z 1).isLt; omega⟩ : Fin 8) = ⟨4 * (t.val / 64) + hh.val, by omega⟩ :=
    Fin.ext (by show (z 1).val / 128 = 4 * (t.val / 64) + hh.val; omega)
  have hz' : (⟨(z 1).val % 128, Nat.mod_lt _ (by decide)⟩ : Fin 128) = d :=
    Fin.ext (by show (z 1).val % 128 = d.val; omega)
  unfold wattArr
  rw [hz, hz']
  have hg : (4 * (t.val / 64) + hh.val) / 4 = t.val / 64 := by omega
  rw [sread m c t hh h4 s0 ⟨4 * (t.val / 64) + hh.val, by omega⟩ rfl, (idx t).2.2.2.2.2.2.2.2]
  refine head_eq (t.val % 64) (by omega) _ _ _ _ _ _ r d (z 0).val e0 _
    (fun s j => m ((c : Thread nD τ).loc main_arg2) (ix2 s (⟨128 * ((4 * (t.val / 64) + hh.val) / 4) + j.val, by omega⟩ : Fin 256)))
    (fun s j => m ((c : Thread nD τ).loc main_arg3) (ix2 s (⟨128 * ((4 * (t.val / 64) + hh.val) / 4) + j.val, by omega⟩ : Fin 256)))
    (fun s j => m ((c : Thread nD τ).loc main_arg4) (ix2 s (⟨128 * ((4 * (t.val / 64) + hh.val) / 4) + j.val, by omega⟩ : Fin 256)))
    (fun s j => m ((c : Thread nD τ).loc main_arg5) (ix2 s (⟨128 * ((4 * (t.val / 64) + hh.val) / 4) + j.val, by omega⟩ : Fin 256)))
    (fun j => qread m c t _ h3 r j (z 0) _ e0 (by show 128 * (4 * (t.val / 64) + hh.val) + j.val = _; omega))
    (fun x s j hs => kwin m c t h1 x j s ⟨_, by omega⟩ hs hg)
    (fun x s j hs => vwin m c t h2 x j s ⟨_, by omega⟩ hs hg)
    (fun s j => kcread m c t s j ⟨_, by omega⟩ hg) (fun s j => vcread m c t s j ⟨_, by omega⟩ hg)

end reads

theorem point (c : Dev nD) (t : Fin cfg0.N) (y) :
    outsAt0 m c t y = wattArr (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (((cfg0.win 6).blk t).view.emb y) := by
  unfold outsAt0
  frame_out
  canon_tiles x h
  case piece0 =>
    idx_vars x
    refine (head3 (grid0.coords t) _ _ _ _ _ _ _ _).trans ?_
    exact tile m c t 3 _ _ _ _ _ _ _ y h0 h1
  case piece1 =>
    idx_vars x
    refine (head2 (grid0.coords t) _ _ _ _ _ _ _ _).trans ?_
    exact tile m c t 2 _ _ _ _ _ _ _ y h0 h1
  case piece2 =>
    idx_vars x
    refine (head1 (grid0.coords t) _ _ _ _ _ _ _ _).trans ?_
    exact tile m c t 1 _ _ _ _ _ _ _ y h0 h1
  case piece3 =>
    idx_vars x
    refine (head0 (grid0.coords t) _ _ _ _ _ _ _ _).trans ?_
    exact tile m c t 0 _ _ _ _ _ _ _ y h0 (h1.trans (Nat.zero_add _).symm)

/-- The result array after the run. -/
theorem final (c : Dev nD) : (dats m 0 c).arrAt 6 (cfgs 0).N
    = wattArr (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t _ y => ?_
  blk_simp
  rw [after0_6]
  exact point m c t y

end Cert.Wa

end
-- ==== Proof.Wa.Band.lean ====
/- The reference's bands of keys and values, and its mask. -/
module

public import proofs.«01_k».proof.Proof.Gen.ReferenceIdeal.Read
public import proofs.«01_k».proof.Proof.Words
public import Idealize.ShloMosaic.Lib.Pointwise
public import Idealize.ShloMosaic.Lib.Pipeline.ValueKit

@[expose] public section

set_option maxRecDepth 16384

noncomputable section

namespace Cert.WaRef

open Cert.ReferenceIdeal Cert.ReferenceIdeal.Gen Cert.ReferenceIdeal.Read Idealize.ShloMosaic Idealize.ShloMosaic.TcCoe
open Cert.Words

variable (n : Fin 128) (qq : Fin 128) (g : Fin 2) (r : Fin 4) (s : Fin 384) (j d : Fin 128)

/-- The band of block `n` holds at `s` the key at position `128 n + s - 128`. -/
theorem band_k (x2 : FVec Ideal S16384x256 .bf16) (t : Fin 16384) (h : t.val + 128 = 128 * n.val + s.val) :
    val_main_v14 (F := Ideal) x2 (ix4 n s g j) = x2 (ix2 t (⟨128 * g.val + j.val, by omega⟩ : Fin 256)) := by
  pointwise [val_main_v14, val_main_v13, val_main_v12, val_main_v11, val_main_v10, val_main_v9, val_main_v8, val_main_v1]
  have ht := t.isLt
  split_ifs <;> first
    | (exfalso; omega)
    | exact congrArg x2 (congrArg₂ ix2 (Fin.ext (by dsimp only; omega)) (Fin.ext (by dsimp only; omega)))

/-- And the values alike. -/
theorem band_v (x3 : FVec Ideal S16384x256 .bf16) (t : Fin 16384) (h : t.val + 128 = 128 * n.val + s.val) :
    val_main_v21 (F := Ideal) x3 (ix4 n s g j) = x3 (ix2 t (⟨128 * g.val + j.val, by omega⟩ : Fin 256)) := by
  pointwise [val_main_v21, val_main_v20, val_main_v19, val_main_v18, val_main_v17, val_main_v16, val_main_v15, val_main_v2]
  have ht := t.isLt
  split_ifs <;> first
    | (exfalso; omega)
    | exact congrArg x3 (congrArg₂ ix2 (Fin.ext (by dsimp only; omega)) (Fin.ext (by dsimp only; omega)))

end Cert.WaRef

end
-- ==== Proof.Wa.Mask.lean ====
/- The reference's mask. -/
module

public import proofs.«01_k».proof.Proof.Gen.ReferenceIdeal.Read
public import proofs.«01_k».proof.Proof.Words
public import proofs.«01_k».proof.Proof.Softmax
public import proofs.«01_k».proof.Proof.Wa.Block
public import Idealize.ShloMosaic.Lib.Pointwise
public import Idealize.ShloMosaic.Lib.Pipeline.ValueKit

@[expose] public section

set_option maxRecDepth 16384

noncomputable section

namespace Cert.WaRef

open Cert.ReferenceIdeal Cert.ReferenceIdeal.Gen Cert.ReferenceIdeal.Read Idealize.ShloMosaic Idealize.ShloMosaic.TcCoe
open Cert.Words

variable (n : Fin 128) (qq : Fin 128) (g : Fin 2) (r : Fin 4) (s : Fin 384) (j d : Fin 128)

/-- The mask holds where the position is a position and the query within 128 of it. -/
theorem mask : val_main_v52 (F := Ideal) (ix3 n qq s) = 1#1 ↔
    (128 ≤ 128 * n.val + s.val ∧ 128 * n.val + s.val < 16512) ∧ |(128 + qq.val : ℤ) - s.val| ≤ 128 := by
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_c, val_main_c_0,val_main_c_1,val_main_c_2,val_main_c_3, val_main_c_4, val_main_c_5]
  have hn := n.isLt
  have hq := qq.isLt
  have hs := s.isLt
  have e128 : (128#32 : BitVec 32).toInt = 128 := by decide
  have tn : (BitVec.ofNat 32 n.val).toInt = n.val := WordArith.toInt_ofNat_small _ (by omega)
  have tq : (BitVec.ofNat 32 qq.val).toInt = qq.val := WordArith.toInt_ofNat_small _ (by omega)
  have ts : (BitVec.ofNat 32 s.val).toInt = s.val := WordArith.toInt_ofNat_small _ (by omega)
  have a1 : (IntOp.muli (BitVec.ofNat 32 n.val) 128#32).toInt = n.val * 128 := by
    rw [toInt_muli _ _ (by rw [tn, e128]; omega) (by rw [tn, e128]; omega), tn, e128]
  have a2 : (IntOp.subi (IntOp.muli (BitVec.ofNat 32 n.val) 128#32) 128#32).toInt = n.val * 128 - 128 := by
    rw [toInt_subi _ _ (by rw [a1, e128]; omega) (by rw [a1, e128]; omega), a1, e128]
  have a3 : (IntOp.addi (IntOp.subi (IntOp.muli (BitVec.ofNat 32 n.val) 128#32) 128#32) (BitVec.ofNat 32 s.val)).toInt
      = n.val * 128 - 128 + s.val := by
    rw [toInt_addi _ _ (by rw [a2, ts]; omega) (by rw [a2, ts]; omega), a2, ts]
  have a4 : (IntOp.addi (IntOp.muli (BitVec.ofNat 32 n.val) 128#32) (BitVec.ofNat 32 qq.val)).toInt
      = n.val * 128 + qq.val := by
    rw [toInt_addi _ _ (by rw [a1, tq]; omega) (by rw [a1, tq]; omega), a1, tq]
  have a5 : (IntOp.subi (IntOp.addi (IntOp.muli (BitVec.ofNat 32 n.val) 128#32) (BitVec.ofNat 32 qq.val))
      (IntOp.addi (IntOp.subi (IntOp.muli (BitVec.ofNat 32 n.val) 128#32) 128#32) (BitVec.ofNat 32 s.val))).toInt
      = (128 + qq.val : ℤ) - s.val := by
    rw [toInt_subi _ _ (by rw [a4, a3]; omega) (by rw [a4, a3]; omega), a4, a3]; omega
  rw [andi_iff, andi_iff, sge_iff, slt_iff, sle_iff, toInt_absi _ (by rw [a5]; omega), a3, a5]
  refine and_congr (and_congr ?_ ?_) ?_
  · rw [show (0#32 : BitVec 32).toInt = 0 from by decide]; omega
  · rw [show (16384#32 : BitVec 32).toInt = 16384 from by decide]; omega
  · rw [e128]

end Cert.WaRef

end
-- ==== Proof.Wa.Scores.lean ====
/- The reference's row of scores: the band's, the context's, the sink. -/
module

public import proofs.«01_k».proof.Proof.Gen.ReferenceIdeal.Read
public import proofs.«01_k».proof.Proof.Words
public import proofs.«01_k».proof.Proof.Softmax
public import proofs.«01_k».proof.Proof.Wa.Block
public import Idealize.ShloMosaic.Lib.Pointwise
public import Idealize.ShloMosaic.Lib.Pipeline.ValueKit

@[expose] public section

set_option maxRecDepth 16384

noncomputable section

namespace Cert.WaRef

open Cert.ReferenceIdeal Cert.ReferenceIdeal.Gen Cert.ReferenceIdeal.Read Idealize.ShloMosaic Idealize.ShloMosaic.TcCoe
open Cert.Words Cert

variable (n : Fin 128) (qq : Fin 128) (g : Fin 2) (r : Fin 4) (s : Fin 384) (j d : Fin 128)

theorem s61 (x0 : FVec Ideal S8 .f32) (x1 : FVec Ideal S16384x1024 .bf16) (x2 x3 : FVec Ideal S16384x256 .bf16)
    (x4 x5 : FVec Ideal S256x256 .bf16) (x : Fin 641) :
    val_main_v61 (F := Ideal) x0 x1 x2 x4 (ix5 n g r qq x)
      = Softmax.row (N := 384) (M := 256)
          (fun s => Scalar.select (val_main_v52 (F := Ideal) (ix3 n qq s))
            (∑ j : Fin 128, val_main_v14 (F := Ideal) x2 (ix4 n s g j) * x1 (ix2 (⟨n.val * 128 + qq.val, by omega⟩ : Fin 16384) (⟨g.val * 512 + r.val * 128 + j.val, by omega⟩ : Fin 1024))) (⊥ : EReal))
          (fun c => ∑ j : Fin 128, x4 (ix2 c (⟨g.val * 128 + j.val, by omega⟩ : Fin 256)) * x1 (ix2 (⟨n.val * 128 + qq.val, by omega⟩ : Fin 16384) (⟨g.val * 512 + r.val * 128 + j.val, by omega⟩ : Fin 1024)))
          (x0 (ix1 (⟨g.val * 4 + r.val, by omega⟩ : Fin 8))) x := by
  pointwise [val_main_v61, val_main_v60, val_main_v59, val_main_v58, val_main_v57, val_main_v56, val_main_v55, val_main_v54, val_main_v53, val_main_v3, val_main_v5, val_main_v6, val_main_v0, val_main_call2_v1, val_main_call2_v2, val_main_call2_v0, val_main_cst]
  unfold Softmax.row
  simp only [Cert.Wa.ofBits_ninf]
  rfl

end Cert.WaRef

end
-- ==== Proof.Wa.Max.lean ====
/- The largest entry along the last of five axes. -/
module

public import Idealize.ShloMosaic.Lib.Pointwise
public import Idealize.ShloMosaic.Lib.Pipeline.ValueKit

@[expose] public section

noncomputable section

namespace Cert.WaRef

open Idealize.ShloMosaic Idealize.ShloMosaic.TcCoe

theorem max5 {n0 n1 n2 n3 n4 : ℕ} {u : Shape} (y : FVec Ideal ⟨5, ![n0, n1, n2, n3, n4]⟩ .f32) (z : FVec Ideal u .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce FloatOps.maximumf y z h hu (ix4 a b c d)
      = Finset.fold max (z (Shape.Idx.first hu)) (fun k : Fin n4 => y (ix5 a b c d k)) Finset.univ :=
  (Host.reduce_eq_fold (max : EReal → EReal → EReal) y z h hu _).trans
    (Shape.ReducesTo.fold_fiber_r5_a4 h _ max _ y)

end Cert.WaRef

end
-- ==== Proof.Wa.Exps.lean ====
/- The reference's exponentials and its weighted sums. -/
module

public import proofs.«01_k».proof.Proof.Gen.ReferenceIdeal.Read
public import proofs.«01_k».proof.Proof.Words
public import proofs.«01_k».proof.Proof.Wa.Max
public import proofs.«01_k».proof.Proof.Softmax
public import proofs.«01_k».proof.Proof.Wa.Block
public import Idealize.ShloMosaic.Lib.Pointwise
public import Idealize.ShloMosaic.Lib.Pipeline.ValueKit

@[expose] public section

set_option maxRecDepth 16384

noncomputable section

namespace Cert.WaRef

open Cert.ReferenceIdeal Cert.ReferenceIdeal.Gen Cert.ReferenceIdeal.Read Idealize.ShloMosaic Idealize.ShloMosaic.TcCoe
open Cert.Words

variable (n : Fin 128) (qq : Fin 128) (g : Fin 2) (r : Fin 4) (s : Fin 384) (j d : Fin 128)

/-- The largest score of a row. -/
theorem v62 (x0 : FVec Ideal S8 .f32) (x1 : FVec Ideal S16384x1024 .bf16) (x2 : FVec Ideal S16384x256 .bf16)
    (x4 : FVec Ideal S256x256 .bf16) :
    val_main_v62 (F := Ideal) x0 x1 x2 x4 (ix4 n g r qq)
      = Finset.univ.sup (fun x : Fin 641 => (val_main_v61 (F := Ideal) x0 x1 x2 x4 (ix5 n g r qq x) : EReal)) := by
  unfold val_main_v62
  generalize val_main_v61 (F := Ideal) x0 x1 x2 x4 = y
  refine (max5 y _ _ _ n g r qq).trans ?_
  rw [show val_main_cst_6 (F := Ideal) (Shape.Idx.first h_S_) = (⊥ : EReal) from Cert.Wa.ofBits_ninf]
  rfl

/-- A row's exponentials. -/
theorem p68 (x0 : FVec Ideal S8 .f32) (x1 : FVec Ideal S16384x1024 .bf16) (x2 : FVec Ideal S16384x256 .bf16)
    (x4 : FVec Ideal S256x256 .bf16) (x : Fin 641) :
    val_main_v68 (F := Ideal) x0 x1 x2 x4 (ix5 n g r qq x)
      = Ideal.exp (val_main_v61 (F := Ideal) x0 x1 x2 x4 (ix5 n g r qq x)
          - Finset.univ.sup (fun x : Fin 641 => (val_main_v61 (F := Ideal) x0 x1 x2 x4 (ix5 n g r qq x) : EReal))) := by
  have e : idx_main_v65 (idx_main_v66 (ix5 n g r qq x)) = ix4 n g r qq := by
    funext a; match a with | ⟨0, _⟩ => rfl | ⟨1, _⟩ => rfl | ⟨2, _⟩ => rfl | ⟨3, _⟩ => rfl
  rw [val_main_v68_apply, val_main_v67_apply, val_main_v66_apply, val_main_v65_apply, e, val_main_v64_apply,
    val_main_v63_apply, v62]
  generalize val_main_v61 (F := Ideal) x0 x1 x2 x4 = y
  rw [show val_main_cst_7 (F := Ideal) (idx_main_v63 (ix4 n g r qq)) = (⊥ : EReal) from Cert.Wa.ofBits_ninf]
  exact congrArg (fun m => Ideal.exp ((y (ix5 n g r qq x) : EReal) - m)) (bot_sup_eq _)

/-- Their sum. -/
theorem p69 (x0 : FVec Ideal S8 .f32) (x1 : FVec Ideal S16384x1024 .bf16) (x2 : FVec Ideal S16384x256 .bf16)
    (x4 : FVec Ideal S256x256 .bf16) :
    val_main_v69 (F := Ideal) x0 x1 x2 x4 (ix4 n g r qq)
      = ∑ x : Fin 641, val_main_v68 (F := Ideal) x0 x1 x2 x4 (ix5 n g r qq x) := by
  rw [val_main_v69_apply, show val_main_cst_8 (F := Ideal) (Shape.Idx.first h_S_) = (0 : EReal) from Ideal.ofBits_zero_f32,
    zero_add]
  generalize val_main_v68 (F := Ideal) x0 x1 x2 x4 = y
  refine Finset.sum_congr rfl fun k _ => congrArg y ?_
  funext a; match a with | ⟨0, _⟩ => rfl | ⟨1, _⟩ => rfl | ⟨2, _⟩ => rfl | ⟨3, _⟩ => rfl | ⟨4, _⟩ => rfl

end Cert.WaRef

end
-- ==== Proof.Wa.Out.lean ====
/- The reference's weighted sums. -/
module

public import proofs.«01_k».proof.Proof.Gen.ReferenceIdeal.Read
public import proofs.«01_k».proof.Proof.Words
public import proofs.«01_k».proof.Proof.Softmax
public import proofs.«01_k».proof.Proof.Wa.Block
public import Idealize.ShloMosaic.Lib.Pointwise
public import Idealize.ShloMosaic.Lib.Pipeline.ValueKit

@[expose] public section

set_option maxRecDepth 16384

noncomputable section

namespace Cert.WaRef

open Cert.ReferenceIdeal Cert.ReferenceIdeal.Gen Cert.ReferenceIdeal.Read Idealize.ShloMosaic Idealize.ShloMosaic.TcCoe
open Cert.Words

variable (n : Fin 128) (qq : Fin 128) (g : Fin 2) (r : Fin 4) (s : Fin 384) (j d : Fin 128)

theorem out (x0 : FVec Ideal S8 .f32) (x1 : FVec Ideal S16384x1024 .bf16) (x2 x3 : FVec Ideal S16384x256 .bf16)
    (x4 x5 : FVec Ideal S256x256 .bf16) :
    val_main_v81 (F := Ideal) x0 x1 x2 x3 x4 x5 (ix2 (⟨128 * n.val + qq.val, by omega⟩ : Fin 16384) (⟨128 * (4 * g.val + r.val) + d.val, by omega⟩ : Fin 1024))
      = ∑ x : Fin 384, val_main_v21 (F := Ideal) x3 (ix4 n x g d) * Ideal.div (val_main_v68 (F := Ideal) x0 x1 x2 x4 (ix5 n g r qq (⟨x.val, by omega⟩ : Fin 641))) (val_main_v69 (F := Ideal) x0 x1 x2 x4 (ix4 n g r qq))
        + ∑ x : Fin 256, x5 (ix2 x (⟨g.val * 128 + d.val, by omega⟩ : Fin 256)) * Ideal.div (val_main_v68 (F := Ideal) x0 x1 x2 x4 (ix5 n g r qq (⟨384 + x.val, by omega⟩ : Fin 641))) (val_main_v69 (F := Ideal) x0 x1 x2 x4 (ix4 n g r qq)) := by
  pointwise [val_main_v81, val_main_v80, val_main_v79, val_main_v78, val_main_v77, val_main_v76, val_main_v75, val_main_v74, val_main_v73, val_main_v72, val_main_v71, val_main_v70, val_main_v7, val_main_v4]

end Cert.WaRef

end
-- ==== Proof.Wa.Ref.lean ====
/- The reference's attention, element by element: the same attention as the kernel's. -/
module

public import proofs.«01_k».proof.Proof.Gen.ReferenceIdeal.Read
public import proofs.«01_k».proof.Proof.Softmax
public import proofs.«01_k».proof.Proof.Wa.Array
public import proofs.«01_k».proof.Proof.Wa.Band
public import proofs.«01_k».proof.Proof.Wa.Mask
public import proofs.«01_k».proof.Proof.Wa.Scores
public import proofs.«01_k».proof.Proof.Wa.Exps
public import proofs.«01_k».proof.Proof.Wa.Out

@[expose] public section

set_option maxRecDepth 16384

noncomputable section

namespace Cert.WaRef

open Cert.ReferenceIdeal Cert.ReferenceIdeal.Gen Cert.ReferenceIdeal.Read Idealize.ShloMosaic Idealize.ShloMosaic.TcCoe
open Cert.Words Cert.Softmax Cert.Wa

/-- A row of scores `y`, its exponentials `e`, their sum `D`: the weighted sums are the attention. -/
theorem att_of_row {N M : ℕ} (y e : Fin (N + M + 1) → EReal) (D z : EReal) (S V : Fin N → EReal) (C W : Fin M → EReal)
    (hy : ∀ x, y x = row S C z x) (he : ∀ x, e x = Ideal.exp (y x - Finset.univ.sup y)) (hD : D = ∑ x, e x)
    (hs : ∀ t, S t ≠ ⊤) (hc : ∀ t, C t ≠ ⊤) (hz : Fin' z) :
    ∑ x : Fin N, V x * Ideal.div (e ⟨x.val, by omega⟩) D + ∑ x : Fin M, W x * Ideal.div (e ⟨N + x.val, by omega⟩) D
      = att S C z V W := by
  obtain rfl : y = row S C z := funext hy
  rw [← softmax_row S C z V W hs hc hz (Finset.univ.sup (row S C z)) D rfl
    (hD.trans (Finset.sum_congr rfl fun x _ => he x))]
  congr 1
  · refine Finset.sum_congr rfl fun x _ => ?_
    rw [he, mul_comm]
    congr 4
    exact dif_pos x.isLt
  · refine Finset.sum_congr rfl fun x _ => ?_
    rw [he, mul_comm]
    congr 4
    unfold row
    rw [dif_neg (by dsimp only; omega), dif_pos (by dsimp only; omega)]
    congr 1
    exact Fin.ext (by dsimp only; omega)

variable (n : Fin 128) (qq : Fin 128) (g : Fin 2) (r : Fin 4) (d : Fin 128)

/-- One element of the reference's result. -/
theorem ref_at (x0 : FVec Ideal S8 .f32) (x1 : FVec Ideal S16384x1024 .bf16) (x2 x3 : FVec Ideal S16384x256 .bf16)
    (x4 x5 : FVec Ideal S256x256 .bf16) (f0 : ∀ i, Fin' (x0 i)) (f1 : ∀ i, Fin' (x1 i)) (f2 : ∀ i, Fin' (x2 i))
    (f4 : ∀ i, Fin' (x4 i)) :
    val_main_v81 (F := Ideal) x0 x1 x2 x3 x4 x5 (ix2 (⟨128 * n.val + qq.val, by omega⟩ : Fin 16384) (⟨128 * (4 * g.val + r.val) + d.val, by omega⟩ : Fin 1024))
      = watt x0 x1 x2 x3 x4 x5 (⟨128 * n.val + qq.val, by omega⟩ : Fin 16384) (⟨4 * g.val + r.val, by omega⟩ : Fin 8) d := by
  have hn := n.isLt
  have hq := qq.isLt
  have hd : (4 * g.val + r.val) / 4 = g.val := by omega
  have nm : ∀ s : Fin 384, ∀ t : Fin 16384, t.val + 128 = 128 * n.val + s.val →
      (val_main_v52 (F := Ideal) (ix3 n qq s) = 1#1 ↔ near ((128 * n.val + qq.val : ℕ) : ℤ) t.val) := by
    intro s t h
    have ht := t.isLt
    rw [mask]
    unfold near
    have : ((128 * n.val + qq.val : ℕ) : ℤ) - t.val = (128 + qq.val : ℤ) - s.val := by push_cast; omega
    rw [this]
    constructor
    · exact fun h => h.2
    · exact fun h' => ⟨by omega, h'⟩
  rw [out]
  refine (att_of_row (N := 384) (M := 256) (fun x => val_main_v61 (F := Ideal) x0 x1 x2 x4 (ix5 n g r qq x))
    (fun x => val_main_v68 (F := Ideal) x0 x1 x2 x4 (ix5 n g r qq x)) _ _ _ _ _ _
    (fun x => s61 n qq g r x0 x1 x2 x2 x4 x4 x) (fun x => p68 n qq g r x0 x1 x2 x4 x) (p69 n qq g r x0 x1 x2 x4)
    ?_ ?_ (f0 _)).trans ?_
  · intro s
    by_cases hm : val_main_v52 (F := Ideal) (ix3 n qq s) = 1#1
    · have hb := (mask n qq s).mp hm
      rw [select_iff (Iff.rfl : _ ↔ val_main_v52 (F := Ideal) (ix3 n qq s) = 1#1), if_pos hm]
      refine (Fin'.sum _ _ fun j => Fin'.mul ?_ (f1 _)).ne_top
      rw [band_k n g s j x2 ⟨128 * n.val + s.val - 128, by omega⟩ (by dsimp only; omega)]
      exact f2 _
    · rw [select_iff (Iff.rfl : _ ↔ val_main_v52 (F := Ideal) (ix3 n qq s) = 1#1), if_neg hm]
      exact bot_ne_top
  · exact fun c => (Fin'.sum _ _ fun j => Fin'.mul (f4 _) (f1 _)).ne_top
  · unfold watt
    refine (att_window (n := 384) (N := 16384) (M := 256) (128 * n.val - 128 : ℤ) _
      (fun t : Fin 16384 => if near ((128 * n.val + qq.val : ℕ) : ℤ) t.val then
        ∑ j : Fin 128, x1 (ix2 (⟨128 * n.val + qq.val, by omega⟩ : Fin 16384) (⟨128 * (4 * g.val + r.val) + j.val, by omega⟩ : Fin 1024)) * x2 (ix2 t (⟨128 * ((4 * g.val + r.val) / 4) + j.val, by omega⟩ : Fin 256)) else ⊥)
      _ _ _ (fun t : Fin 16384 => x3 (ix2 t (⟨128 * ((4 * g.val + r.val) / 4) + d.val, by omega⟩ : Fin 256))) _ ?_ ?_ ?_ ?_).trans ?_
    · intro s t h
      rw [select_iff (nm s t (by omega))]
      refine if_congr Iff.rfl (Finset.sum_congr rfl fun j _ => ?_) rfl
      rw [band_k n g s j x2 t (by omega), mul_comm]
      congr 1
      · exact congrArg x1 (congrArg₂ ix2 (Fin.ext (by dsimp only; omega)) (Fin.ext (by dsimp only; omega)))
      · exact congrArg x2 (congrArg₂ ix2 rfl (Fin.ext (by dsimp only; omega)))
    · intro s t h
      rw [band_v n g s d x3 t (by omega)]
      exact congrArg x3 (congrArg₂ ix2 rfl (Fin.ext (by dsimp only; omega)))
    · intro s h
      rw [select_iff (Iff.rfl : _ ↔ val_main_v52 (F := Ideal) (ix3 n qq s) = 1#1), if_neg]
      rw [mask]
      omega
    · intro t h
      refine if_neg ?_
      unfold near
      rw [abs_le]
      push_cast
      omega
    · congr 1
      · funext c
        refine Finset.sum_congr rfl fun j _ => ?_
        rw [mul_comm]
        congr 1
        · exact congrArg x1 (congrArg₂ ix2 (Fin.ext (by dsimp only; omega)) (Fin.ext (by dsimp only; omega)))
        · exact congrArg x4 (congrArg₂ ix2 rfl (Fin.ext (by dsimp only; omega)))
      · exact congrArg x0 (congrArg ix1 (Fin.ext (by dsimp only; omega)))
      · funext c
        exact congrArg x5 (congrArg₂ ix2 rfl (Fin.ext (by dsimp only; omega)))

/-- The reference's result array. -/
theorem ref_eq (x0 : FVec Ideal S8 .f32) (x1 : FVec Ideal S16384x1024 .bf16) (x2 x3 : FVec Ideal S16384x256 .bf16)
    (x4 x5 : FVec Ideal S256x256 .bf16) (f0 : ∀ i, Fin' (x0 i)) (f1 : ∀ i, Fin' (x1 i)) (f2 : ∀ i, Fin' (x2 i))
    (f4 : ∀ i, Fin' (x4 i)) :
    val_main_v81 (F := Ideal) x0 x1 x2 x3 x4 x5 = wattArr x0 x1 x2 x3 x4 x5 := by
  funext x
  obtain ⟨p, l, rfl⟩ : ∃ (p : Fin 16384) (l : Fin 1024), x = ix2 p l :=
    ⟨x 0, x 1, by funext a; match a with | ⟨0, _⟩ => rfl | ⟨1, _⟩ => rfl⟩
  have hp := p.isLt
  have hl := l.isLt
  have key := ref_at (⟨p.val / 128, by omega⟩ : Fin 128) (⟨p.val % 128, by omega⟩ : Fin 128) (⟨l.val / 512, by omega⟩ : Fin 2)
    (⟨l.val / 128 % 4, by omega⟩ : Fin 4) (⟨l.val % 128, by omega⟩ : Fin 128) x0 x1 x2 x3 x4 x5 f0 f1 f2 f4
  have e1 : (⟨128 * (p.val / 128) + p.val % 128, by omega⟩ : Fin 16384) = p := Fin.ext (by dsimp only; omega)
  have e2 : (⟨128 * (4 * (l.val / 512) + l.val / 128 % 4) + l.val % 128, by omega⟩ : Fin 1024) = l := Fin.ext (by dsimp only; omega)
  have e3 : (⟨4 * (l.val / 512) + l.val / 128 % 4, by omega⟩ : Fin 8) = ⟨l.val / 128, by omega⟩ := Fin.ext (by dsimp only; omega)
  dsimp only at key
  rw [e1, e2, e3] at key
  exact key

end Cert.WaRef

end
-- ==== Proof.Wa.Pre.lean ====
/- What the precondition says of the arguments: every sink, query and key is a finite number. -/
module

public import proofs.«01_k».proof.Proof.Gen.Pre_finite_scores
public import proofs.«01_k».proof.Proof.Softmax
public import Idealize.ShloMosaic.Lib.Pointwise
public import Idealize.ShloMosaic.Lib.KernelVsHost

@[expose] public section

set_option maxRecDepth 16384

noncomputable section

namespace Cert.WaPre

open Cert.Pre_finite_scores Cert.Pre_finite_scores.Gen Idealize.ShloMosaic Idealize.ShloMosaic.TcCoe
open Cert.Softmax

theorem fin_of_cmp {x : EReal} (h : FloatOps.cmpf (F := Ideal) (φ := .f32) .olt (max x (-x)) (Ideal.ofBits .f32 0x7F800000#32) = 1#1) : Fin' x := by
  have e : Ideal.ofBits .f32 0x7F800000#32 = (⊤ : EReal) := by simp [Ideal.ofBits, Ideal.ieee]
  rw [e] at h
  refine Fin'.of_abs ?_
  by_contra hc
  have : FloatOps.cmpf (F := Ideal) (φ := .f32) .olt (max x (-x)) (⊤ : EReal) = 0#1 := by
    show Ideal.cmp .olt _ _ = _
    simp [Ideal.cmp, hc]
  rw [this] at h
  exact absurd h (by decide)

variable (x0 : FVec Ideal S8 .f32) (x1 : FVec Ideal S16384x1024 .bf16) (x2 x3 : FVec Ideal S16384x256 .bf16)
  (x4 x5 : FVec Ideal S256x256 .bf16)

theorem sink (h : (Cert.Pre_finite_scores.fn (F := Ideal) x0 x1 x2 x3 x4 x5).1 = fun _ => 1#1) (i : S8.Idx) : Fin' (x0 i) :=
  fin_of_cmp (congrFun h i)

theorem query (h : (Cert.Pre_finite_scores.fn (F := Ideal) x0 x1 x2 x3 x4 x5).2.1 = fun _ => 1#1) (i : S16384x1024.Idx) : Fin' (x1 i) :=
  fin_of_cmp (congrFun h i)

theorem key (h : (Cert.Pre_finite_scores.fn (F := Ideal) x0 x1 x2 x3 x4 x5).2.2.1 = fun _ => 1#1) (i : S16384x256.Idx) : Fin' (x2 i) :=
  fin_of_cmp (congrFun h i)

theorem ckey (h : (Cert.Pre_finite_scores.fn (F := Ideal) x0 x1 x2 x3 x4 x5).2.2.2 = fun _ => 1#1) (i : S256x256.Idx) : Fin' (x4 i) :=
  fin_of_cmp (congrFun h i)

end Cert.WaPre

end
-- ==== Proof.Wa.Claim.lean ====
/- The windowed attention's value claim: under the precondition the kernel and its reference leave the same array. -/
module

public import proofs.«01_k».proof.Defs
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_scores
public import proofs.«01_k».proof.Proof.Wa.Array
public import proofs.«01_k».proof.Proof.Wa.Ref
public import proofs.«01_k».proof.Proof.Wa.Pre
public import Idealize.ShloMosaic.Lib.Claim
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem

namespace Cert.WAClaim

theorem algebraic : Cert.algebraic_KernelIdeal_ReferenceIdeal_pre_finite_scores := by
  pair_intro
  · run_from Cert.KernelIdeal.Gen.run_main m g
  · run_from Cert.ReferenceIdeal.Value.run m' g'
    obtain ⟨p0, p1, p2, p4⟩ := hpre c
    obtain ⟨a0, a1, a2, a3, a4, a5⟩ := hagree c
    rw [Cert.ReferenceIdeal.Read.val_main_v81_eq, a0, a1, a2, a3, a4, a5]
    exact (Cert.WaRef.ref_eq _ _ _ _ _ _ (Cert.WaPre.sink _ _ _ _ _ _ p0) (Cert.WaPre.query _ _ _ _ _ _ p1)
      (Cert.WaPre.key _ _ _ _ _ _ p2) (Cert.WaPre.ckey _ _ _ _ _ _ p4)).trans (Cert.Wa.final m c).symm

end Cert.WAClaim

end
-- ==== Proof.Expert.lean ====
/- The experts' gate and up products: the array the kernel leaves is the reference's product, element by element. -/
module

public import proofs.«01_k».proof.Proof.Gen.ExpertIdeal.Frame
public import proofs.«01_k».proof.Proof.Gen.ExpertIdeal.Value
public import proofs.«01_k».proof.Proof.Gen.ExpertRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ExpertValue

open Cert.ExpertIdeal Cert.ExpertIdeal.Gen

variable (m : (ℓ : Loc nD τ sig) → Buf (Elt Ideal) ℓ)

/-- Every window's block index at every grid point. -/
theorem idx : ∀ t : Fin cfg0.N, win0_0.index t = ![t.val / 4, t.val % 4, 0]
    ∧ win0_1.index t = ![t.val / 4, 0, 0]
    ∧ win0_2.index t = ![t.val / 4, t.val % 4, 0] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.ExpertRefIdeal.Read.val_main_v0 (F := Ideal) (m ((c : Thread nD τ).loc main_arg0)) (m ((c : Thread nD τ).loc main_arg1))
        (((cfg0.win 2).blk t).view.emb y) := by
  pointwise [k0_pay1, Cert.ExpertRefIdeal.Read.val_main_v0]
  blk_point [iblk, V, idx t]

/-- The result array after the run. -/
theorem final (c : Dev nD) : (dats m 0 c).arrAt 2 (cfgs 0).N
    = Cert.ExpertRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.ExpertValue

end
-- ==== Proof.Down.lean ====
/- The experts' down products: the array the kernel leaves is the reference's product, element by element. -/
module

public import proofs.«01_k».proof.Proof.Gen.DownIdeal.Frame
public import proofs.«01_k».proof.Proof.Gen.DownIdeal.Value
public import proofs.«01_k».proof.Proof.Gen.DownRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownValue

open Cert.DownIdeal Cert.DownIdeal.Gen

variable (m : (ℓ : Loc nD τ sig) → Buf (Elt Ideal) ℓ)

/-- Every window's block index at every grid point. -/
theorem idx : ∀ t : Fin cfg0.N, win0_0.index t = ![t.val / 8, t.val % 4, 0]
    ∧ win0_1.index t = ![t.val / 8, 0, t.val / 4 % 2]
    ∧ win0_2.index t = ![t.val / 8, t.val % 4, t.val / 4 % 2] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.DownRefIdeal.Read.val_main_v0 (F := Ideal) (m ((c : Thread nD τ).loc main_arg0)) (m ((c : Thread nD τ).loc main_arg1))
        (((cfg0.win 2).blk t).view.emb y) := by
  pointwise [k0_pay1, Cert.DownRefIdeal.Read.val_main_v0]
  blk_point [iblk, V, idx t]

/-- The result array after the run. -/
theorem final (c : Dev nD) : (dats m 0 c).arrAt 2 (cfgs 0).N
    = Cert.DownRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.DownValue

end
-- ==== Proof.Branch.lean ====
/- The output products of the three branches: the array the kernel leaves is the reference's product, element by element. -/
module

public import proofs.«01_k».proof.Proof.Gen.BranchIdeal.Frame
public import proofs.«01_k».proof.Proof.Gen.BranchIdeal.Value
public import proofs.«01_k».proof.Proof.Gen.BranchRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BranchValue

open Cert.BranchIdeal Cert.BranchIdeal.Gen

variable (m : (ℓ : Loc nD τ sig) → Buf (Elt Ideal) ℓ)

/-- Every window's block index at every grid point. -/
theorem idx : ∀ t : Fin cfg0.N, win0_0.index t = ![t.val % 32, 0]
    ∧ win0_1.index t = ![0, t.val / 32]
    ∧ win0_2.index t = ![t.val % 32, t.val / 32] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.BranchRefIdeal.Read.val_main_v0 (F := Ideal) (m ((c : Thread nD τ).loc main_arg0)) (m ((c : Thread nD τ).loc main_arg1))
        (((cfg0.win 2).blk t).view.emb y) := by
  pointwise [k0_pay1, Cert.BranchRefIdeal.Read.val_main_v0]
  blk_point [iblk, V, idx t]

/-- The result array after the run. -/
theorem final (c : Dev nD) : (dats m 0 c).arrAt 2 (cfgs 0).N
    = Cert.BranchRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.BranchValue

end
-- ==== Proof.OutProj.lean ====
/- The layer's output product: the array the kernel leaves is the reference's product, element by element. -/
module

public import proofs.«01_k».proof.Proof.Gen.OutProjIdeal.Frame
public import proofs.«01_k».proof.Proof.Gen.OutProjIdeal.Value
public import proofs.«01_k».proof.Proof.Gen.OutProjRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjValue

open Cert.OutProjIdeal Cert.OutProjIdeal.Gen

variable (m : (ℓ : Loc nD τ sig) → Buf (Elt Ideal) ℓ)

/-- Every window's block index at every grid point. -/
theorem idx : ∀ t : Fin cfg0.N, win0_0.index t = ![t.val % 32, 0]
    ∧ win0_1.index t = ![0, t.val / 32]
    ∧ win0_2.index t = ![t.val % 32, t.val / 32] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.OutProjRefIdeal.Read.val_main_v0 (F := Ideal) (m ((c : Thread nD τ).loc main_arg0)) (m ((c : Thread nD τ).loc main_arg1))
        (((cfg0.win 2).blk t).view.emb y) := by
  pointwise [k0_pay1, Cert.OutProjRefIdeal.Read.val_main_v0]
  blk_point [iblk, V, idx t]

/-- The result array after the run. -/
theorem final (c : Dev nD) : (dats m 0 c).arrAt 2 (cfgs 0).N
    = Cert.OutProjRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.OutProjValue

end
-- ==== Proof.Hyena.lean ====
/- The input projection's columns for the convolution branch: the array the kernel leaves is the reference's product, element by element. -/
module

public import proofs.«01_k».proof.Proof.Gen.HyenaIdeal.Frame
public import proofs.«01_k».proof.Proof.Gen.HyenaIdeal.Value
public import proofs.«01_k».proof.Proof.Gen.HyenaRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.HyenaValue

open Cert.HyenaIdeal Cert.HyenaIdeal.Gen

variable (m : (ℓ : Loc nD τ sig) → Buf (Elt Ideal) ℓ)

/-- Every window's block index at every grid point. -/
theorem idx : ∀ t : Fin cfg0.N, win0_0.index t = ![t.val % 16, 0]
    ∧ win0_1.index t = ![0, t.val / 16]
    ∧ win0_2.index t = ![t.val % 16, t.val / 16] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.HyenaRefIdeal.Read.val_main_v2 (F := Ideal) (m ((c : Thread nD τ).loc main_arg0)) (m ((c : Thread nD τ).loc main_arg1))
        (((cfg0.win 2).blk t).view.emb y) := by
  pointwise [k0_pay1, Cert.HyenaRefIdeal.Read.val_main_v0, Cert.HyenaRefIdeal.Read.val_main_v1, Cert.HyenaRefIdeal.Read.val_main_v2]
  blk_point [iblk, V, idx t]

/-- The result array after the run. -/
theorem final (c : Dev nD) : (dats m 0 c).arrAt 2 (cfgs 0).N
    = Cert.HyenaRefIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.HyenaValue

end
-- ==== Proof.Gates.lean ====
/- The branch gates: the array the kernel leaves is the reference's product, element by element. -/
module

public import proofs.«01_k».proof.Proof.Gen.GatesIdeal.Frame
public import proofs.«01_k».proof.Proof.Gen.GatesIdeal.Value
public import proofs.«01_k».proof.Proof.Gen.GatesRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GatesValue

open Cert.GatesIdeal Cert.GatesIdeal.Gen

variable (m : (ℓ : Loc nD τ sig) → Buf (Elt Ideal) ℓ)

/-- Every window's block index at every grid point. -/
theorem idx : ∀ t : Fin cfg0.N, win0_0.index t = ![t.val % 16, 0]
    ∧ win0_1.index t = ![0, t.val / 16]
    ∧ win0_2.index t = ![t.val % 16, t.val / 16] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.GatesRefIdeal.Read.val_main_v8 (F := Ideal) (m ((c : Thread nD τ).loc main_arg0)) (m ((c : Thread nD τ).loc main_arg1))
        (((cfg0.win 2).blk t).view.emb y) := by
  pointwise [k0_pay1, Ideal.logistic, Cert.GatesRefIdeal.Read.val_main_cst, Cert.GatesRefIdeal.Read.val_main_cst_0, Cert.GatesRefIdeal.Read.val_main_v0, Cert.GatesRefIdeal.Read.val_main_v1, Cert.GatesRefIdeal.Read.val_main_v2, Cert.GatesRefIdeal.Read.val_main_v3, Cert.GatesRefIdeal.Read.val_main_v4, Cert.GatesRefIdeal.Read.val_main_v5, Cert.GatesRefIdeal.Read.val_main_v6, Cert.GatesRefIdeal.Read.val_main_v7, Cert.GatesRefIdeal.Read.val_main_v8]
  blk_point [iblk, V, idx t]

/-- The result array after the run. -/
theorem final (c : Dev nD) : (dats m 0 c).arrAt 2 (cfgs 0).N
    = Cert.GatesRefIdeal.Read.val_main_v8 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.GatesValue

end
-- ==== Proof.NaV.lean ====
/- The neighbourhood attention's values: the array the kernel leaves is the reference's product, element by element. -/
module

public import proofs.«01_k».proof.Proof.Gen.NaVIdeal.Frame
public import proofs.«01_k».proof.Proof.Gen.NaVIdeal.Value
public import proofs.«01_k».proof.Proof.Gen.NaVRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NaVValue

open Cert.NaVIdeal Cert.NaVIdeal.Gen

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.NaVRefIdeal.Read.val_main_v5 (F := Ideal) (m ((c : Thread nD τ).loc main_arg0)) (m ((c : Thread nD τ).loc main_arg1))
        (((cfg0.win 2).blk t).view.emb y) := by
  pointwise [k0_pay1, Cert.NaVRefIdeal.Read.val_main_v0, Cert.NaVRefIdeal.Read.val_main_v1, Cert.NaVRefIdeal.Read.val_main_v2, Cert.NaVRefIdeal.Read.val_main_v3, Cert.NaVRefIdeal.Read.val_main_v4, Cert.NaVRefIdeal.Read.val_main_v5]
  blk_point [iblk, V, idx t]

/-- The result array after the run. -/
theorem final (c : Dev nD) : (dats m 0 c).arrAt 2 (cfgs 0).N
    = Cert.NaVRefIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.NaVValue

end
-- ==== Proof.WaV.lean ====
/- The windowed attention's keys-and-values columns: the array the kernel leaves is the reference's product, element by element. -/
module

public import proofs.«01_k».proof.Proof.Gen.WaVIdeal.Frame
public import proofs.«01_k».proof.Proof.Gen.WaVIdeal.Value
public import proofs.«01_k».proof.Proof.Gen.WaVRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WaVValue

open Cert.WaVIdeal Cert.WaVIdeal.Gen

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.WaVRefIdeal.Read.val_main_v5 (F := Ideal) (m ((c : Thread nD τ).loc main_arg0)) (m ((c : Thread nD τ).loc main_arg1))
        (((cfg0.win 2).blk t).view.emb y) := by
  pointwise [k0_pay1, Cert.WaVRefIdeal.Read.val_main_v0, Cert.WaVRefIdeal.Read.val_main_v1, Cert.WaVRefIdeal.Read.val_main_v2, Cert.WaVRefIdeal.Read.val_main_v3, Cert.WaVRefIdeal.Read.val_main_v4, Cert.WaVRefIdeal.Read.val_main_v5]
  blk_point [iblk, V, idx t]

/-- The result array after the run. -/
theorem final (c : Dev nD) : (dats m 0 c).arrAt 2 (cfgs 0).N
    = Cert.WaVRefIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.WaVValue

end
-- ==== Proof.HeadNorm.lean ====
/- A head normalised: every entry times the inverse root of the mean square. -/
module

public import Idealize.ShloMosaic.Lib.Pointwise

@[expose] public section

noncomputable section

namespace Cert.HeadNorm

open Idealize.ShloMosaic

/-- Entry `d` of the head `z`, normalised. -/
def hnorm (z : Fin 128 → EReal) (d : Fin 128) : EReal :=
  z d * Ideal.rsqrt (Ideal.div (∑ j, z j * z j) (Ideal.ofBits .f32 0x43000000#32) + Ideal.ofBits .f32 0x358637BD#32)

theorem one_word : Ideal.ofBits .f32 0x3F800000#32 = 1 := by
  simp [Ideal.ofBits, Ideal.ieee]
  rw [← EReal.coe_mul]
  exact congrArg _ (by norm_num : (8388608 : ℝ) * (2 ^ 23)⁻¹ = 1)

end Cert.HeadNorm

end
-- ==== Proof.NaQ.lean ====
/- The neighbourhood attention's queries: the array the kernel leaves is the reference's product, normalised head by head, element by element. -/
module

public import proofs.«01_k».proof.Proof.Gen.NaQIdeal.Frame
public import proofs.«01_k».proof.Proof.Gen.NaQIdeal.Value
public import proofs.«01_k».proof.Proof.Gen.NaQRefIdeal.Read
public import proofs.«01_k».proof.Proof.HeadNorm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NaQValue

open Cert.NaQIdeal Cert.NaQIdeal.Gen Cert.HeadNorm

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

/-! The loads of whole blocks. -/

theorem zeros : (![0, 0] : Fin 2 → Nat) = fun _ => 0 := by funext a; match a with | ⟨0, _⟩ => rfl | ⟨1, _⟩ => rfl

theorem pay13_eq (x0 : Vec Ideal S1024x2048 .bf16) (x1 : Vec Ideal S2048x1024 .bf16) (x2 : Vec Ideal S1x128 .f32) :
    k0_pay13 x0 x1 x2 = k0_pay2 x0 x1 :=
  congrArg₂ k0_pay2 (View.ld_unit_zero (S := S1024x2048) zeros _ x0) (View.ld_unit_zero (S := S2048x1024) zeros _ x1)

theorem pay14_eq (x0 : Vec Ideal S1024x2048 .bf16) (x1 : Vec Ideal S2048x1024 .bf16) (x2 : Vec Ideal S1x128 .f32) :
    k0_pay14 x0 x1 x2 = k0_pay3 x2 :=
  congrArg k0_pay3 (View.ld_unit_zero (S := S1x128) zeros _ x2)

/-! The eight stores: one head each. -/

section heads
variable (v3 : FVec Ideal S1024x1024 .f32) (v7 : FVec Ideal S1x128 .f32)
  (v0 : Vec Ideal S1024x2048 .bf16) (v1 : Vec Ideal S2048x1024 .bf16) (v4 : Vec Ideal S1x128 .f32) (r : Fin 1024) (d : Fin 128)

theorem head0 : k0_pay4 v0 v1 v4 (ix2 r d)
    = hnorm (fun j => (k0_pay2 v0 v1) (ix2 r (⟨0 + j.val, by omega⟩ : Fin 1024))) d * (k0_pay3 v4) (ix2 0 d) := by
  unfold k0_pay4
  generalize k0_pay2 v0 v1 = v3
  generalize k0_pay3 v4 = v7
  pointwise []
  rfl

theorem head1 : k0_pay5 v0 v1 v4 (ix2 r d)
    = hnorm (fun j => (k0_pay2 v0 v1) (ix2 r (⟨128 + j.val, by omega⟩ : Fin 1024))) d * (k0_pay3 v4) (ix2 0 d) := by
  unfold k0_pay5
  generalize k0_pay2 v0 v1 = v3
  generalize k0_pay3 v4 = v7
  pointwise []
  rfl

theorem head2 : k0_pay6 v3 v7 (ix2 r d)
    = hnorm (fun j => (v3) (ix2 r (⟨256 + j.val, by omega⟩ : Fin 1024))) d * (v7) (ix2 0 d) := by
  pointwise [k0_pay6]
  rfl

theorem head3 : k0_pay7 v3 v7 (ix2 r d)
    = hnorm (fun j => (v3) (ix2 r (⟨384 + j.val, by omega⟩ : Fin 1024))) d * (v7) (ix2 0 d) := by
  pointwise [k0_pay7]
  rfl

theorem head4 : k0_pay8 v3 v7 (ix2 r d)
    = hnorm (fun j => (v3) (ix2 r (⟨512 + j.val, by omega⟩ : Fin 1024))) d * (v7) (ix2 0 d) := by
  pointwise [k0_pay8]
  rfl

theorem head5 : k0_pay9 v3 v7 (ix2 r d)
    = hnorm (fun j => (v3) (ix2 r (⟨640 + j.val, by omega⟩ : Fin 1024))) d * (v7) (ix2 0 d) := by
  pointwise [k0_pay9]
  rfl

theorem head6 : k0_pay10 v3 v7 (ix2 r d)
    = hnorm (fun j => (v3) (ix2 r (⟨768 + j.val, by omega⟩ : Fin 1024))) d * (v7) (ix2 0 d) := by
  pointwise [k0_pay10]
  rfl

theorem head7 : k0_pay1 (k0_pay11 v3) (k0_pay12 v7) (ix2 r d)
    = hnorm (fun j => (v3) (ix2 r (⟨896 + j.val, by omega⟩ : Fin 1024))) d * (v7) (ix2 0 d) := by
  pointwise [k0_pay1, k0_pay11, k0_pay12]
  rfl

end heads

/-- The reference, head by head. -/
theorem ref_at (x0 : FVec Ideal S16384x2048 .bf16) (x1 : FVec Ideal S2048x13824 .f32) (x2 : FVec Ideal S128 .f32)
    (p : Fin 16384) (h : Fin 8) (d : Fin 128) :
    Cert.NaQRefIdeal.Read.val_main_v20 (F := Ideal) x0 x1 x2 (ix2 p (⟨128 * h.val + d.val, by omega⟩ : Fin 1024))
      = hnorm (fun j => Cert.NaQRefIdeal.Read.val_main_v2 (F := Ideal) x0 x1 (ix2 p (⟨128 * h.val + j.val, by omega⟩ : Fin 1024))) d * x2 (ix1 d) * Ideal.ofBits .f32 0x3DB504F3#32 := by
  pointwise [Cert.NaQRefIdeal.Read.val_main_v20, Cert.NaQRefIdeal.Read.val_main_v19, Cert.NaQRefIdeal.Read.val_main_v18, Cert.NaQRefIdeal.Read.val_main_v17, Cert.NaQRefIdeal.Read.val_main_v16, Cert.NaQRefIdeal.Read.val_main_v15, Cert.NaQRefIdeal.Read.val_main_v14, Cert.NaQRefIdeal.Read.val_main_v13, Cert.NaQRefIdeal.Read.val_main_v12, Cert.NaQRefIdeal.Read.val_main_v11, Cert.NaQRefIdeal.Read.val_main_v10, Cert.NaQRefIdeal.Read.val_main_v9, Cert.NaQRefIdeal.Read.val_main_v8, Cert.NaQRefIdeal.Read.val_main_v7, Cert.NaQRefIdeal.Read.val_main_v6, Cert.NaQRefIdeal.Read.val_main_v5, Cert.NaQRefIdeal.Read.val_main_v4, Cert.NaQRefIdeal.Read.val_main_v3, Cert.NaQRefIdeal.Read.val_main_cst, Cert.NaQRefIdeal.Read.val_main_cst_0, Cert.NaQRefIdeal.Read.val_main_cst_1, Cert.NaQRefIdeal.Read.val_main_cst_2]
  simp only [Nat.mul_comm h.val 128]
  rfl

section reads
variable (c : Dev nD) (t : Fin cfg0.N)

/-- The product's block. -/
theorem prod (r : Fin 1024) (l : Fin 1024) (p : Fin 16384) (hp : p.val = 1024 * t.val + r.val) :
    k0_pay2 (iblk m c 0 t) (iblk m c 1 t) (ix2 r l)
      = Cert.NaQRefIdeal.Read.val_main_v2 (F := Ideal) (m ((c : Thread nD τ).loc main_arg0)) (m ((c : Thread nD τ).loc main_arg1)) (ix2 p l) := by
  pointwise [k0_pay2, Cert.NaQRefIdeal.Read.val_main_v2, Cert.NaQRefIdeal.Read.val_main_v1, Cert.NaQRefIdeal.Read.val_main_v0]
  blk_point [iblk, V, idx t]

theorem gain (x2 : FVec Ideal S128 .f32) (hx : m ((c : Thread nD τ).loc main_arg2) = x2) (d : Fin 128) :
    k0_pay3 (iblk m c 2 t) (ix2 0 d)
      = x2 (ix1 d) * Ideal.ofBits .f32 0x3DB504F3#32 := by
  subst hx
  pointwise [k0_pay3]
  blk_point [iblk, V, idx t]

/-- One head's tile at block `t`: the reference at the place it stands for. -/
theorem tile (h : Fin 8) (f : Fin 128 → Fin 1024) (hf : ∀ j, (f j).val = 128 * h.val + j.val) (r : Fin 1024) (d : Fin 128) (y : S1024x1024.Idx) (h0 : (y 0).val = r.val)
    (h1 : (y 1).val = 128 * h.val + d.val) :
    hnorm (fun j => k0_pay2 (iblk m c 0 t) (iblk m c 1 t) (ix2 r (f j))) d
        * k0_pay3 (iblk m c 2 t) (ix2 0 d)
      = Cert.NaQRefIdeal.Read.val_main_v20 (F := Ideal) (m ((c : Thread nD τ).loc main_arg0)) (m ((c : Thread nD τ).loc main_arg1)) (m ((c : Thread nD τ).loc main_arg2))
        (((cfg0.win 3).blk t).view.emb y) := by
  obtain rfl : f = fun j => (⟨128 * h.val + j.val, by omega⟩ : Fin 1024) := funext fun j => Fin.ext (hf j)
  have ht : t.val < 16 := lt_of_lt_of_eq t.isLt (by decide)
  have hr := r.isLt
  have e0 : ((((cfg0.win 3).blk t).view.emb y) 0 : Fin 16384).val = 1024 * t.val + r.val := by
    blk_simp [idx t]; omega
  have e1 : ((((cfg0.win 3).blk t).view.emb y) 1 : Fin 1024).val = 128 * h.val + d.val := by
    blk_simp [idx t]; omega
  have e : ((cfg0.win 3).blk t).view.emb y
      = ix2 (⟨1024 * t.val + r.val, by omega⟩ : Fin 16384) (⟨128 * h.val + d.val, by omega⟩ : Fin 1024) := by
    funext a; match a with | ⟨0, _⟩ => exact Fin.ext e0 | ⟨1, _⟩ => exact Fin.ext e1
  rw [e, ref_at, gain m c t _ rfl]
  simp only [prod m c t r _ (⟨1024 * t.val + r.val, by omega⟩ : Fin 16384) rfl]
  exact (mul_assoc _ _ _).symm

end reads

set_option maxHeartbeats 400000 in
/-- What the body stores at block index `y` of point `t` is the reference at the place of `y` in the array. -/
theorem point (c : Dev nD) (t : Fin cfg0.N) (y) :
    out0_3 (iblk m c 0 t) (iblk m c 1 t) (iblk m c 2 t) y
      = Cert.NaQRefIdeal.Read.val_main_v20 (F := Ideal) (m ((c : Thread nD τ).loc main_arg0)) (m ((c : Thread nD τ).loc main_arg1)) (m ((c : Thread nD τ).loc main_arg2))
        (((cfg0.win 3).blk t).view.emb y) := by
  frame_out
  canon_tiles x h
  case piece0 =>
    idx_vars x
    rw [pay13_eq, pay14_eq]
    refine (head7 (k0_pay2 (iblk m c 0 t) (iblk m c 1 t)) (k0_pay3 (iblk m c 2 t)) _ _).trans ?_
    exact tile m c t (⟨7, by omega⟩ : Fin 8) _ (fun j => rfl) _ _ y h0 h1
  case piece1 =>
    idx_vars x
    rw [pay13_eq, pay14_eq]
    refine (head6 (k0_pay2 (iblk m c 0 t) (iblk m c 1 t)) (k0_pay3 (iblk m c 2 t)) _ _).trans ?_
    exact tile m c t (⟨6, by omega⟩ : Fin 8) _ (fun j => rfl) _ _ y h0 h1
  case piece2 =>
    idx_vars x
    rw [pay13_eq, pay14_eq]
    refine (head5 (k0_pay2 (iblk m c 0 t) (iblk m c 1 t)) (k0_pay3 (iblk m c 2 t)) _ _).trans ?_
    exact tile m c t (⟨5, by omega⟩ : Fin 8) _ (fun j => rfl) _ _ y h0 h1
  case piece3 =>
    idx_vars x
    rw [pay13_eq, pay14_eq]
    refine (head4 (k0_pay2 (iblk m c 0 t) (iblk m c 1 t)) (k0_pay3 (iblk m c 2 t)) _ _).trans ?_
    exact tile m c t (⟨4, by omega⟩ : Fin 8) _ (fun j => rfl) _ _ y h0 h1
  case piece4 =>
    idx_vars x
    rw [pay13_eq, pay14_eq]
    refine (head3 (k0_pay2 (iblk m c 0 t) (iblk m c 1 t)) (k0_pay3 (iblk m c 2 t)) _ _).trans ?_
    exact tile m c t (⟨3, by omega⟩ : Fin 8) _ (fun j => rfl) _ _ y h0 h1
  case piece5 =>
    idx_vars x
    rw [pay13_eq, pay14_eq]
    refine (head2 (k0_pay2 (iblk m c 0 t) (iblk m c 1 t)) (k0_pay3 (iblk m c 2 t)) _ _).trans ?_
    exact tile m c t (⟨2, by omega⟩ : Fin 8) _ (fun j => rfl) _ _ y h0 h1
  case piece6 =>
    idx_vars x
    refine (head1 (iblk m c 0 t) (iblk m c 1 t) (iblk m c 2 t) _ _).trans ?_
    exact tile m c t (⟨1, by omega⟩ : Fin 8) _ (fun j => rfl) _ _ y h0 h1
  case piece7 =>
    idx_vars x
    refine (head0 (iblk m c 0 t) (iblk m c 1 t) (iblk m c 2 t) _ _).trans ?_
    exact tile m c t (⟨0, by omega⟩ : Fin 8) _ (fun j => by show 0 + j.val = 128 * 0 + j.val; omega) _ _ y h0 (h1.trans (Nat.zero_add _).symm)

/-- The result array after the run. -/
theorem final (c : Dev nD) : (dats m 0 c).arrAt 3 (cfgs 0).N
    = Cert.NaQRefIdeal.Read.val_main_v20 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.NaQValue

end
-- ==== Proof.NaK.lean ====
/- The neighbourhood attention's keys: the array the kernel leaves is the reference's product, normalised head by head, element by element. -/
module

public import proofs.«01_k».proof.Proof.Gen.NaKIdeal.Frame
public import proofs.«01_k».proof.Proof.Gen.NaKIdeal.Value
public import proofs.«01_k».proof.Proof.Gen.NaKRefIdeal.Read
public import proofs.«01_k».proof.Proof.HeadNorm
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NaKValue

open Cert.NaKIdeal Cert.NaKIdeal.Gen Cert.HeadNorm

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

/-! The loads of whole blocks. -/

theorem zeros : (![0, 0] : Fin 2 → Nat) = fun _ => 0 := by funext a; match a with | ⟨0, _⟩ => rfl | ⟨1, _⟩ => rfl

theorem pay13_eq (x0 : Vec Ideal S1024x2048 .bf16) (x1 : Vec Ideal S2048x1024 .bf16) (x2 : Vec Ideal S1x128 .f32) :
    k0_pay13 x0 x1 x2 = k0_pay2 x0 x1 :=
  congrArg₂ k0_pay2 (View.ld_unit_zero (S := S1024x2048) zeros _ x0) (View.ld_unit_zero (S := S2048x1024) zeros _ x1)

theorem pay14_eq (x0 : Vec Ideal S1024x2048 .bf16) (x1 : Vec Ideal S2048x1024 .bf16) (x2 : Vec Ideal S1x128 .f32) :
    k0_pay14 x0 x1 x2 = k0_pay3 x2 :=
  congrArg k0_pay3 (View.ld_unit_zero (S := S1x128) zeros _ x2)

/-! The eight stores: one head each. -/

section heads
variable (v3 : FVec Ideal S1024x1024 .f32) (v7 : FVec Ideal S1x128 .f32)
  (v0 : Vec Ideal S1024x2048 .bf16) (v1 : Vec Ideal S2048x1024 .bf16) (v4 : Vec Ideal S1x128 .f32) (r : Fin 1024) (d : Fin 128)

theorem head0 : k0_pay4 v0 v1 v4 (ix2 r d)
    = hnorm (fun j => (k0_pay2 v0 v1) (ix2 r (⟨0 + j.val, by omega⟩ : Fin 1024))) d * (k0_pay3 v4) (ix2 0 d) := by
  unfold k0_pay4
  generalize k0_pay2 v0 v1 = v3
  generalize k0_pay3 v4 = v7
  pointwise []
  rfl

theorem head1 : k0_pay5 v0 v1 v4 (ix2 r d)
    = hnorm (fun j => (k0_pay2 v0 v1) (ix2 r (⟨128 + j.val, by omega⟩ : Fin 1024))) d * (k0_pay3 v4) (ix2 0 d) := by
  unfold k0_pay5
  generalize k0_pay2 v0 v1 = v3
  generalize k0_pay3 v4 = v7
  pointwise []
  rfl

theorem head2 : k0_pay6 v3 v7 (ix2 r d)
    = hnorm (fun j => (v3) (ix2 r (⟨256 + j.val, by omega⟩ : Fin 1024))) d * (v7) (ix2 0 d) := by
  pointwise [k0_pay6]
  rfl

theorem head3 : k0_pay7 v3 v7 (ix2 r d)
    = hnorm (fun j => (v3) (ix2 r (⟨384 + j.val, by omega⟩ : Fin 1024))) d * (v7) (ix2 0 d) := by
  pointwise [k0_pay7]
  rfl

theorem head4 : k0_pay8 v3 v7 (ix2 r d)
    = hnorm (fun j => (v3) (ix2 r (⟨512 + j.val, by omega⟩ : Fin 1024))) d * (v7) (ix2 0 d) := by
  pointwise [k0_pay8]
  rfl

theorem head5 : k0_pay9 v3 v7 (ix2 r d)
    = hnorm (fun j => (v3) (ix2 r (⟨640 + j.val, by omega⟩ : Fin 1024))) d * (v7) (ix2 0 d) := by
  pointwise [k0_pay9]
  rfl

theorem head6 : k0_pay10 v3 v7 (ix2 r d)
    = hnorm (fun j => (v3) (ix2 r (⟨768 + j.val, by omega⟩ : Fin 1024))) d * (v7) (ix2 0 d) := by
  pointwise [k0_pay10]
  rfl

theorem head7 : k0_pay1 (k0_pay11 v3) (k0_pay12 v7) (ix2 r d)
    = hnorm (fun j => (v3) (ix2 r (⟨896 + j.val, by omega⟩ : Fin 1024))) d * (v7) (ix2 0 d) := by
  pointwise [k0_pay1, k0_pay11, k0_pay12]
  rfl

end heads

/-- The reference, head by head. -/
theorem ref_at (x0 : FVec Ideal S16384x2048 .bf16) (x1 : FVec Ideal S2048x13824 .f32) (x2 : FVec Ideal S128 .f32)
    (p : Fin 16384) (h : Fin 8) (d : Fin 128) :
    Cert.NaKRefIdeal.Read.val_main_v20 (F := Ideal) x0 x1 x2 (ix2 p (⟨128 * h.val + d.val, by omega⟩ : Fin 1024))
      = hnorm (fun j => Cert.NaKRefIdeal.Read.val_main_v3 (F := Ideal) x0 x1 (ix2 p (⟨128 * h.val + j.val, by omega⟩ : Fin 1024))) d * x2 (ix1 d) := by
  pointwise [Cert.NaKRefIdeal.Read.val_main_v20, Cert.NaKRefIdeal.Read.val_main_v19, Cert.NaKRefIdeal.Read.val_main_v18, Cert.NaKRefIdeal.Read.val_main_v17, Cert.NaKRefIdeal.Read.val_main_v16, Cert.NaKRefIdeal.Read.val_main_v15, Cert.NaKRefIdeal.Read.val_main_v14, Cert.NaKRefIdeal.Read.val_main_v13, Cert.NaKRefIdeal.Read.val_main_v12, Cert.NaKRefIdeal.Read.val_main_v11, Cert.NaKRefIdeal.Read.val_main_v10, Cert.NaKRefIdeal.Read.val_main_v9, Cert.NaKRefIdeal.Read.val_main_v8, Cert.NaKRefIdeal.Read.val_main_v7, Cert.NaKRefIdeal.Read.val_main_v6, Cert.NaKRefIdeal.Read.val_main_v5, Cert.NaKRefIdeal.Read.val_main_cst, Cert.NaKRefIdeal.Read.val_main_cst_0, Cert.NaKRefIdeal.Read.val_main_cst_1]
  simp only [Nat.mul_comm h.val 128]
  rfl

section reads
variable (c : Dev nD) (t : Fin cfg0.N)

/-- The product's block. -/
theorem prod (r : Fin 1024) (l : Fin 1024) (p : Fin 16384) (hp : p.val = 1024 * t.val + r.val) :
    k0_pay2 (iblk m c 0 t) (iblk m c 1 t) (ix2 r l)
      = Cert.NaKRefIdeal.Read.val_main_v3 (F := Ideal) (m ((c : Thread nD τ).loc main_arg0)) (m ((c : Thread nD τ).loc main_arg1)) (ix2 p l) := by
  pointwise [k0_pay2, Cert.NaKRefIdeal.Read.val_main_v3, Cert.NaKRefIdeal.Read.val_main_v2, Cert.NaKRefIdeal.Read.val_main_v1, Cert.NaKRefIdeal.Read.val_main_v0]
  blk_point [iblk, V, idx t]

theorem gain (x2 : FVec Ideal S128 .f32) (hx : m ((c : Thread nD τ).loc main_arg2) = x2) (d : Fin 128) :
    k0_pay3 (iblk m c 2 t) (ix2 0 d)
      = x2 (ix1 d) * Ideal.ofBits .f32 0x3F800000#32 := by
  subst hx
  pointwise [k0_pay3]
  blk_point [iblk, V, idx t]

/-- One head's tile at block `t`: the reference at the place it stands for. -/
theorem tile (h : Fin 8) (f : Fin 128 → Fin 1024) (hf : ∀ j, (f j).val = 128 * h.val + j.val) (r : Fin 1024) (d : Fin 128) (y : S1024x1024.Idx) (h0 : (y 0).val = r.val)
    (h1 : (y 1).val = 128 * h.val + d.val) :
    hnorm (fun j => k0_pay2 (iblk m c 0 t) (iblk m c 1 t) (ix2 r (f j))) d
        * k0_pay3 (iblk m c 2 t) (ix2 0 d)
      = Cert.NaKRefIdeal.Read.val_main_v20 (F := Ideal) (m ((c : Thread nD τ).loc main_arg0)) (m ((c : Thread nD τ).loc main_arg1)) (m ((c : Thread nD τ).loc main_arg2))
        (((cfg0.win 3).blk t).view.emb y) := by
  obtain rfl : f = fun j => (⟨128 * h.val + j.val, by omega⟩ : Fin 1024) := funext fun j => Fin.ext (hf j)
  have ht : t.val < 16 := lt_of_lt_of_eq t.isLt (by decide)
  have hr := r.isLt
  have e0 : ((((cfg0.win 3).blk t).view.emb y) 0 : Fin 16384).val = 1024 * t.val + r.val := by
    blk_simp [idx t]; omega
  have e1 : ((((cfg0.win 3).blk t).view.emb y) 1 : Fin 1024).val = 128 * h.val + d.val := by
    blk_simp [idx t]; omega
  have e : ((cfg0.win 3).blk t).view.emb y
      = ix2 (⟨1024 * t.val + r.val, by omega⟩ : Fin 16384) (⟨128 * h.val + d.val, by omega⟩ : Fin 1024) := by
    funext a; match a with | ⟨0, _⟩ => exact Fin.ext e0 | ⟨1, _⟩ => exact Fin.ext e1
  rw [e, ref_at, gain m c t _ rfl]
  simp only [prod m c t r _ (⟨1024 * t.val + r.val, by omega⟩ : Fin 16384) rfl]
  rw [one_word, mul_one]

end reads

set_option maxHeartbeats 400000 in
/-- What the body stores at block index `y` of point `t` is the reference at the place of `y` in the array. -/
theorem point (c : Dev nD) (t : Fin cfg0.N) (y) :
    out0_3 (iblk m c 0 t) (iblk m c 1 t) (iblk m c 2 t) y
      = Cert.NaKRefIdeal.Read.val_main_v20 (F := Ideal) (m ((c : Thread nD τ).loc main_arg0)) (m ((c : Thread nD τ).loc main_arg1)) (m ((c : Thread nD τ).loc main_arg2))
        (((cfg0.win 3).blk t).view.emb y) := by
  frame_out
  canon_tiles x h
  case piece0 =>
    idx_vars x
    rw [pay13_eq, pay14_eq]
    refine (head7 (k0_pay2 (iblk m c 0 t) (iblk m c 1 t)) (k0_pay3 (iblk m c 2 t)) _ _).trans ?_
    exact tile m c t (⟨7, by omega⟩ : Fin 8) _ (fun j => rfl) _ _ y h0 h1
  case piece1 =>
    idx_vars x
    rw [pay13_eq, pay14_eq]
    refine (head6 (k0_pay2 (iblk m c 0 t) (iblk m c 1 t)) (k0_pay3 (iblk m c 2 t)) _ _).trans ?_
    exact tile m c t (⟨6, by omega⟩ : Fin 8) _ (fun j => rfl) _ _ y h0 h1
  case piece2 =>
    idx_vars x
    rw [pay13_eq, pay14_eq]
    refine (head5 (k0_pay2 (iblk m c 0 t) (iblk m c 1 t)) (k0_pay3 (iblk m c 2 t)) _ _).trans ?_
    exact tile m c t (⟨5, by omega⟩ : Fin 8) _ (fun j => rfl) _ _ y h0 h1
  case piece3 =>
    idx_vars x
    rw [pay13_eq, pay14_eq]
    refine (head4 (k0_pay2 (iblk m c 0 t) (iblk m c 1 t)) (k0_pay3 (iblk m c 2 t)) _ _).trans ?_
    exact tile m c t (⟨4, by omega⟩ : Fin 8) _ (fun j => rfl) _ _ y h0 h1
  case piece4 =>
    idx_vars x
    rw [pay13_eq, pay14_eq]
    refine (head3 (k0_pay2 (iblk m c 0 t) (iblk m c 1 t)) (k0_pay3 (iblk m c 2 t)) _ _).trans ?_
    exact tile m c t (⟨3, by omega⟩ : Fin 8) _ (fun j => rfl) _ _ y h0 h1
  case piece5 =>
    idx_vars x
    rw [pay13_eq, pay14_eq]
    refine (head2 (k0_pay2 (iblk m c 0 t) (iblk m c 1 t)) (k0_pay3 (iblk m c 2 t)) _ _).trans ?_
    exact tile m c t (⟨2, by omega⟩ : Fin 8) _ (fun j => rfl) _ _ y h0 h1
  case piece6 =>
    idx_vars x
    refine (head1 (iblk m c 0 t) (iblk m c 1 t) (iblk m c 2 t) _ _).trans ?_
    exact tile m c t (⟨1, by omega⟩ : Fin 8) _ (fun j => rfl) _ _ y h0 h1
  case piece7 =>
    idx_vars x
    refine (head0 (iblk m c 0 t) (iblk m c 1 t) (iblk m c 2 t) _ _).trans ?_
    exact tile m c t (⟨0, by omega⟩ : Fin 8) _ (fun j => by show 0 + j.val = 128 * 0 + j.val; omega) _ _ y h0 (h1.trans (Nat.zero_add _).symm)

/-- The result array after the run. -/
theorem final (c : Dev nD) : (dats m 0 c).arrAt 3 (cfgs 0).N
    = Cert.NaKRefIdeal.Read.val_main_v20 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.NaKValue

end
-- ==== Proof.Rope.lean ====
/- A head turned: lane by lane the swap with the other half of the axis, and the mask that chooses it. -/
module

public import Idealize.ShloMosaic.Lib.Pointwise

@[expose] public section

set_option maxRecDepth 16384

noncomputable section

namespace Cert.Rope

open Idealize.ShloMosaic

/-- The kernel's mask at lane `d`: whether the lane lies in the first half of its axis. -/
def mask (d : Fin 128) : BitVec 1 :=
  IntOp.cmpi CmpIPredicate.slt
    (Scalar.select
      (IntOp.andi
        (IntOp.xori
          (IntOp.cmpi CmpIPredicate.slt
            (IntOp.remsi ArithUnit.vector (BitVec.ofNat 32 d.val)
              (Scalar.select (Scalar.cmpi CmpIPredicate.eq 64#32 0#32) 1#32 64#32))
            0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 d.val)
            (Scalar.select (Scalar.cmpi CmpIPredicate.eq 64#32 0#32) 1#32 64#32))
          0#32))
      (IntOp.addi
        (IntOp.remsi ArithUnit.vector (BitVec.ofNat 32 d.val)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 d.val)
        (Scalar.select (Scalar.cmpi CmpIPredicate.eq 64#32 0#32) 1#32 64#32)))
    32#32

theorem mask_eq : ∀ d : Fin 128, mask d = if d.val % 64 < 32 then 1#1 else 0#1 := by decide +kernel

/-- Lane `d` of the head `y`, turned by the cosine `c` and the signed sine `s` of the lane. -/
def turn (y : Fin 128 → EReal) (c s : EReal) (d : Fin 128) : EReal :=
  y d * c + Scalar.select (mask d) (y ⟨(d.val + 128 - 96) % 128, by omega⟩) (y ⟨(d.val + 128 - 32) % 128, by omega⟩) * s

/-- A lane of the first half of its axis. -/
theorem turn_fst (y : Fin 128 → EReal) (c s : EReal) (a : Fin 2) (f : Fin 32) :
    turn y c (-s) (⟨64 * a.val + f.val, by omega⟩ : Fin 128)
      = y (⟨64 * a.val + f.val, by omega⟩ : Fin 128) * c - y (⟨64 * a.val + 32 + f.val, by omega⟩ : Fin 128) * s := by
  have e : (⟨((⟨64 * a.val + f.val, by omega⟩ : Fin 128).val + 128 - 96) % 128, by omega⟩ : Fin 128)
      = ⟨64 * a.val + 32 + f.val, by omega⟩ := Fin.ext (by show (64 * a.val + f.val + 128 - 96) % 128 = 64 * a.val + 32 + f.val; omega)
  have hm : mask (⟨64 * a.val + f.val, by omega⟩ : Fin 128) = 1#1 := by
    rw [mask_eq, if_pos (by show (64 * a.val + f.val) % 64 < 32; omega)]
  rw [turn, hm, Scalar.select, if_pos (by decide), e, mul_neg, ← sub_eq_add_neg]

/-- A lane of the second half of its axis. -/
theorem turn_snd (y : Fin 128 → EReal) (c s : EReal) (a : Fin 2) (f : Fin 32) :
    turn y c s (⟨64 * a.val + 32 + f.val, by omega⟩ : Fin 128)
      = y (⟨64 * a.val + 32 + f.val, by omega⟩ : Fin 128) * c + y (⟨64 * a.val + f.val, by omega⟩ : Fin 128) * s := by
  have e : (⟨((⟨64 * a.val + 32 + f.val, by omega⟩ : Fin 128).val + 128 - 32) % 128, by omega⟩ : Fin 128)
      = ⟨64 * a.val + f.val, by omega⟩ := Fin.ext (by show (64 * a.val + 32 + f.val + 128 - 32) % 128 = 64 * a.val + f.val; omega)
  have hm : mask (⟨64 * a.val + 32 + f.val, by omega⟩ : Fin 128) = 0#1 := by
    rw [mask_eq, if_neg (by show ¬(64 * a.val + 32 + f.val) % 64 < 32; omega)]
  rw [turn, hm, Scalar.select, if_neg (by decide), e]

/-- The word the queries are scaled by, as a number. -/
theorem scale_real : ∃ k : ℝ, 0 ≤ k ∧ Ideal.ofBits .f32 0x3DB504F3#32 = (k : EReal) := by
  refine ⟨_, ?_, by simp [Ideal.ofBits, Ideal.ieee]; rw [← EReal.coe_mul]⟩
  positivity

/-- A factor carried by every lane is carried by the turned lane. -/
theorem turn_scale (y : Fin 128 → EReal) (c s : EReal) (d : Fin 128) (k : ℝ) (hk : 0 ≤ k) :
    turn (fun j => y j * (k : EReal)) c s d = turn y c s d * (k : EReal) := by
  have hs : ∀ (b : BitVec 1) (u v : EReal), Scalar.select b (u * (k : EReal)) (v * (k : EReal)) = Scalar.select b u v * (k : EReal) := by
    intro b u v; unfold Scalar.select; split <;> rfl
  simp only [turn, hs]
  rw [EReal.right_distrib_of_nonneg_of_ne_top (by exact_mod_cast hk) (EReal.coe_ne_top k), mul_right_comm, mul_right_comm (Scalar.select _ _ _)]

end Cert.Rope

end
-- ==== Proof.WaQ.lean ====
/- The window attention's queries: the array the kernel leaves is the reference's product, normalised and turned head by head, element by element. -/
module

public import proofs.«01_k».proof.Proof.Gen.WaQIdeal.Frame
public import proofs.«01_k».proof.Proof.Gen.WaQIdeal.Value
public import proofs.«01_k».proof.Proof.Gen.WaQRefIdeal.Read
public import proofs.«01_k».proof.Proof.HeadNorm
public import proofs.«01_k».proof.Proof.Rope
public import Idealize.ShloMosaic.Lib.StableHlo.ReadAt
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WaQValue

open Cert.WaQIdeal Cert.WaQIdeal.Gen Cert.HeadNorm Cert.Rope

variable (m : (ℓ : Loc nD τ sig) → Buf (Elt Ideal) ℓ)

/-! The tables of the angles. -/

/-- The reference's angle of axis `a` (rows, columns) and frequency `f` at the token `p`. -/
def ang (p : Fin 16384) (a : Fin 2) (f : Fin 32) : EReal :=
  match a with
  | 0 => (Cert.WaQRefIdeal.Read.val_main_v32 (F := Ideal) : FVec Ideal S16384x32 .f32) (ix2 p f)
  | 1 => (Cert.WaQRefIdeal.Read.val_main_v37 (F := Ideal) : FVec Ideal S16384x32 .f32) (ix2 p f)

theorem cos_fst (c : Dev nD) (p : Fin 16384) (a : Fin 2) (f : Fin 32) :
    V m c main_v27 (ix2 p (⟨64 * a.val + f.val, by omega⟩ : Fin 128)) = Ideal.cos (ang p a f) := by
  match a with
  | 0 =>
    show _ = Ideal.cos ((Cert.WaQRefIdeal.Read.val_main_v32 (F := Ideal) : FVec Ideal S16384x32 .f32) (ix2 p f))
    unfold V
    after_reads_simp
    pointwise []
    refine (congrFun (StableHlo.unary_result' ..) _).trans ?_
    pointwise []
    after_reads_at
    pointwise [Cert.WaQRefIdeal.Read.val_main_v17, Cert.WaQRefIdeal.Read.val_main_c, Cert.WaQRefIdeal.Read.val_main_call0_v0, Cert.WaQRefIdeal.Read.val_main_call0_v1, Cert.WaQRefIdeal.Read.val_main_call0_v2, Cert.WaQRefIdeal.Read.val_main_call0_v3, Cert.WaQRefIdeal.Read.val_main_call0_v4, Cert.WaQRefIdeal.Read.val_main_call0_v5, Cert.WaQRefIdeal.Read.val_main_call0_v6, Cert.WaQRefIdeal.Read.val_main_call0_v7, Cert.WaQRefIdeal.Read.val_main_call0_v8, Cert.WaQRefIdeal.Read.val_main_call0_c, Cert.WaQRefIdeal.Read.val_main_call0_v9, Cert.WaQRefIdeal.Read.val_main_call0_v10, Cert.WaQRefIdeal.Read.val_main_call0_v11, Cert.WaQRefIdeal.Read.val_main_call0_c_0, Cert.WaQRefIdeal.Read.val_main_call0_v12, Cert.WaQRefIdeal.Read.val_main_call0_v13, Cert.WaQRefIdeal.Read.val_main_v18, Cert.WaQRefIdeal.Read.val_main_v19, Cert.WaQRefIdeal.Read.val_main_c_2, Cert.WaQRefIdeal.Read.val_main_call1_v0, Cert.WaQRefIdeal.Read.val_main_call1_c, Cert.WaQRefIdeal.Read.val_main_call1_v1, Cert.WaQRefIdeal.Read.val_main_call1_c_0, Cert.WaQRefIdeal.Read.val_main_call1_v2, Cert.WaQRefIdeal.Read.val_main_call1_v3, Cert.WaQRefIdeal.Read.val_main_call1_v4, Cert.WaQRefIdeal.Read.val_main_call1_c_1, Cert.WaQRefIdeal.Read.val_main_call1_v5, Cert.WaQRefIdeal.Read.val_main_call1_v6, Cert.WaQRefIdeal.Read.val_main_call1_c_2, Cert.WaQRefIdeal.Read.val_main_call1_v7, Cert.WaQRefIdeal.Read.val_main_call1_v8, Cert.WaQRefIdeal.Read.val_main_call1_c_3, Cert.WaQRefIdeal.Read.val_main_call1_v9, Cert.WaQRefIdeal.Read.val_main_call1_v10, Cert.WaQRefIdeal.Read.val_main_call1_v11, Cert.WaQRefIdeal.Read.val_main_call1_v12, Cert.WaQRefIdeal.Read.val_main_call1_v13, Cert.WaQRefIdeal.Read.val_main_call1_v14, Cert.WaQRefIdeal.Read.val_main_v20, Cert.WaQRefIdeal.Read.val_main_v21, Cert.WaQRefIdeal.Read.val_main_v22, Cert.WaQRefIdeal.Read.val_main_v23, Cert.WaQRefIdeal.Read.val_main_cst_3, Cert.WaQRefIdeal.Read.val_main_v24, Cert.WaQRefIdeal.Read.val_main_v25, Cert.WaQRefIdeal.Read.val_main_cst_4, Cert.WaQRefIdeal.Read.val_main_v26, Cert.WaQRefIdeal.Read.val_main_v27, Cert.WaQRefIdeal.Read.val_main_v28, Cert.WaQRefIdeal.Read.val_main_v29, Cert.WaQRefIdeal.Read.val_main_v30, Cert.WaQRefIdeal.Read.val_main_v31, Cert.WaQRefIdeal.Read.val_main_v32, Cert.WaQRefIdeal.Read.val_main_v33, Cert.WaQRefIdeal.Read.val_main_v34, Cert.WaQRefIdeal.Read.val_main_v35, Cert.WaQRefIdeal.Read.val_main_v36, Cert.WaQRefIdeal.Read.val_main_v37]
  | 1 =>
    show _ = Ideal.cos ((Cert.WaQRefIdeal.Read.val_main_v37 (F := Ideal) : FVec Ideal S16384x32 .f32) (ix2 p f))
    unfold V
    after_reads_simp
    pointwise []
    rw [dif_neg (by omega), dif_neg (by omega), dif_pos (by omega)]
    simp only [show 64 + f.val - 32 - 32 = f.val from by omega, Fin.eta]
    refine (congrFun (StableHlo.unary_result' ..) _).trans ?_
    pointwise []
    after_reads_at
    pointwise [Cert.WaQRefIdeal.Read.val_main_v17, Cert.WaQRefIdeal.Read.val_main_c, Cert.WaQRefIdeal.Read.val_main_call0_v0, Cert.WaQRefIdeal.Read.val_main_call0_v1, Cert.WaQRefIdeal.Read.val_main_call0_v2, Cert.WaQRefIdeal.Read.val_main_call0_v3, Cert.WaQRefIdeal.Read.val_main_call0_v4, Cert.WaQRefIdeal.Read.val_main_call0_v5, Cert.WaQRefIdeal.Read.val_main_call0_v6, Cert.WaQRefIdeal.Read.val_main_call0_v7, Cert.WaQRefIdeal.Read.val_main_call0_v8, Cert.WaQRefIdeal.Read.val_main_call0_c, Cert.WaQRefIdeal.Read.val_main_call0_v9, Cert.WaQRefIdeal.Read.val_main_call0_v10, Cert.WaQRefIdeal.Read.val_main_call0_v11, Cert.WaQRefIdeal.Read.val_main_call0_c_0, Cert.WaQRefIdeal.Read.val_main_call0_v12, Cert.WaQRefIdeal.Read.val_main_call0_v13, Cert.WaQRefIdeal.Read.val_main_v18, Cert.WaQRefIdeal.Read.val_main_v19, Cert.WaQRefIdeal.Read.val_main_c_2, Cert.WaQRefIdeal.Read.val_main_call1_v0, Cert.WaQRefIdeal.Read.val_main_call1_c, Cert.WaQRefIdeal.Read.val_main_call1_v1, Cert.WaQRefIdeal.Read.val_main_call1_c_0, Cert.WaQRefIdeal.Read.val_main_call1_v2, Cert.WaQRefIdeal.Read.val_main_call1_v3, Cert.WaQRefIdeal.Read.val_main_call1_v4, Cert.WaQRefIdeal.Read.val_main_call1_c_1, Cert.WaQRefIdeal.Read.val_main_call1_v5, Cert.WaQRefIdeal.Read.val_main_call1_v6, Cert.WaQRefIdeal.Read.val_main_call1_c_2, Cert.WaQRefIdeal.Read.val_main_call1_v7, Cert.WaQRefIdeal.Read.val_main_call1_v8, Cert.WaQRefIdeal.Read.val_main_call1_c_3, Cert.WaQRefIdeal.Read.val_main_call1_v9, Cert.WaQRefIdeal.Read.val_main_call1_v10, Cert.WaQRefIdeal.Read.val_main_call1_v11, Cert.WaQRefIdeal.Read.val_main_call1_v12, Cert.WaQRefIdeal.Read.val_main_call1_v13, Cert.WaQRefIdeal.Read.val_main_call1_v14, Cert.WaQRefIdeal.Read.val_main_v20, Cert.WaQRefIdeal.Read.val_main_v21, Cert.WaQRefIdeal.Read.val_main_v22, Cert.WaQRefIdeal.Read.val_main_v23, Cert.WaQRefIdeal.Read.val_main_cst_3, Cert.WaQRefIdeal.Read.val_main_v24, Cert.WaQRefIdeal.Read.val_main_v25, Cert.WaQRefIdeal.Read.val_main_cst_4, Cert.WaQRefIdeal.Read.val_main_v26, Cert.WaQRefIdeal.Read.val_main_v27, Cert.WaQRefIdeal.Read.val_main_v28, Cert.WaQRefIdeal.Read.val_main_v29, Cert.WaQRefIdeal.Read.val_main_v30, Cert.WaQRefIdeal.Read.val_main_v31, Cert.WaQRefIdeal.Read.val_main_v32, Cert.WaQRefIdeal.Read.val_main_v33, Cert.WaQRefIdeal.Read.val_main_v34, Cert.WaQRefIdeal.Read.val_main_v35, Cert.WaQRefIdeal.Read.val_main_v36, Cert.WaQRefIdeal.Read.val_main_v37]

theorem cos_snd (c : Dev nD) (p : Fin 16384) (a : Fin 2) (f : Fin 32) :
    V m c main_v27 (ix2 p (⟨64 * a.val + 32 + f.val, by omega⟩ : Fin 128)) = Ideal.cos (ang p a f) := by
  match a with
  | 0 =>
    show _ = Ideal.cos ((Cert.WaQRefIdeal.Read.val_main_v32 (F := Ideal) : FVec Ideal S16384x32 .f32) (ix2 p f))
    unfold V
    after_reads_simp
    pointwise []
    refine (congrFun (StableHlo.unary_result' ..) _).trans ?_
    pointwise []
    after_reads_at
    pointwise [Cert.WaQRefIdeal.Read.val_main_v17, Cert.WaQRefIdeal.Read.val_main_c, Cert.WaQRefIdeal.Read.val_main_call0_v0, Cert.WaQRefIdeal.Read.val_main_call0_v1, Cert.WaQRefIdeal.Read.val_main_call0_v2, Cert.WaQRefIdeal.Read.val_main_call0_v3, Cert.WaQRefIdeal.Read.val_main_call0_v4, Cert.WaQRefIdeal.Read.val_main_call0_v5, Cert.WaQRefIdeal.Read.val_main_call0_v6, Cert.WaQRefIdeal.Read.val_main_call0_v7, Cert.WaQRefIdeal.Read.val_main_call0_v8, Cert.WaQRefIdeal.Read.val_main_call0_c, Cert.WaQRefIdeal.Read.val_main_call0_v9, Cert.WaQRefIdeal.Read.val_main_call0_v10, Cert.WaQRefIdeal.Read.val_main_call0_v11, Cert.WaQRefIdeal.Read.val_main_call0_c_0, Cert.WaQRefIdeal.Read.val_main_call0_v12, Cert.WaQRefIdeal.Read.val_main_call0_v13, Cert.WaQRefIdeal.Read.val_main_v18, Cert.WaQRefIdeal.Read.val_main_v19, Cert.WaQRefIdeal.Read.val_main_c_2, Cert.WaQRefIdeal.Read.val_main_call1_v0, Cert.WaQRefIdeal.Read.val_main_call1_c, Cert.WaQRefIdeal.Read.val_main_call1_v1, Cert.WaQRefIdeal.Read.val_main_call1_c_0, Cert.WaQRefIdeal.Read.val_main_call1_v2, Cert.WaQRefIdeal.Read.val_main_call1_v3, Cert.WaQRefIdeal.Read.val_main_call1_v4, Cert.WaQRefIdeal.Read.val_main_call1_c_1, Cert.WaQRefIdeal.Read.val_main_call1_v5, Cert.WaQRefIdeal.Read.val_main_call1_v6, Cert.WaQRefIdeal.Read.val_main_call1_c_2, Cert.WaQRefIdeal.Read.val_main_call1_v7, Cert.WaQRefIdeal.Read.val_main_call1_v8, Cert.WaQRefIdeal.Read.val_main_call1_c_3, Cert.WaQRefIdeal.Read.val_main_call1_v9, Cert.WaQRefIdeal.Read.val_main_call1_v10, Cert.WaQRefIdeal.Read.val_main_call1_v11, Cert.WaQRefIdeal.Read.val_main_call1_v12, Cert.WaQRefIdeal.Read.val_main_call1_v13, Cert.WaQRefIdeal.Read.val_main_call1_v14, Cert.WaQRefIdeal.Read.val_main_v20, Cert.WaQRefIdeal.Read.val_main_v21, Cert.WaQRefIdeal.Read.val_main_v22, Cert.WaQRefIdeal.Read.val_main_v23, Cert.WaQRefIdeal.Read.val_main_cst_3, Cert.WaQRefIdeal.Read.val_main_v24, Cert.WaQRefIdeal.Read.val_main_v25, Cert.WaQRefIdeal.Read.val_main_cst_4, Cert.WaQRefIdeal.Read.val_main_v26, Cert.WaQRefIdeal.Read.val_main_v27, Cert.WaQRefIdeal.Read.val_main_v28, Cert.WaQRefIdeal.Read.val_main_v29, Cert.WaQRefIdeal.Read.val_main_v30, Cert.WaQRefIdeal.Read.val_main_v31, Cert.WaQRefIdeal.Read.val_main_v32, Cert.WaQRefIdeal.Read.val_main_v33, Cert.WaQRefIdeal.Read.val_main_v34, Cert.WaQRefIdeal.Read.val_main_v35, Cert.WaQRefIdeal.Read.val_main_v36, Cert.WaQRefIdeal.Read.val_main_v37]
  | 1 =>
    show _ = Ideal.cos ((Cert.WaQRefIdeal.Read.val_main_v37 (F := Ideal) : FVec Ideal S16384x32 .f32) (ix2 p f))
    unfold V
    after_reads_simp
    pointwise []
    rw [dif_neg (by omega), dif_neg (by omega), dif_neg (by omega)]
    simp only [show 96 + f.val - 32 - 32 - 32 = f.val from by omega, Fin.eta]
    refine (congrFun (StableHlo.unary_result' ..) _).trans ?_
    pointwise []
    after_reads_at
    pointwise [Cert.WaQRefIdeal.Read.val_main_v17, Cert.WaQRefIdeal.Read.val_main_c, Cert.WaQRefIdeal.Read.val_main_call0_v0, Cert.WaQRefIdeal.Read.val_main_call0_v1, Cert.WaQRefIdeal.Read.val_main_call0_v2, Cert.WaQRefIdeal.Read.val_main_call0_v3, Cert.WaQRefIdeal.Read.val_main_call0_v4, Cert.WaQRefIdeal.Read.val_main_call0_v5, Cert.WaQRefIdeal.Read.val_main_call0_v6, Cert.WaQRefIdeal.Read.val_main_call0_v7, Cert.WaQRefIdeal.Read.val_main_call0_v8, Cert.WaQRefIdeal.Read.val_main_call0_c, Cert.WaQRefIdeal.Read.val_main_call0_v9, Cert.WaQRefIdeal.Read.val_main_call0_v10, Cert.WaQRefIdeal.Read.val_main_call0_v11, Cert.WaQRefIdeal.Read.val_main_call0_c_0, Cert.WaQRefIdeal.Read.val_main_call0_v12, Cert.WaQRefIdeal.Read.val_main_call0_v13, Cert.WaQRefIdeal.Read.val_main_v18, Cert.WaQRefIdeal.Read.val_main_v19, Cert.WaQRefIdeal.Read.val_main_c_2, Cert.WaQRefIdeal.Read.val_main_call1_v0, Cert.WaQRefIdeal.Read.val_main_call1_c, Cert.WaQRefIdeal.Read.val_main_call1_v1, Cert.WaQRefIdeal.Read.val_main_call1_c_0, Cert.WaQRefIdeal.Read.val_main_call1_v2, Cert.WaQRefIdeal.Read.val_main_call1_v3, Cert.WaQRefIdeal.Read.val_main_call1_v4, Cert.WaQRefIdeal.Read.val_main_call1_c_1, Cert.WaQRefIdeal.Read.val_main_call1_v5, Cert.WaQRefIdeal.Read.val_main_call1_v6, Cert.WaQRefIdeal.Read.val_main_call1_c_2, Cert.WaQRefIdeal.Read.val_main_call1_v7, Cert.WaQRefIdeal.Read.val_main_call1_v8, Cert.WaQRefIdeal.Read.val_main_call1_c_3, Cert.WaQRefIdeal.Read.val_main_call1_v9, Cert.WaQRefIdeal.Read.val_main_call1_v10, Cert.WaQRefIdeal.Read.val_main_call1_v11, Cert.WaQRefIdeal.Read.val_main_call1_v12, Cert.WaQRefIdeal.Read.val_main_call1_v13, Cert.WaQRefIdeal.Read.val_main_call1_v14, Cert.WaQRefIdeal.Read.val_main_v20, Cert.WaQRefIdeal.Read.val_main_v21, Cert.WaQRefIdeal.Read.val_main_v22, Cert.WaQRefIdeal.Read.val_main_v23, Cert.WaQRefIdeal.Read.val_main_cst_3, Cert.WaQRefIdeal.Read.val_main_v24, Cert.WaQRefIdeal.Read.val_main_v25, Cert.WaQRefIdeal.Read.val_main_cst_4, Cert.WaQRefIdeal.Read.val_main_v26, Cert.WaQRefIdeal.Read.val_main_v27, Cert.WaQRefIdeal.Read.val_main_v28, Cert.WaQRefIdeal.Read.val_main_v29, Cert.WaQRefIdeal.Read.val_main_v30, Cert.WaQRefIdeal.Read.val_main_v31, Cert.WaQRefIdeal.Read.val_main_v32, Cert.WaQRefIdeal.Read.val_main_v33, Cert.WaQRefIdeal.Read.val_main_v34, Cert.WaQRefIdeal.Read.val_main_v35, Cert.WaQRefIdeal.Read.val_main_v36, Cert.WaQRefIdeal.Read.val_main_v37]

theorem sin_fst (c : Dev nD) (p : Fin 16384) (a : Fin 2) (f : Fin 32) :
    V m c main_v34 (ix2 p (⟨64 * a.val + f.val, by omega⟩ : Fin 128)) = -Ideal.sin (ang p a f) := by
  match a with
  | 0 =>
    show _ = -Ideal.sin ((Cert.WaQRefIdeal.Read.val_main_v32 (F := Ideal) : FVec Ideal S16384x32 .f32) (ix2 p f))
    unfold V
    after_reads_simp
    pointwise []
    refine (congrFun (StableHlo.unary_result' ..) _).trans ?_
    pointwise []
    after_reads_at
    pointwise [Cert.WaQRefIdeal.Read.val_main_v17, Cert.WaQRefIdeal.Read.val_main_c, Cert.WaQRefIdeal.Read.val_main_call0_v0, Cert.WaQRefIdeal.Read.val_main_call0_v1, Cert.WaQRefIdeal.Read.val_main_call0_v2, Cert.WaQRefIdeal.Read.val_main_call0_v3, Cert.WaQRefIdeal.Read.val_main_call0_v4, Cert.WaQRefIdeal.Read.val_main_call0_v5, Cert.WaQRefIdeal.Read.val_main_call0_v6, Cert.WaQRefIdeal.Read.val_main_call0_v7, Cert.WaQRefIdeal.Read.val_main_call0_v8, Cert.WaQRefIdeal.Read.val_main_call0_c, Cert.WaQRefIdeal.Read.val_main_call0_v9, Cert.WaQRefIdeal.Read.val_main_call0_v10, Cert.WaQRefIdeal.Read.val_main_call0_v11, Cert.WaQRefIdeal.Read.val_main_call0_c_0, Cert.WaQRefIdeal.Read.val_main_call0_v12, Cert.WaQRefIdeal.Read.val_main_call0_v13, Cert.WaQRefIdeal.Read.val_main_v18, Cert.WaQRefIdeal.Read.val_main_v19, Cert.WaQRefIdeal.Read.val_main_c_2, Cert.WaQRefIdeal.Read.val_main_call1_v0, Cert.WaQRefIdeal.Read.val_main_call1_c, Cert.WaQRefIdeal.Read.val_main_call1_v1, Cert.WaQRefIdeal.Read.val_main_call1_c_0, Cert.WaQRefIdeal.Read.val_main_call1_v2, Cert.WaQRefIdeal.Read.val_main_call1_v3, Cert.WaQRefIdeal.Read.val_main_call1_v4, Cert.WaQRefIdeal.Read.val_main_call1_c_1, Cert.WaQRefIdeal.Read.val_main_call1_v5, Cert.WaQRefIdeal.Read.val_main_call1_v6, Cert.WaQRefIdeal.Read.val_main_call1_c_2, Cert.WaQRefIdeal.Read.val_main_call1_v7, Cert.WaQRefIdeal.Read.val_main_call1_v8, Cert.WaQRefIdeal.Read.val_main_call1_c_3, Cert.WaQRefIdeal.Read.val_main_call1_v9, Cert.WaQRefIdeal.Read.val_main_call1_v10, Cert.WaQRefIdeal.Read.val_main_call1_v11, Cert.WaQRefIdeal.Read.val_main_call1_v12, Cert.WaQRefIdeal.Read.val_main_call1_v13, Cert.WaQRefIdeal.Read.val_main_call1_v14, Cert.WaQRefIdeal.Read.val_main_v20, Cert.WaQRefIdeal.Read.val_main_v21, Cert.WaQRefIdeal.Read.val_main_v22, Cert.WaQRefIdeal.Read.val_main_v23, Cert.WaQRefIdeal.Read.val_main_cst_3, Cert.WaQRefIdeal.Read.val_main_v24, Cert.WaQRefIdeal.Read.val_main_v25, Cert.WaQRefIdeal.Read.val_main_cst_4, Cert.WaQRefIdeal.Read.val_main_v26, Cert.WaQRefIdeal.Read.val_main_v27, Cert.WaQRefIdeal.Read.val_main_v28, Cert.WaQRefIdeal.Read.val_main_v29, Cert.WaQRefIdeal.Read.val_main_v30, Cert.WaQRefIdeal.Read.val_main_v31, Cert.WaQRefIdeal.Read.val_main_v32, Cert.WaQRefIdeal.Read.val_main_v33, Cert.WaQRefIdeal.Read.val_main_v34, Cert.WaQRefIdeal.Read.val_main_v35, Cert.WaQRefIdeal.Read.val_main_v36, Cert.WaQRefIdeal.Read.val_main_v37]
  | 1 =>
    show _ = -Ideal.sin ((Cert.WaQRefIdeal.Read.val_main_v37 (F := Ideal) : FVec Ideal S16384x32 .f32) (ix2 p f))
    unfold V
    after_reads_simp
    pointwise []
    rw [dif_neg (by omega), dif_neg (by omega), dif_pos (by omega)]
    simp only [show 64 + f.val - 32 - 32 = f.val from by omega, Fin.eta]
    refine (congrFun (StableHlo.unary_result' ..) _).trans ?_
    pointwise []
    after_reads_at
    pointwise [Cert.WaQRefIdeal.Read.val_main_v17, Cert.WaQRefIdeal.Read.val_main_c, Cert.WaQRefIdeal.Read.val_main_call0_v0, Cert.WaQRefIdeal.Read.val_main_call0_v1, Cert.WaQRefIdeal.Read.val_main_call0_v2, Cert.WaQRefIdeal.Read.val_main_call0_v3, Cert.WaQRefIdeal.Read.val_main_call0_v4, Cert.WaQRefIdeal.Read.val_main_call0_v5, Cert.WaQRefIdeal.Read.val_main_call0_v6, Cert.WaQRefIdeal.Read.val_main_call0_v7, Cert.WaQRefIdeal.Read.val_main_call0_v8, Cert.WaQRefIdeal.Read.val_main_call0_c, Cert.WaQRefIdeal.Read.val_main_call0_v9, Cert.WaQRefIdeal.Read.val_main_call0_v10, Cert.WaQRefIdeal.Read.val_main_call0_v11, Cert.WaQRefIdeal.Read.val_main_call0_c_0, Cert.WaQRefIdeal.Read.val_main_call0_v12, Cert.WaQRefIdeal.Read.val_main_call0_v13, Cert.WaQRefIdeal.Read.val_main_v18, Cert.WaQRefIdeal.Read.val_main_v19, Cert.WaQRefIdeal.Read.val_main_c_2, Cert.WaQRefIdeal.Read.val_main_call1_v0, Cert.WaQRefIdeal.Read.val_main_call1_c, Cert.WaQRefIdeal.Read.val_main_call1_v1, Cert.WaQRefIdeal.Read.val_main_call1_c_0, Cert.WaQRefIdeal.Read.val_main_call1_v2, Cert.WaQRefIdeal.Read.val_main_call1_v3, Cert.WaQRefIdeal.Read.val_main_call1_v4, Cert.WaQRefIdeal.Read.val_main_call1_c_1, Cert.WaQRefIdeal.Read.val_main_call1_v5, Cert.WaQRefIdeal.Read.val_main_call1_v6, Cert.WaQRefIdeal.Read.val_main_call1_c_2, Cert.WaQRefIdeal.Read.val_main_call1_v7, Cert.WaQRefIdeal.Read.val_main_call1_v8, Cert.WaQRefIdeal.Read.val_main_call1_c_3, Cert.WaQRefIdeal.Read.val_main_call1_v9, Cert.WaQRefIdeal.Read.val_main_call1_v10, Cert.WaQRefIdeal.Read.val_main_call1_v11, Cert.WaQRefIdeal.Read.val_main_call1_v12, Cert.WaQRefIdeal.Read.val_main_call1_v13, Cert.WaQRefIdeal.Read.val_main_call1_v14, Cert.WaQRefIdeal.Read.val_main_v20, Cert.WaQRefIdeal.Read.val_main_v21, Cert.WaQRefIdeal.Read.val_main_v22, Cert.WaQRefIdeal.Read.val_main_v23, Cert.WaQRefIdeal.Read.val_main_cst_3, Cert.WaQRefIdeal.Read.val_main_v24, Cert.WaQRefIdeal.Read.val_main_v25, Cert.WaQRefIdeal.Read.val_main_cst_4, Cert.WaQRefIdeal.Read.val_main_v26, Cert.WaQRefIdeal.Read.val_main_v27, Cert.WaQRefIdeal.Read.val_main_v28, Cert.WaQRefIdeal.Read.val_main_v29, Cert.WaQRefIdeal.Read.val_main_v30, Cert.WaQRefIdeal.Read.val_main_v31, Cert.WaQRefIdeal.Read.val_main_v32, Cert.WaQRefIdeal.Read.val_main_v33, Cert.WaQRefIdeal.Read.val_main_v34, Cert.WaQRefIdeal.Read.val_main_v35, Cert.WaQRefIdeal.Read.val_main_v36, Cert.WaQRefIdeal.Read.val_main_v37]

theorem sin_snd (c : Dev nD) (p : Fin 16384) (a : Fin 2) (f : Fin 32) :
    V m c main_v34 (ix2 p (⟨64 * a.val + 32 + f.val, by omega⟩ : Fin 128)) = Ideal.sin (ang p a f) := by
  match a with
  | 0 =>
    show _ = Ideal.sin ((Cert.WaQRefIdeal.Read.val_main_v32 (F := Ideal) : FVec Ideal S16384x32 .f32) (ix2 p f))
    unfold V
    after_reads_simp
    pointwise []
    refine (congrFun (StableHlo.unary_result' ..) _).trans ?_
    pointwise []
    after_reads_at
    pointwise [Cert.WaQRefIdeal.Read.val_main_v17, Cert.WaQRefIdeal.Read.val_main_c, Cert.WaQRefIdeal.Read.val_main_call0_v0, Cert.WaQRefIdeal.Read.val_main_call0_v1, Cert.WaQRefIdeal.Read.val_main_call0_v2, Cert.WaQRefIdeal.Read.val_main_call0_v3, Cert.WaQRefIdeal.Read.val_main_call0_v4, Cert.WaQRefIdeal.Read.val_main_call0_v5, Cert.WaQRefIdeal.Read.val_main_call0_v6, Cert.WaQRefIdeal.Read.val_main_call0_v7, Cert.WaQRefIdeal.Read.val_main_call0_v8, Cert.WaQRefIdeal.Read.val_main_call0_c, Cert.WaQRefIdeal.Read.val_main_call0_v9, Cert.WaQRefIdeal.Read.val_main_call0_v10, Cert.WaQRefIdeal.Read.val_main_call0_v11, Cert.WaQRefIdeal.Read.val_main_call0_c_0, Cert.WaQRefIdeal.Read.val_main_call0_v12, Cert.WaQRefIdeal.Read.val_main_call0_v13, Cert.WaQRefIdeal.Read.val_main_v18, Cert.WaQRefIdeal.Read.val_main_v19, Cert.WaQRefIdeal.Read.val_main_c_2, Cert.WaQRefIdeal.Read.val_main_call1_v0, Cert.WaQRefIdeal.Read.val_main_call1_c, Cert.WaQRefIdeal.Read.val_main_call1_v1, Cert.WaQRefIdeal.Read.val_main_call1_c_0, Cert.WaQRefIdeal.Read.val_main_call1_v2, Cert.WaQRefIdeal.Read.val_main_call1_v3, Cert.WaQRefIdeal.Read.val_main_call1_v4, Cert.WaQRefIdeal.Read.val_main_call1_c_1, Cert.WaQRefIdeal.Read.val_main_call1_v5, Cert.WaQRefIdeal.Read.val_main_call1_v6, Cert.WaQRefIdeal.Read.val_main_call1_c_2, Cert.WaQRefIdeal.Read.val_main_call1_v7, Cert.WaQRefIdeal.Read.val_main_call1_v8, Cert.WaQRefIdeal.Read.val_main_call1_c_3, Cert.WaQRefIdeal.Read.val_main_call1_v9, Cert.WaQRefIdeal.Read.val_main_call1_v10, Cert.WaQRefIdeal.Read.val_main_call1_v11, Cert.WaQRefIdeal.Read.val_main_call1_v12, Cert.WaQRefIdeal.Read.val_main_call1_v13, Cert.WaQRefIdeal.Read.val_main_call1_v14, Cert.WaQRefIdeal.Read.val_main_v20, Cert.WaQRefIdeal.Read.val_main_v21, Cert.WaQRefIdeal.Read.val_main_v22, Cert.WaQRefIdeal.Read.val_main_v23, Cert.WaQRefIdeal.Read.val_main_cst_3, Cert.WaQRefIdeal.Read.val_main_v24, Cert.WaQRefIdeal.Read.val_main_v25, Cert.WaQRefIdeal.Read.val_main_cst_4, Cert.WaQRefIdeal.Read.val_main_v26, Cert.WaQRefIdeal.Read.val_main_v27, Cert.WaQRefIdeal.Read.val_main_v28, Cert.WaQRefIdeal.Read.val_main_v29, Cert.WaQRefIdeal.Read.val_main_v30, Cert.WaQRefIdeal.Read.val_main_v31, Cert.WaQRefIdeal.Read.val_main_v32, Cert.WaQRefIdeal.Read.val_main_v33, Cert.WaQRefIdeal.Read.val_main_v34, Cert.WaQRefIdeal.Read.val_main_v35, Cert.WaQRefIdeal.Read.val_main_v36, Cert.WaQRefIdeal.Read.val_main_v37]
  | 1 =>
    show _ = Ideal.sin ((Cert.WaQRefIdeal.Read.val_main_v37 (F := Ideal) : FVec Ideal S16384x32 .f32) (ix2 p f))
    unfold V
    after_reads_simp
    pointwise []
    rw [dif_neg (by omega), dif_neg (by omega), dif_neg (by omega)]
    simp only [show 96 + f.val - 32 - 32 - 32 = f.val from by omega, Fin.eta]
    refine (congrFun (StableHlo.unary_result' ..) _).trans ?_
    pointwise []
    after_reads_at
    pointwise [Cert.WaQRefIdeal.Read.val_main_v17, Cert.WaQRefIdeal.Read.val_main_c, Cert.WaQRefIdeal.Read.val_main_call0_v0, Cert.WaQRefIdeal.Read.val_main_call0_v1, Cert.WaQRefIdeal.Read.val_main_call0_v2, Cert.WaQRefIdeal.Read.val_main_call0_v3, Cert.WaQRefIdeal.Read.val_main_call0_v4, Cert.WaQRefIdeal.Read.val_main_call0_v5, Cert.WaQRefIdeal.Read.val_main_call0_v6, Cert.WaQRefIdeal.Read.val_main_call0_v7, Cert.WaQRefIdeal.Read.val_main_call0_v8, Cert.WaQRefIdeal.Read.val_main_call0_c, Cert.WaQRefIdeal.Read.val_main_call0_v9, Cert.WaQRefIdeal.Read.val_main_call0_v10, Cert.WaQRefIdeal.Read.val_main_call0_v11, Cert.WaQRefIdeal.Read.val_main_call0_c_0, Cert.WaQRefIdeal.Read.val_main_call0_v12, Cert.WaQRefIdeal.Read.val_main_call0_v13, Cert.WaQRefIdeal.Read.val_main_v18, Cert.WaQRefIdeal.Read.val_main_v19, Cert.WaQRefIdeal.Read.val_main_c_2, Cert.WaQRefIdeal.Read.val_main_call1_v0, Cert.WaQRefIdeal.Read.val_main_call1_c, Cert.WaQRefIdeal.Read.val_main_call1_v1, Cert.WaQRefIdeal.Read.val_main_call1_c_0, Cert.WaQRefIdeal.Read.val_main_call1_v2, Cert.WaQRefIdeal.Read.val_main_call1_v3, Cert.WaQRefIdeal.Read.val_main_call1_v4, Cert.WaQRefIdeal.Read.val_main_call1_c_1, Cert.WaQRefIdeal.Read.val_main_call1_v5, Cert.WaQRefIdeal.Read.val_main_call1_v6, Cert.WaQRefIdeal.Read.val_main_call1_c_2, Cert.WaQRefIdeal.Read.val_main_call1_v7, Cert.WaQRefIdeal.Read.val_main_call1_v8, Cert.WaQRefIdeal.Read.val_main_call1_c_3, Cert.WaQRefIdeal.Read.val_main_call1_v9, Cert.WaQRefIdeal.Read.val_main_call1_v10, Cert.WaQRefIdeal.Read.val_main_call1_v11, Cert.WaQRefIdeal.Read.val_main_call1_v12, Cert.WaQRefIdeal.Read.val_main_call1_v13, Cert.WaQRefIdeal.Read.val_main_call1_v14, Cert.WaQRefIdeal.Read.val_main_v20, Cert.WaQRefIdeal.Read.val_main_v21, Cert.WaQRefIdeal.Read.val_main_v22, Cert.WaQRefIdeal.Read.val_main_v23, Cert.WaQRefIdeal.Read.val_main_cst_3, Cert.WaQRefIdeal.Read.val_main_v24, Cert.WaQRefIdeal.Read.val_main_v25, Cert.WaQRefIdeal.Read.val_main_cst_4, Cert.WaQRefIdeal.Read.val_main_v26, Cert.WaQRefIdeal.Read.val_main_v27, Cert.WaQRefIdeal.Read.val_main_v28, Cert.WaQRefIdeal.Read.val_main_v29, Cert.WaQRefIdeal.Read.val_main_v30, Cert.WaQRefIdeal.Read.val_main_v31, Cert.WaQRefIdeal.Read.val_main_v32, Cert.WaQRefIdeal.Read.val_main_v33, Cert.WaQRefIdeal.Read.val_main_v34, Cert.WaQRefIdeal.Read.val_main_v35, Cert.WaQRefIdeal.Read.val_main_v36, Cert.WaQRefIdeal.Read.val_main_v37]

/-! The reference at a lane. -/

section ref
variable (x0 : FVec Ideal S16384x2048 .bf16) (x1 : FVec Ideal S2048x13824 .f32) (x2 : FVec Ideal S128 .f32)
  (p : Fin 16384) (h : Fin 8)

/-- Lane `d` of the reference's head `h` at the token `p`, before the turn. -/
def head (d : Fin 128) : EReal :=
  hnorm (fun j => Cert.WaQRefIdeal.Read.val_main_v2 (F := Ideal) x0 x1 (ix2 p (⟨128 * h.val + j.val, by omega⟩ : Fin 1024))) d * x2 (ix1 d)

theorem head_at (d : Fin 128) : Cert.WaQRefIdeal.Read.val_main_v16 (F := Ideal) x0 x1 x2 (ix3 p h d) = head x0 x1 x2 p h d := by
  pointwise [Cert.WaQRefIdeal.Read.val_main_v16, Cert.WaQRefIdeal.Read.val_main_v15, Cert.WaQRefIdeal.Read.val_main_v14, Cert.WaQRefIdeal.Read.val_main_v13, Cert.WaQRefIdeal.Read.val_main_v12, Cert.WaQRefIdeal.Read.val_main_v11, Cert.WaQRefIdeal.Read.val_main_v10, Cert.WaQRefIdeal.Read.val_main_v9, Cert.WaQRefIdeal.Read.val_main_v8, Cert.WaQRefIdeal.Read.val_main_v7, Cert.WaQRefIdeal.Read.val_main_v6, Cert.WaQRefIdeal.Read.val_main_v5, Cert.WaQRefIdeal.Read.val_main_v4, Cert.WaQRefIdeal.Read.val_main_v3, Cert.WaQRefIdeal.Read.val_main_cst, Cert.WaQRefIdeal.Read.val_main_cst_0, Cert.WaQRefIdeal.Read.val_main_cst_1]
  simp only [Nat.mul_comm h.val 128]
  rfl

theorem half_fst (a : Fin 2) (f : Fin 32) :
    Cert.WaQRefIdeal.Read.val_main_v67 (F := Ideal) x0 x1 x2 (ix2 p (⟨128 * h.val + (64 * a.val + f.val), by omega⟩ : Fin 1024))
      = Cert.WaQRefIdeal.Read.val_main_v54 (F := Ideal) x0 x1 x2 (ix4 p h a f) * Ideal.ofBits .f32 0x3DB504F3#32 := by
  match a with
  | 0 =>
    pointwise [Cert.WaQRefIdeal.Read.val_main_v67, Cert.WaQRefIdeal.Read.val_main_v66, Cert.WaQRefIdeal.Read.val_main_v65, Cert.WaQRefIdeal.Read.val_main_v64, Cert.WaQRefIdeal.Read.val_main_v63, Cert.WaQRefIdeal.Read.val_main_v62, Cert.WaQRefIdeal.Read.val_main_v61, Cert.WaQRefIdeal.Read.val_main_v60, Cert.WaQRefIdeal.Read.val_main_cst_5]
    rw [dif_pos (by omega)]
    exact congrArg (fun q : Fin 2 => (Cert.WaQRefIdeal.Read.val_main_v54 (F := Ideal) x0 x1 x2 (ix4 p h q f) : EReal) * Ideal.ofBits .f32 0x3DB504F3#32) (Fin.ext (by show (128 * h.val + f.val) % 128 / 64 = 0; omega))
  | 1 =>
    pointwise [Cert.WaQRefIdeal.Read.val_main_v67, Cert.WaQRefIdeal.Read.val_main_v66, Cert.WaQRefIdeal.Read.val_main_v65, Cert.WaQRefIdeal.Read.val_main_v64, Cert.WaQRefIdeal.Read.val_main_v63, Cert.WaQRefIdeal.Read.val_main_v62, Cert.WaQRefIdeal.Read.val_main_v61, Cert.WaQRefIdeal.Read.val_main_v60, Cert.WaQRefIdeal.Read.val_main_cst_5]
    rw [dif_pos (by omega)]
    exact congrArg (fun q : Fin 2 => (Cert.WaQRefIdeal.Read.val_main_v54 (F := Ideal) x0 x1 x2 (ix4 p h q f) : EReal) * Ideal.ofBits .f32 0x3DB504F3#32) (Fin.ext (by show (128 * h.val + (64 + f.val)) % 128 / 64 = 1; omega))

theorem ref_fst (a : Fin 2) (f : Fin 32) :
    Cert.WaQRefIdeal.Read.val_main_v67 (F := Ideal) x0 x1 x2 (ix2 p (⟨128 * h.val + (64 * a.val + f.val), by omega⟩ : Fin 1024))
      = (head x0 x1 x2 p h (⟨64 * a.val + f.val, by omega⟩ : Fin 128) * Ideal.cos (ang p a f) - head x0 x1 x2 p h (⟨64 * a.val + 32 + f.val, by omega⟩ : Fin 128) * Ideal.sin (ang p a f)) * Ideal.ofBits .f32 0x3DB504F3#32 := by
  rw [half_fst, ← head_at, ← head_at]
  match a with
  | 0 =>
    pointwise [Cert.WaQRefIdeal.Read.val_main_v54, Cert.WaQRefIdeal.Read.val_main_v53, Cert.WaQRefIdeal.Read.val_main_v52, Cert.WaQRefIdeal.Read.val_main_v51, Cert.WaQRefIdeal.Read.val_main_v50, Cert.WaQRefIdeal.Read.val_main_v49, Cert.WaQRefIdeal.Read.val_main_v48, Cert.WaQRefIdeal.Read.val_main_v47, Cert.WaQRefIdeal.Read.val_main_v46, Cert.WaQRefIdeal.Read.val_main_v45, Cert.WaQRefIdeal.Read.val_main_v44, Cert.WaQRefIdeal.Read.val_main_v43, Cert.WaQRefIdeal.Read.val_main_v42, Cert.WaQRefIdeal.Read.val_main_v41, Cert.WaQRefIdeal.Read.val_main_v40, Cert.WaQRefIdeal.Read.val_main_v39, Cert.WaQRefIdeal.Read.val_main_v38]
    rfl
  | 1 =>
    pointwise [Cert.WaQRefIdeal.Read.val_main_v54, Cert.WaQRefIdeal.Read.val_main_v53, Cert.WaQRefIdeal.Read.val_main_v52, Cert.WaQRefIdeal.Read.val_main_v51, Cert.WaQRefIdeal.Read.val_main_v50, Cert.WaQRefIdeal.Read.val_main_v49, Cert.WaQRefIdeal.Read.val_main_v48, Cert.WaQRefIdeal.Read.val_main_v47, Cert.WaQRefIdeal.Read.val_main_v46, Cert.WaQRefIdeal.Read.val_main_v45, Cert.WaQRefIdeal.Read.val_main_v44, Cert.WaQRefIdeal.Read.val_main_v43, Cert.WaQRefIdeal.Read.val_main_v42, Cert.WaQRefIdeal.Read.val_main_v41, Cert.WaQRefIdeal.Read.val_main_v40, Cert.WaQRefIdeal.Read.val_main_v39, Cert.WaQRefIdeal.Read.val_main_v38]
    rfl

theorem half_snd (a : Fin 2) (f : Fin 32) :
    Cert.WaQRefIdeal.Read.val_main_v67 (F := Ideal) x0 x1 x2 (ix2 p (⟨128 * h.val + (64 * a.val + 32 + f.val), by omega⟩ : Fin 1024))
      = Cert.WaQRefIdeal.Read.val_main_v59 (F := Ideal) x0 x1 x2 (ix4 p h a f) * Ideal.ofBits .f32 0x3DB504F3#32 := by
  match a with
  | 0 =>
    pointwise [Cert.WaQRefIdeal.Read.val_main_v67, Cert.WaQRefIdeal.Read.val_main_v66, Cert.WaQRefIdeal.Read.val_main_v65, Cert.WaQRefIdeal.Read.val_main_v64, Cert.WaQRefIdeal.Read.val_main_v63, Cert.WaQRefIdeal.Read.val_main_v62, Cert.WaQRefIdeal.Read.val_main_v61, Cert.WaQRefIdeal.Read.val_main_v60, Cert.WaQRefIdeal.Read.val_main_cst_5]
    rw [dif_neg (by omega)]
    exact congrArg (fun q : Fin 2 => (Cert.WaQRefIdeal.Read.val_main_v59 (F := Ideal) x0 x1 x2 (ix4 p h q f) : EReal) * Ideal.ofBits .f32 0x3DB504F3#32) (Fin.ext (by show (128 * h.val + (32 + f.val)) % 128 / 64 = 0; omega))
  | 1 =>
    pointwise [Cert.WaQRefIdeal.Read.val_main_v67, Cert.WaQRefIdeal.Read.val_main_v66, Cert.WaQRefIdeal.Read.val_main_v65, Cert.WaQRefIdeal.Read.val_main_v64, Cert.WaQRefIdeal.Read.val_main_v63, Cert.WaQRefIdeal.Read.val_main_v62, Cert.WaQRefIdeal.Read.val_main_v61, Cert.WaQRefIdeal.Read.val_main_v60, Cert.WaQRefIdeal.Read.val_main_cst_5]
    rw [dif_neg (by omega)]
    exact congrArg (fun q : Fin 2 => (Cert.WaQRefIdeal.Read.val_main_v59 (F := Ideal) x0 x1 x2 (ix4 p h q f) : EReal) * Ideal.ofBits .f32 0x3DB504F3#32) (Fin.ext (by show (128 * h.val + (96 + f.val)) % 128 / 64 = 1; omega))

theorem ref_snd (a : Fin 2) (f : Fin 32) :
    Cert.WaQRefIdeal.Read.val_main_v67 (F := Ideal) x0 x1 x2 (ix2 p (⟨128 * h.val + (64 * a.val + 32 + f.val), by omega⟩ : Fin 1024))
      = (head x0 x1 x2 p h (⟨64 * a.val + 32 + f.val, by omega⟩ : Fin 128) * Ideal.cos (ang p a f) + head x0 x1 x2 p h (⟨64 * a.val + f.val, by omega⟩ : Fin 128) * Ideal.sin (ang p a f)) * Ideal.ofBits .f32 0x3DB504F3#32 := by
  rw [half_snd, ← head_at, ← head_at]
  match a with
  | 0 =>
    pointwise [Cert.WaQRefIdeal.Read.val_main_v59, Cert.WaQRefIdeal.Read.val_main_v58, Cert.WaQRefIdeal.Read.val_main_v57, Cert.WaQRefIdeal.Read.val_main_v56, Cert.WaQRefIdeal.Read.val_main_v55, Cert.WaQRefIdeal.Read.val_main_v50, Cert.WaQRefIdeal.Read.val_main_v49, Cert.WaQRefIdeal.Read.val_main_v48, Cert.WaQRefIdeal.Read.val_main_v47, Cert.WaQRefIdeal.Read.val_main_v46, Cert.WaQRefIdeal.Read.val_main_v45, Cert.WaQRefIdeal.Read.val_main_v44, Cert.WaQRefIdeal.Read.val_main_v43, Cert.WaQRefIdeal.Read.val_main_v42, Cert.WaQRefIdeal.Read.val_main_v41, Cert.WaQRefIdeal.Read.val_main_v40, Cert.WaQRefIdeal.Read.val_main_v39, Cert.WaQRefIdeal.Read.val_main_v38]
    rfl
  | 1 =>
    pointwise [Cert.WaQRefIdeal.Read.val_main_v59, Cert.WaQRefIdeal.Read.val_main_v58, Cert.WaQRefIdeal.Read.val_main_v57, Cert.WaQRefIdeal.Read.val_main_v56, Cert.WaQRefIdeal.Read.val_main_v55, Cert.WaQRefIdeal.Read.val_main_v50, Cert.WaQRefIdeal.Read.val_main_v49, Cert.WaQRefIdeal.Read.val_main_v48, Cert.WaQRefIdeal.Read.val_main_v47, Cert.WaQRefIdeal.Read.val_main_v46, Cert.WaQRefIdeal.Read.val_main_v45, Cert.WaQRefIdeal.Read.val_main_v44, Cert.WaQRefIdeal.Read.val_main_v43, Cert.WaQRefIdeal.Read.val_main_v42, Cert.WaQRefIdeal.Read.val_main_v41, Cert.WaQRefIdeal.Read.val_main_v40, Cert.WaQRefIdeal.Read.val_main_v39, Cert.WaQRefIdeal.Read.val_main_v38]
    rfl

end ref

/-- Every window's block index at every grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0] :=
  (by decide +kernel : ∀ t : Fin grid0.N, _)

/-! The loads of whole blocks. -/

theorem zeros : (![0, 0] : Fin 2 → Nat) = fun _ => 0 := by funext a; match a with | ⟨0, _⟩ => rfl | ⟨1, _⟩ => rfl

theorem prod_eq (x0 : Vec Ideal S1024x2048 .bf16) (x1 : Vec Ideal S2048x1024 .bf16) (x2 : Vec Ideal S1x128 .f32) (x3 x4 : Vec Ideal S1024x128 .f32) :
    k0_pay40 x0 x1 x2 x3 x4 = k0_pay2 x0 x1 :=
  congrArg₂ k0_pay2 (View.ld_unit_zero (S := S1024x2048) zeros _ x0) (View.ld_unit_zero (S := S2048x1024) zeros _ x1)

theorem gain_eq (x0 : Vec Ideal S1024x2048 .bf16) (x1 : Vec Ideal S2048x1024 .bf16) (x2 : Vec Ideal S1x128 .f32) (x3 x4 : Vec Ideal S1024x128 .f32) :
    k0_pay41 x0 x1 x2 x3 x4 = k0_pay3 x2 :=
  congrArg k0_pay3 (View.ld_unit_zero (S := S1x128) zeros _ x2)

/-! The eight stores: one head each. -/

section heads
variable (v3 : FVec Ideal S1024x1024 .f32) (v7 : FVec Ideal S1x128 .f32)
  (v0 : Vec Ideal S1024x2048 .bf16) (v1 : Vec Ideal S2048x1024 .bf16) (v4 : Vec Ideal S1x128 .f32)
  (u w : Vec Ideal S1024x128 .f32) (r : Fin 1024) (d : Fin 128)

theorem store0 : k0_pay9 (k0_pay4 v0 v1 v4) (k0_pay5 v0 v1 v4 u) k0_pay6 k0_pay7 k0_pay8 w (ix2 r d)
    = turn (fun l => hnorm (fun j => (k0_pay2 v0 v1) (ix2 r (⟨0 + j.val, by omega⟩ : Fin 1024))) l * (k0_pay3 v4) (ix2 0 l)) (u (ix2 r d)) (w (ix2 r d)) d := by
  unfold k0_pay5 k0_pay4
  generalize k0_pay2 v0 v1 = v3
  generalize k0_pay3 v4 = v7
  pointwise [k0_pay9, k0_pay6, k0_pay7, k0_pay8]
  rfl

theorem store1 : k0_pay16 (k0_pay10 v3 v7) (k0_pay11 v3 v7 u) (Scalar.select (Scalar.cmpi .eq 64#32 0#32) 1#32 64#32) k0_pay12 k0_pay13 k0_pay14 k0_pay15 w (ix2 r d)
    = turn (fun l => hnorm (fun j => (v3) (ix2 r (⟨128 + j.val, by omega⟩ : Fin 1024))) l * (v7) (ix2 0 l)) (u (ix2 r d)) (w (ix2 r d)) d := by
  pointwise [k0_pay16, k0_pay10, k0_pay11, k0_pay12, k0_pay13, k0_pay14, k0_pay15]
  rfl

theorem store2 : k0_pay22 (k0_pay17 v3 v7) (k0_pay18 v3 v7 u) (Scalar.select (Scalar.cmpi .eq 64#32 0#32) 1#32 64#32) k0_pay19 k0_pay20 k0_pay21 0#32 w (ix2 r d)
    = turn (fun l => hnorm (fun j => (v3) (ix2 r (⟨256 + j.val, by omega⟩ : Fin 1024))) l * (v7) (ix2 0 l)) (u (ix2 r d)) (w (ix2 r d)) d := by
  pointwise [k0_pay22, k0_pay17, k0_pay18, k0_pay19, k0_pay20, k0_pay21]
  rfl

theorem store3 : k0_pay27 (k0_pay23 v3 v7) (k0_pay24 v3 v7 u) (Scalar.select (Scalar.cmpi .eq 64#32 0#32) 1#32 64#32) k0_pay25 k0_pay26 0#32 w (ix2 r d)
    = turn (fun l => hnorm (fun j => (v3) (ix2 r (⟨384 + j.val, by omega⟩ : Fin 1024))) l * (v7) (ix2 0 l)) (u (ix2 r d)) (w (ix2 r d)) d := by
  pointwise [k0_pay27, k0_pay23, k0_pay24, k0_pay25, k0_pay26]
  rfl

theorem store4 : k0_pay31 (k0_pay28 v3 v7) (k0_pay29 v3 v7 u) (Scalar.select (Scalar.cmpi .eq 64#32 0#32) 1#32 64#32) k0_pay30 0#32 w (ix2 r d)
    = turn (fun l => hnorm (fun j => (v3) (ix2 r (⟨512 + j.val, by omega⟩ : Fin 1024))) l * (v7) (ix2 0 l)) (u (ix2 r d)) (w (ix2 r d)) d := by
  pointwise [k0_pay31, k0_pay28, k0_pay29, k0_pay30]
  rfl

theorem store5 : k0_pay34 (k0_pay32 v3 v7) (k0_pay33 v3 v7 u) (iota .tc S1024x128 32 [1] iota_S1024x128_d1_w32) (Scalar.select (Scalar.cmpi .eq 64#32 0#32) 1#32 64#32) w (ix2 r d)
    = turn (fun l => hnorm (fun j => (v3) (ix2 r (⟨640 + j.val, by omega⟩ : Fin 1024))) l * (v7) (ix2 0 l)) (u (ix2 r d)) (w (ix2 r d)) d := by
  pointwise [k0_pay34, k0_pay32, k0_pay33]
  rfl

theorem store6 : k0_pay37 (k0_pay35 v3 v7) (k0_pay36 v3 v7 u) (iota .tc S1024x128 32 [1] iota_S1024x128_d1_w32) 64#32 0#32 w (ix2 r d)
    = turn (fun l => hnorm (fun j => (v3) (ix2 r (⟨768 + j.val, by omega⟩ : Fin 1024))) l * (v7) (ix2 0 l)) (u (ix2 r d)) (w (ix2 r d)) d := by
  pointwise [k0_pay37, k0_pay35, k0_pay36]
  rfl

theorem store7 : k0_pay1 (k0_pay38 v3 v7) (k0_pay39 v3 v7 u)  w (ix2 r d)
    = turn (fun l => hnorm (fun j => (v3) (ix2 r (⟨896 + j.val, by omega⟩ : Fin 1024))) l * (v7) (ix2 0 l)) (u (ix2 r d)) (w (ix2 r d)) d := by
  pointwise [k0_pay1, k0_pay38, k0_pay39]
  rfl

end heads

section reads
variable (c : Dev nD) (t : Fin cfg0.N)

theorem weights (x : Fin 2048) (l : Fin 1024) :
    (V m c main_v1 : FVec Ideal S2048x1024 .bf16) (ix2 x l)
      = (m ((c : Thread nD τ).loc main_arg1) : FVec Ideal S2048x13824 .f32) (ix2 x (⟨3072 + l.val, by omega⟩ : Fin 13824)) := by
  unfold V
  after_reads_at

theorem weights_blk (x : Fin 2048) (l : Fin 1024) :
    (iblk m c 1 t : Vec Ideal S2048x1024 .bf16) (ix2 x l) = (V m c main_v1 : FVec Ideal S2048x1024 .bf16) (ix2 x l) := by
  blk_point [iblk, idx t]

theorem gains (d : Fin 128) :
    (V m c main_v35 : FVec Ideal S1x128 .f32) (ix2 0 d) = (m ((c : Thread nD τ).loc main_arg2) : FVec Ideal S128 .f32) (ix1 d) := by
  unfold V
  after_reads_at

theorem gains_blk (d : Fin 128) :
    (iblk m c 2 t : Vec Ideal S1x128 .f32) (ix2 0 d) = (V m c main_v35 : FVec Ideal S1x128 .f32) (ix2 0 d) := by
  blk_point [iblk, idx t]

/-- The product's block. -/
theorem prod (r : Fin 1024) (l : Fin 1024) (p : Fin 16384) (hp : p.val = 1024 * t.val + r.val) :
    k0_pay2 (iblk m c 0 t) (iblk m c 1 t) (ix2 r l)
      = Cert.WaQRefIdeal.Read.val_main_v2 (F := Ideal) (m ((c : Thread nD τ).loc main_arg0)) (m ((c : Thread nD τ).loc main_arg1)) (ix2 p l) := by
  pointwise [k0_pay2, Cert.WaQRefIdeal.Read.val_main_v2, Cert.WaQRefIdeal.Read.val_main_v1, Cert.WaQRefIdeal.Read.val_main_v0]
  blk_point [iblk, V, idx t]
  exact (weights_blk m c t _ _).trans (weights m c _ _)

theorem gain (x2 : FVec Ideal S128 .f32) (hx : m ((c : Thread nD τ).loc main_arg2) = x2) (d : Fin 128) :
    k0_pay3 (iblk m c 2 t) (ix2 0 d)
      = x2 (ix1 d) * Ideal.ofBits .f32 0x3DB504F3#32 := by
  subst hx
  pointwise [k0_pay3]
  exact congrArg (fun e : EReal => e * Ideal.ofBits .f32 0x3DB504F3#32) ((gains_blk m c t d).trans (gains m c d))

theorem cosines (r : Fin 1024) (d : Fin 128) (p : Fin 16384) (hp : p.val = 1024 * t.val + r.val) :
    (iblk m c 3 t : Vec Ideal S1024x128 .f32) (ix2 r d) = (V m c main_v27 : FVec Ideal S16384x128 .f32) (ix2 p d) := by
  blk_point [iblk, idx t]

theorem sines (r : Fin 1024) (d : Fin 128) (p : Fin 16384) (hp : p.val = 1024 * t.val + r.val) :
    (iblk m c 4 t : Vec Ideal S1024x128 .f32) (ix2 r d) = (V m c main_v34 : FVec Ideal S16384x128 .f32) (ix2 p d) := by
  blk_point [iblk, idx t]

/-- Lane `f` of the first half of axis `a`. -/
def lane0 (a : Fin 2) (f : Fin 32) : Fin 128 := ⟨64 * a.val + f.val, by omega⟩

/-- Lane `f` of the second half of axis `a`. -/
def lane1 (a : Fin 2) (f : Fin 32) : Fin 128 := ⟨64 * a.val + 32 + f.val, by omega⟩

/-- A head turned by the tables is the reference's. -/
theorem turned (x0 : FVec Ideal S16384x2048 .bf16) (x1 : FVec Ideal S2048x13824 .f32) (x2 : FVec Ideal S128 .f32)
    (p : Fin 16384) (h : Fin 8) (d : Fin 128) :
    turn (head x0 x1 x2 p h) (V m c main_v27 (ix2 p d)) (V m c main_v34 (ix2 p d)) d * Ideal.ofBits .f32 0x3DB504F3#32
      = Cert.WaQRefIdeal.Read.val_main_v67 (F := Ideal) x0 x1 x2 (ix2 p (⟨128 * h.val + d.val, by omega⟩ : Fin 1024)) := by
  by_cases hd : d.val % 64 < 32
  · obtain ⟨a, f, e⟩ : ∃ (a : Fin 2) (f : Fin 32), d.val = 64 * a.val + f.val :=
      ⟨⟨d.val / 64, by omega⟩, ⟨d.val % 64, by omega⟩, by show d.val = 64 * (d.val / 64) + d.val % 64; omega⟩
    obtain rfl : d = lane0 a f := Fin.ext e
    refine Eq.trans ?_ (ref_fst x0 x1 x2 p h a f).symm
    unfold lane0
    rw [cos_fst, sin_fst, turn_fst]
  · obtain ⟨a, f, e⟩ : ∃ (a : Fin 2) (f : Fin 32), d.val = 64 * a.val + 32 + f.val :=
      ⟨⟨d.val / 64, by omega⟩, ⟨d.val % 64 - 32, by omega⟩, by show d.val = 64 * (d.val / 64) + 32 + (d.val % 64 - 32); omega⟩
    obtain rfl : d = lane1 a f := Fin.ext e
    refine Eq.trans ?_ (ref_snd x0 x1 x2 p h a f).symm
    unfold lane1
    rw [cos_snd, sin_snd, turn_snd]

/-- One head's tile at block `t`: the reference at the place it stands for. -/
theorem tile (h : Fin 8) (g : Fin 128 → Fin 1024) (hg : ∀ j, (g j).val = 128 * h.val + j.val) (r : Fin 1024) (d : Fin 128) (y : S1024x1024.Idx) (h0 : (y 0).val = r.val)
    (h1 : (y 1).val = 128 * h.val + d.val) :
    turn (fun l => hnorm (fun j => k0_pay2 (iblk m c 0 t) (iblk m c 1 t) (ix2 r (g j))) l * k0_pay3 (iblk m c 2 t) (ix2 0 l))
        ((iblk m c 3 t : Vec Ideal S1024x128 .f32) (ix2 r d)) ((iblk m c 4 t : Vec Ideal S1024x128 .f32) (ix2 r d)) d
      = Cert.WaQRefIdeal.Read.val_main_v67 (F := Ideal) (m ((c : Thread nD τ).loc main_arg0)) (m ((c : Thread nD τ).loc main_arg1)) (m ((c : Thread nD τ).loc main_arg2))
        (((cfg0.win 5).blk t).view.emb y) := by
  obtain rfl : g = fun j => (⟨128 * h.val + j.val, by omega⟩ : Fin 1024) := funext fun j => Fin.ext (hg j)
  have ht : t.val < 16 := lt_of_lt_of_eq t.isLt (by decide)
  have hr := r.isLt
  have e0 : ((((cfg0.win 5).blk t).view.emb y) 0 : Fin 16384).val = 1024 * t.val + r.val := by
    blk_simp [idx t]; omega
  have e1 : ((((cfg0.win 5).blk t).view.emb y) 1 : Fin 1024).val = 128 * h.val + d.val := by
    blk_simp [idx t]; omega
  have e : ((cfg0.win 5).blk t).view.emb y
      = ix2 (⟨1024 * t.val + r.val, by omega⟩ : Fin 16384) (⟨128 * h.val + d.val, by omega⟩ : Fin 1024) := by
    funext a; match a with | ⟨0, _⟩ => exact Fin.ext e0 | ⟨1, _⟩ => exact Fin.ext e1
  rw [e, ← turned m c, cosines m c t r d (⟨1024 * t.val + r.val, by omega⟩ : Fin 16384) rfl, sines m c t r d (⟨1024 * t.val + r.val, by omega⟩ : Fin 16384) rfl]
  simp only [prod m c t r _ (⟨1024 * t.val + r.val, by omega⟩ : Fin 16384) rfl, gain m c t _ rfl]
  obtain ⟨k, hk, ek⟩ := scale_real
  simp only [ek, ← mul_assoc]
  exact turn_scale _ _ _ _ k hk

end reads

set_option maxHeartbeats 400000 in
/-- What the body stores at block index `y` of point `t` is the reference at the place of `y` in the array. -/
theorem point (c : Dev nD) (t : Fin cfg0.N) (y) :
    out0_5 (iblk m c 0 t) (iblk m c 1 t) (iblk m c 2 t) (iblk m c 3 t) (iblk m c 4 t) y
      = Cert.WaQRefIdeal.Read.val_main_v67 (F := Ideal) (m ((c : Thread nD τ).loc main_arg0)) (m ((c : Thread nD τ).loc main_arg1)) (m ((c : Thread nD τ).loc main_arg2))
        (((cfg0.win 5).blk t).view.emb y) := by
  frame_out
  canon_tiles x h
  case piece0 =>
    idx_vars x
    rw [prod_eq, gain_eq]
    refine (store7 (k0_pay2 (iblk m c 0 t) (iblk m c 1 t)) (k0_pay3 (iblk m c 2 t)) (iblk m c 3 t) (iblk m c 4 t) _ _).trans ?_
    exact tile m c t (⟨7, by omega⟩ : Fin 8) _ (fun j => rfl) _ _ y h0 h1
  case piece1 =>
    idx_vars x
    rw [prod_eq, gain_eq]
    refine (store6 (k0_pay2 (iblk m c 0 t) (iblk m c 1 t)) (k0_pay3 (iblk m c 2 t)) (iblk m c 3 t) (iblk m c 4 t) _ _).trans ?_
    exact tile m c t (⟨6, by omega⟩ : Fin 8) _ (fun j => rfl) _ _ y h0 h1
  case piece2 =>
    idx_vars x
    rw [prod_eq, gain_eq]
    refine (store5 (k0_pay2 (iblk m c 0 t) (iblk m c 1 t)) (k0_pay3 (iblk m c 2 t)) (iblk m c 3 t) (iblk m c 4 t) _ _).trans ?_
    exact tile m c t (⟨5, by omega⟩ : Fin 8) _ (fun j => rfl) _ _ y h0 h1
  case piece3 =>
    idx_vars x
    rw [prod_eq, gain_eq]
    refine (store4 (k0_pay2 (iblk m c 0 t) (iblk m c 1 t)) (k0_pay3 (iblk m c 2 t)) (iblk m c 3 t) (iblk m c 4 t) _ _).trans ?_
    exact tile m c t (⟨4, by omega⟩ : Fin 8) _ (fun j => rfl) _ _ y h0 h1
  case piece4 =>
    idx_vars x
    rw [prod_eq, gain_eq]
    refine (store3 (k0_pay2 (iblk m c 0 t) (iblk m c 1 t)) (k0_pay3 (iblk m c 2 t)) (iblk m c 3 t) (iblk m c 4 t) _ _).trans ?_
    exact tile m c t (⟨3, by omega⟩ : Fin 8) _ (fun j => rfl) _ _ y h0 h1
  case piece5 =>
    idx_vars x
    rw [prod_eq, gain_eq]
    refine (store2 (k0_pay2 (iblk m c 0 t) (iblk m c 1 t)) (k0_pay3 (iblk m c 2 t)) (iblk m c 3 t) (iblk m c 4 t) _ _).trans ?_
    exact tile m c t (⟨2, by omega⟩ : Fin 8) _ (fun j => rfl) _ _ y h0 h1
  case piece6 =>
    idx_vars x
    rw [prod_eq, gain_eq]
    refine (store1 (k0_pay2 (iblk m c 0 t) (iblk m c 1 t)) (k0_pay3 (iblk m c 2 t)) (iblk m c 3 t) (iblk m c 4 t) _ _).trans ?_
    exact tile m c t (⟨1, by omega⟩ : Fin 8) _ (fun j => rfl) _ _ y h0 h1
  case piece7 =>
    idx_vars x
    refine (store0 (iblk m c 0 t) (iblk m c 1 t) (iblk m c 2 t) (iblk m c 3 t) (iblk m c 4 t) _ _).trans ?_
    exact tile m c t (⟨0, by omega⟩ : Fin 8) _ (fun j => by show 0 + j.val = 128 * 0 + j.val; omega) _ _ y h0 (h1.trans (Nat.zero_add _).symm)

/-- The result array after the run. -/
theorem final (c : Dev nD) : (dats m 0 c).arrAt 5 (cfgs 0).N
    = Cert.WaQRefIdeal.Read.val_main_v67 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point m c t y

end Cert.WaQValue

end
-- ==== Proof.WaK.lean ====
/- The window attention's keys: the array the kernel leaves is the reference's product, normalised and turned head by head, element by element. -/
module

public import proofs.«01_k».proof.Proof.Gen.WaKIdeal.Frame
public import proofs.«01_k».proof.Proof.Gen.WaKIdeal.Value
public import proofs.«01_k».proof.Proof.Gen.WaKRefIdeal.Read
public import proofs.«01_k».proof.Proof.HeadNorm
public import proofs.«01_k».proof.Proof.Rope
public import Idealize.ShloMosaic.Lib.StableHlo.ReadAt
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.WaKValue

open Cert.WaKIdeal Cert.WaKIdeal.Gen Cert.HeadNorm Cert.Rope

variable (m : (ℓ : Loc nD τ sig) → Buf (Elt Ideal) ℓ)

/-! The tables of the angles. -/

/-- The reference's angle of axis `a` (rows, columns) and frequency `f` at the token `p`. -/
def ang (p : Fin 16384) (a : Fin 2) (f : Fin 32) : EReal :=
  match a with
  | 0 => (Cert.WaKRefIdeal.Read.val_main_v34 (F := Ideal) : FVec Ideal S16384x32 .f32) (ix2 p f)
  | 1 => (Cert.WaKRefIdeal.Read.val_main_v39 (F := Ideal) : FVec Ideal S16384x32 .f32) (ix2 p f)

theorem cos_fst (c : Dev nD) (p : Fin 16384) (a : Fin 2) (f : Fin 32) :
    V m c main_v27 (ix2 p (⟨64 * a.val + f.val, by omega⟩ : Fin 128)) = Ideal.cos (ang p a f) := by
  match a with
  | 0 =>
    show _ = Ideal.cos ((Cert.WaKRefIdeal.Read.val_main_v34 (F := Ideal) : FVec Ideal S16384x32 .f32) (ix2 p f))
    unfold V
    after_reads_simp
    pointwise []
    refine (congrFun (StableHlo.unary_result' ..) _).trans ?_
    pointwise []
    after_reads_at
    pointwise [Cert.WaKRefIdeal.Read.val_main_v19, Cert.WaKRefIdeal.Read.val_main_c, Cert.WaKRefIdeal.Read.val_main_call0_v0, Cert.WaKRefIdeal.Read.val_main_call0_v1, Cert.WaKRefIdeal.Read.val_main_call0_v2, Cert.WaKRefIdeal.Read.val_main_call0_v3, Cert.WaKRefIdeal.Read.val_main_call0_v4, Cert.WaKRefIdeal.Read.val_main_call0_v5, Cert.WaKRefIdeal.Read.val_main_call0_v6, Cert.WaKRefIdeal.Read.val_main_call0_v7, Cert.WaKRefIdeal.Read.val_main_call0_v8, Cert.WaKRefIdeal.Read.val_main_call0_c, Cert.WaKRefIdeal.Read.val_main_call0_v9, Cert.WaKRefIdeal.Read.val_main_call0_v10, Cert.WaKRefIdeal.Read.val_main_call0_v11, Cert.WaKRefIdeal.Read.val_main_call0_c_0, Cert.WaKRefIdeal.Read.val_main_call0_v12, Cert.WaKRefIdeal.Read.val_main_call0_v13, Cert.WaKRefIdeal.Read.val_main_v20, Cert.WaKRefIdeal.Read.val_main_v21, Cert.WaKRefIdeal.Read.val_main_c_2, Cert.WaKRefIdeal.Read.val_main_call1_v0, Cert.WaKRefIdeal.Read.val_main_call1_c, Cert.WaKRefIdeal.Read.val_main_call1_v1, Cert.WaKRefIdeal.Read.val_main_call1_c_0, Cert.WaKRefIdeal.Read.val_main_call1_v2, Cert.WaKRefIdeal.Read.val_main_call1_v3, Cert.WaKRefIdeal.Read.val_main_call1_v4, Cert.WaKRefIdeal.Read.val_main_call1_c_1, Cert.WaKRefIdeal.Read.val_main_call1_v5, Cert.WaKRefIdeal.Read.val_main_call1_v6, Cert.WaKRefIdeal.Read.val_main_call1_c_2, Cert.WaKRefIdeal.Read.val_main_call1_v7, Cert.WaKRefIdeal.Read.val_main_call1_v8, Cert.WaKRefIdeal.Read.val_main_call1_c_3, Cert.WaKRefIdeal.Read.val_main_call1_v9, Cert.WaKRefIdeal.Read.val_main_call1_v10, Cert.WaKRefIdeal.Read.val_main_call1_v11, Cert.WaKRefIdeal.Read.val_main_call1_v12, Cert.WaKRefIdeal.Read.val_main_call1_v13, Cert.WaKRefIdeal.Read.val_main_call1_v14, Cert.WaKRefIdeal.Read.val_main_v22, Cert.WaKRefIdeal.Read.val_main_v23, Cert.WaKRefIdeal.Read.val_main_v24, Cert.WaKRefIdeal.Read.val_main_v25, Cert.WaKRefIdeal.Read.val_main_cst_3, Cert.WaKRefIdeal.Read.val_main_v26, Cert.WaKRefIdeal.Read.val_main_v27, Cert.WaKRefIdeal.Read.val_main_cst_4, Cert.WaKRefIdeal.Read.val_main_v28, Cert.WaKRefIdeal.Read.val_main_v29, Cert.WaKRefIdeal.Read.val_main_v30, Cert.WaKRefIdeal.Read.val_main_v31, Cert.WaKRefIdeal.Read.val_main_v32, Cert.WaKRefIdeal.Read.val_main_v33, Cert.WaKRefIdeal.Read.val_main_v34, Cert.WaKRefIdeal.Read.val_main_v35, Cert.WaKRefIdeal.Read.val_main_v36, Cert.WaKRefIdeal.Read.val_main_v37, Cert.WaKRefIdeal.Read.val_main_v38, Cert.WaKRefIdeal.Read.val_main_v39]
  | 1 =>
    show _ = Ideal.cos ((Cert.WaKRefIdeal.Read.val_main_v39 (F := Ideal) : FVec Ideal S16384x32 .f32) (ix2 p f))
    unfold V
    after_reads_simp
    pointwise []
    rw [dif_neg (by omega), dif_neg (by omega), dif_pos (by omega)]
    simp only [show 64 + f.val - 32 - 32 = f.val from by omega, Fin.eta]
    refine (congrFun (StableHlo.unary_result' ..) _).trans ?_
    pointwise []
    after_reads_at
    pointwise [Cert.WaKRefIdeal.Read.val_main_v19, Cert.WaKRefIdeal.Read.val_main_c, Cert.WaKRefIdeal.Read.val_main_call0_v0, Cert.WaKRefIdeal.Read.val_main_call0_v1, Cert.WaKRefIdeal.Read.val_main_call0_v2, Cert.WaKRefIdeal.Read.val_main_call0_v3, Cert.WaKRefIdeal.Read.val_main_call0_v4, Cert.WaKRefIdeal.Read.val_main_call0_v5, Cert.WaKRefIdeal.Read.val_main_call0_v6, Cert.WaKRefIdeal.Read.val_main_call0_v7, Cert.WaKRefIdeal.Read.val_main_call0_v8, Cert.WaKRefIdeal.Read.val_main_call0_c, Cert.WaKRefIdeal.Read.val_main_call0_v9, Cert.WaKRefIdeal.Read.val_main_call0_v10, Cert.WaKRefIdeal.Read.val_main_call0_v11, Cert.WaKRefIdeal.Read.val_main_call0_c_0, Cert.WaKRefIdeal.Read.val_main_call0_v12, Cert.WaKRefIdeal.Read.val_main_call0_v13, Cert.WaKRefIdeal.Read.val_main_v20, Cert.WaKRefIdeal.Read.val_main_v21, Cert.WaKRefIdeal.Read.val_main_c_2, Cert.WaKRefIdeal.Read.val_main_call1_v0, Cert.WaKRefIdeal.Read.val_main_call1_c, Cert.WaKRefIdeal.Read.val_main_call1_v1, Cert.WaKRefIdeal.Read.val_main_call1_c_0, Cert.WaKRefIdeal.Read.val_main_call1_v2, Cert.WaKRefIdeal.Read.val_main_call1_v3, Cert.WaKRefIdeal.Read.val_main_call1_v4, Cert.WaKRefIdeal.Read.val_main_call1_c_1, Cert.WaKRefIdeal.Read.val_main_call1_v5, Cert.WaKRefIdeal.Read.val_main_call1_v6, Cert.WaKRefIdeal.Read.val_main_call1_c_2, Cert.WaKRefIdeal.Read.val_main_call1_v7, Cert.WaKRefIdeal.Read.val_main_call1_v8, Cert.WaKRefIdeal.Read.val_main_call1_c_3, Cert.WaKRefIdeal.Read.val_main_call1_v9, Cert.WaKRefIdeal.Read.val_main_call1_v10, Cert.WaKRefIdeal.Read.val_main_call1_v11, Cert.WaKRefIdeal.Read.val_main_call1_v12, Cert.WaKRefIdeal.Read.val_main_call1_v13, Cert.WaKRefIdeal.Read.val_main_call1_v14, Cert.WaKRefIdeal.Read.val_main_v22, Cert.WaKRefIdeal.Read.val_main_v23, Cert.WaKRefIdeal.Read.val_main_v24, Cert.WaKRefIdeal.Read.val_main_v25, Cert.WaKRefIdeal.Read.val_main_cst_3, Cert.WaKRefIdeal.Read.val_main_v26, Cert.WaKRefIdeal.Read.val_main_v27, Cert.WaKRefIdeal.Read.val_main_cst_4, Cert.WaKRefIdeal.Read.val_main_v28, Cert.WaKRefIdeal.Read.val_main_v29, Cert.WaKRefIdeal.Read.val_main_v30, Cert.WaKRefIdeal.Read.val_main_v31, Cert.WaKRefIdeal.Read.val_main_v32, Cert.WaKRefIdeal.Read.val_main_v33, Cert.WaKRefIdeal.Read.val_main_v34, Cert.WaKRefIdeal.Read.val_main_v35, Cert.WaKRefIdeal.Read.val_main_v36, Cert.WaKRefIdeal.Read.val_main_v37, Cert.WaKRefIdeal.Read.val_main_v38, Cert.WaKRefIdeal.Read.val_main_v39]

theorem cos_snd (c : Dev nD) (p : Fin 16384) (a : Fin 2) (f : Fin 32) :
    V m c main_v27 (ix2 p (⟨64 * a.val + 32 + f.val, by omega⟩ : Fin 128)) = Ideal.cos (ang p a f) := by
  match a with
  | 0 =>
    show _ = Ideal.cos ((Cert.WaKRefIdeal.Read.val_main_v34 (F := Ideal) : FVec Ideal S16384x32 .f32) (ix2 p f))
    unfold V
    after_reads_simp
    pointwise []
    refine (congrFun (StableHlo.unary_result' ..) _).trans ?_
    pointwise []
    after_reads_at
    pointwise [Cert.WaKRefIdeal.Read.val_main_v19, Cert.WaKRefIdeal.Read.val_main_c, Cert.WaKRefIdeal.Read.val_main_call0_v0, Cert.WaKRefIdeal.Read.val_main_call0_v1, Cert.WaKRefIdeal.Read.val_main_call0_v2, Cert.WaKRefIdeal.Read.val_main_call0_v3, Cert.WaKRefIdeal.Read.val_main_call0_v4, Cert.WaKRefIdeal.Read.val_main_call0_v5, Cert.WaKRefIdeal.Read.val_main_call0_v6, Cert.WaKRefIdeal.Read.val_main_call0_v7, Cert.WaKRefIdeal.Read.val_main_call0_v8, Cert.WaKRefIdeal.Read.val_main_call0_c, Cert.WaKRefIdeal.Read.val_main_call0_v9, Cert.WaKRefIdeal.Read.val_main_call0_v10, Cert.WaKRefIdeal.Read.val_main_call0_v11, Cert.WaKRefIdeal.Read.val_main_call0_c_0, Cert.WaKRefIdeal.Read.val_main_call0_v12, Cert.WaKRefIdeal.Read.val_main_call0_v13, Cert.WaKRefIdeal.Read.val_main_v20, Cert.WaKRefIdeal.Read.val_main_v21, Cert.WaKRefIdeal.Read.val_main_c_2, Cert.WaKRefIdeal.Read.val_main_call1_v0, Cert.WaKRefIdeal.Read.val_main_call1_c, Cert.WaKRefIdeal.Read.val_main_call1_v1, Cert.WaKRefIdeal.Read.val_main_call1_c_0, Cert.WaKRefIdeal.Read.val_main_call1_v2, Cert.WaKRefIdeal.Read.val_main_call1_v3, Cert.WaKRefIdeal.Read.val_main_call1_v4, Cert.WaKRefIdeal.Read.val_main_call1_c_1, Cert.WaKRefIdeal.Read.val_main_call1_v5, Cert.WaKRefIdeal.Read.val_main_call1_v6, Cert.WaKRefIdeal.Read.val_main_call1_c_2, Cert.WaKRefIdeal.Read.val_main_call1_v7, Cert.WaKRefIdeal.Read.val_main_call1_v8, Cert.WaKRefIdeal.Read.val_main_call1_c_3, Cert.WaKRefIdeal.Read.val_main_call1_v9, Cert.WaKRefIdeal.Read.val_main_call1_v10, Cert.WaKRefIdeal.Read.val_main_call1_v11, Cert.WaKRefIdeal.Read.val_main_call1_v12, Cert.WaKRefIdeal.Read.val_main_call1_v13, Cert.WaKRefIdeal.Read.val_main_call1_v14, Cert.WaKRefIdeal.Read.val_main_v22, Cert.WaKRefIdeal.Read.val_main_v23, Cert.WaKRefIdeal.Read.val_main_v24, Cert.WaKRefIdeal.Read.val_main_v25, Cert.WaKRefIdeal.Read.val_main_cst_3, Cert.WaKRefIdeal.Read.val_main_v26, Cert.WaKRefIdeal.Read.val_main_v27, Cert.WaKRefIdeal.Read.val_main_cst_4, Cert.WaKRefIdeal.Read.val_main_v28, Cert.WaKRefIdeal.Read.val_main_v29, Cert.WaKRefIdeal.Read.val_main_v30, Cert.WaKRefIdeal.Read.val_main_v31, Cert.WaKRefIdeal.Read.val_main_v32, Cert.WaKRefIdeal.Read.val_main_v33, Cert.WaKRefIdeal.Read.val_main_v34, Cert.WaKRefIdeal.Read.val_main_v35, Cert.WaKRefIdeal.Read.val_main_v36, Cert.WaKRefIdeal.Read.val_main_v37, Cert.WaKRefIdeal.Read.val_main_v38, Cert.WaKRefIdeal.Read.val_main_v39]
  | 1 =>
    show _ = Ideal.cos ((Cert.WaKRefIdeal.Read.val_main_v39 (F := Ideal) : FVec Ideal S16384x32 .f32) (ix2 p f))
    unfold V
    after_reads_simp
    pointwise []
    rw [dif_neg (by omega), dif_neg (by omega), dif_neg (by omega)]
    simp only [show 96 + f.val - 32 - 32 - 32 = f.val from by omega, Fin.eta]
    refine (congrFun (StableHlo.unary_result' ..) _).trans ?_
    pointwise []
    after_reads_at
    pointwise [Cert.WaKRefIdeal.Read.val_main_v19, Cert.WaKRefIdeal.Read.val_main_c, Cert.WaKRefIdeal.Read.val_main_call0_v0, Cert.WaKRefIdeal.Read.val_main_call0_v1, Cert.WaKRefIdeal.Read.val_main_call0_v2, Cert.WaKRefIdeal.Read.val_main_call0_v3, Cert.WaKRefIdeal.Read.val_main_call0_v4, Cert.WaKRefIdeal.Read.val_main_call0_v5, Cert.WaKRefIdeal.Read.val_main_call0_v6, Cert.WaKRefIdeal.Read.val_main_call0_v7, Cert.WaKRefIdeal.Read.val_main_call0_v8, Cert.WaKRefIdeal.Read.val_main_call0_c, Cert.WaKRefIdeal.Read.val_main_call0_v9, Cert.WaKRefIdeal.Read.val_main_call0_v10, Cert.WaKRefIdeal.Read.val_main_call0_v11, Cert.WaKRefIdeal.Read.val_main_call0_c_0, Cert.WaKRefIdeal.Read.val_main_call0_v12, Cert.WaKRefIdeal.Read.val_main_call0_v13, Cert.WaKRefIdeal.Read.val_main_v20, Cert.WaKRefIdeal.Read.val_main_v21, Cert.WaKRefIdeal.Read.val_main_c_2, Cert.WaKRefIdeal.Read.val_main_call1_v0, Cert.WaKRefIdeal.Read.val_main_call1_c, Cert.WaKRefIdeal.Read.val_main_call1_v1, Cert.WaKRefIdeal.Read.val_main_call1_c_0, Cert.WaKRefIdeal.Read.val_main_call1_v2, Cert.WaKRefIdeal.Read.val_main_call1_v3, Cert.WaKRefIdeal.Read.val_main_call1_v4, Cert.WaKRefIdeal.Read.val_main_call1_c_1, Cert.WaKRefIdeal.Read.val_main_call1_v5, Cert.WaKRefIdeal.Read.val_main_call1_v6, Cert.WaKRefIdeal.Read.val_main_call1_c_2, Cert.WaKRefIdeal.Read.val_main_call1_v7, Cert.WaKRefIdeal.Read.val_main_call1_v8, Cert.WaKRefIdeal.Read.val_main_call1_c_3, Cert.WaKRefIdeal.Read.val_main_call1_v9, Cert.WaKRefIdeal.Read.val_main_call1_v10, Cert.WaKRefIdeal.Read.val_main_call1_v11, Cert.WaKRefIdeal.Read.val_main_call1_v12, Cert.WaKRefIdeal.Read.val_main_call1_v13, Cert.WaKRefIdeal.Read.val_main_call1_v14, Cert.WaKRefIdeal.Read.val_main_v22, Cert.WaKRefIdeal.Read.val_main_v23, Cert.WaKRefIdeal.Read.val_main_v24, Cert.WaKRefIdeal.Read.val_main_v25, Cert.WaKRefIdeal.Read.val_main_cst_3, Cert.WaKRefIdeal.Read.val_main_v26, Cert.WaKRefIdeal.Read.val_main_v27, Cert.WaKRefIdeal.Read.val_main_cst_4, Cert.WaKRefIdeal.Read.val_main_v28, Cert.WaKRefIdeal.Read.val_main_v29, Cert.WaKRefIdeal.Read.val_main_v30, Cert.WaKRefIdeal.Read.val_main_v31, Cert.WaKRefIdeal.Read.val_main_v32, Cert.WaKRefIdeal.Read.val_main_v33, Cert.WaKRefIdeal.Read.val_main_v34, Cert.WaKRefIdeal.Read.val_main_v35, Cert.WaKRefIdeal.Read.val_main_v36, Cert.WaKRefIdeal.Read.val_main_v37, Cert.WaKRefIdeal.Read.val_main_v38, Cert.WaKRefIdeal.Read.val_main_v39]

theorem sin_fst (c : Dev nD) (p : Fin 16384) (a : Fin 2) (f : Fin 32) :
    V m c main_v34 (ix2 p (⟨64 * a.val + f.val, by omega⟩ : Fin 128)) = -Ideal.sin (ang p a f) := by
  match a with
  | 0 =>
    show _ = -Ideal.sin ((Cert.WaKRefIdeal.Read.val_main_v34 (F := Ideal) : FVec Ideal S16384x32 .f32) (ix2 p f))
    unfold V
    after_reads_simp
    pointwise []
    refine (congrFun (StableHlo.unary_result' ..) _).trans ?_
    pointwise []
    after_reads_at
    pointwise [Cert.WaKRefIdeal.Read.val_main_v19, Cert.WaKRefIdeal.Read.val_main_c, Cert.WaKRefIdeal.Read.val_main_call0_v0, Cert.WaKRefIdeal.Read.val_main_call0_v1, Cert.WaKRefIdeal.Read.val_main_call0_v2, Cert.WaKRefIdeal.Read.val_main_call0_v3, Cert.WaKRefIdeal.Read.val_main_call0_v4, Cert.WaKRefIdeal.Read.val_main_call0_v5, Cert.WaKRefIdeal.Read.val_main_call0_v6, Cert.WaKRefIdeal.Read.val_main_call0_v7, Cert.WaKRefIdeal.Read.val_main_call0_v8, Cert.WaKRefIdeal.Read.val_main_call0_c, Cert.WaKRefIdeal.Read.val_main_call0_v9, Cert.WaKRefIdeal.Read.val_main_call0_v10, Cert.WaKRefIdeal.Read.val_main_call0_v11, Cert.WaKRefIdeal.Read.val_main_call0_c_0, Cert.WaKRefIdeal.Read.val_main_call0_v12, Cert.WaKRefIdeal.Read.val_main_call0_v13, Cert.WaKRefIdeal.Read.val_main_v20, Cert.WaKRefIdeal.Read.val_main_v21, Cert.WaKRefIdeal.Read.val_main_c_2, Cert.WaKRefIdeal.Read.val_main_call1_v0, Cert.WaKRefIdeal.Read.val_main_call1_c, Cert.WaKRefIdeal.Read.val_main_call1_v1, Cert.WaKRefIdeal.Read.val_main_call1_c_0, Cert.WaKRefIdeal.Read.val_main_call1_v2, Cert.WaKRefIdeal.Read.val_main_call1_v3, Cert.WaKRefIdeal.Read.val_main_call1_v4, Cert.WaKRefIdeal.Read.val_main_call1_c_1, Cert.WaKRefIdeal.Read.val_main_call1_v5, Cert.WaKRefIdeal.Read.val_main_call1_v6, Cert.WaKRefIdeal.Read.val_main_call1_c_2, Cert.WaKRefIdeal.Read.val_main_call1_v7, Cert.WaKRefIdeal.Read.val_main_call1_v8, Cert.WaKRefIdeal.Read.val_main_call1_c_3, Cert.WaKRefIdeal.Read.val_main_call1_v9, Cert.WaKRefIdeal.Read.val_main_call1_v10, Cert.WaKRefIdeal.Read.val_main_call1_v11, Cert.WaKRefIdeal.Read.val_main_call1_v12, Cert.WaKRefIdeal.Read.val_main_call1_v13, Cert.WaKRefIdeal.Read.val_main_call1_v14, Cert.WaKRefIdeal.Read.val_main_v22, Cert.WaKRefIdeal.Read.val_main_v23, Cert.WaKRefIdeal.Read.val_main_v24, Cert.WaKRefIdeal.Read.val_main_v25, Cert.WaKRefIdeal.Read.val_main_cst_3, Cert.WaKRefIdeal.Read.val_main_v26, Cert.WaKRefIdeal.Read.val_main_v27, Cert.WaKRefIdeal.Read.val_main_cst_4, Cert.WaKRefIdeal.Read.val_main_v28, Cert.WaKRefIdeal.Read.val_main_v29, Cert.WaKRefIdeal.Read.val_main_v30, Cert.WaKRefIdeal.Read.val_main_v31, Cert.WaKRefIdeal.Read.val_main_v32, Cert.WaKRefIdeal.Read.val_main_v33, Cert.WaKRefIdeal.Read.val_main_v34, Cert.WaKRefIdeal.Read.val_main_v35, Cert.WaKRefIdeal.Read.val_main_v36, Cert.WaKRefIdeal.Read.val_main_v37, Cert.WaKRefIdeal.Read.val_main_v38, Cert.WaKRefIdeal.Read.val_main_v39]
  | 1 =>
    show _ = -Ideal.sin ((Cert.WaKRefIdeal.Read.val_main_v39 (F := Ideal) : FVec Ideal S16384x32 .f32) (ix2 p f))
    unfold V
    after_reads_simp
    pointwise []
    rw [dif_neg (by omega), dif_neg (by omega), dif_pos (by omega)]
    simp only [show 64 + f.val - 32 - 32 = f.val from by omega, Fin.eta]
    refine (congrFun (StableHlo.unary_result' ..) _).trans ?_
    pointwise []
    after_reads_at
    pointwise [Cert.WaKRefIdeal.Read.val_main_v19, Cert.WaKRefIdeal.Read.val_main_c, Cert.WaKRefIdeal.Read.val_main_call0_v0, Cert.WaKRefIdeal.Read.val_main_call0_v1, Cert.WaKRefIdeal.Read.val_main_call0_v2, Cert.WaKRefIdeal.Read.val_main_call0_v3, Cert.WaKRefIdeal.Read.val_main_call0_v4, Cert.WaKRefIdeal.Read.val_main_call0_v5, Cert.WaKRefIdeal.Read.val_main_call0_v6, Cert.WaKRefIdeal.Read.val_main_call0_v7, Cert.WaKRefIdeal.Read.val_main_call0_v8, Cert.WaKRefIdeal.Read.val_main_call0_c, Cert.WaKRefIdeal.Read.val_main_call0_v9, Cert.WaKRefIdeal.Read.val_main_call0_v10, Cert.WaKRefIdeal.Read.val_main_call0_v11, Cert.WaKRefIdeal.Read.val_main_call0_c_0, Cert.WaKRefIdeal.Read.val_main_call0_v12, Cert.WaKRefIdeal.Read.val_main_call0_v13, Cert.WaKRefIdeal.Read.val_main_v20, Cert.WaKRefIdeal.Read.val_main_v21, Cert.WaKRefIdeal.Read.val_main_c_2, Cert.WaKRefIdeal.Read.val_main_call1_v0, Cert.WaKRefIdeal.Read.val_main_call1_c, Cert.WaKRefIdeal.Read.val_main_call1_v1, Cert.WaKRefIdeal.Read.val_main_call1_c_0, Cert.WaKRefIdeal.Read.val_main_call1_v2, Cert.WaKRefIdeal.Read.val_main_call1_v3, Cert.WaKRefIdeal.Read.val_main_call1_v4, Cert.WaKRefIdeal.Read.val_main_call1_c_1, Cert.WaKRefIdeal.Read.val_main_call1_v5, Cert.WaKRefIdeal.Read.val_main_call1_v6, Cert.WaKRefIdeal.Read.val_main_call1_c_2, Cert.WaKRefIdeal.Read.val_main_call1_v7, Cert.WaKRefIdeal.Read.val_main_call1_v8, Cert.WaKRefIdeal.Read.val_main_call1_c_3, Cert.WaKRefIdeal.Read.val_main_call1_v9, Cert.WaKRefIdeal.Read.val_main_call1_v10, Cert.WaKRefIdeal.Read.val_main_call1_v11, Cert.WaKRefIdeal.Read.val_main_call1_v12, Cert.WaKRefIdeal.Read.val_main_call1_v13, Cert.WaKRefIdeal.Read.val_main_call1_v14, Cert.WaKRefIdeal.Read.val_main_v22, Cert.WaKRefIdeal.Read.val_main_v23, Cert.WaKRefIdeal.Read.val_main_v24, Cert.WaKRefIdeal.Read.val_main_v25, Cert.WaKRefIdeal.Read.val_main_cst_3, Cert.WaKRefIdeal.Read.val_main_v26, Cert.WaKRefIdeal.Read.val_main_v27, Cert.WaKRefIdeal.Read.val_main_cst_4, Cert.WaKRefIdeal.Read.val_main_v28, Cert.WaKRefIdeal.Read.val_main_v29, Cert.WaKRefIdeal.Read.val_main_v30, Cert.WaKRefIdeal.Read.val_main_v31, Cert.WaKRefIdeal.Read.val_main_v32, Cert.WaKRefIdeal.Read.val_main_v33, Cert.WaKRefIdeal.Read.val_main_v34, Cert.WaKRefIdeal.Read.val_main_v35, Cert.WaKRefIdeal.Read.val_main_v36, Cert.WaKRefIdeal.Read.val_main_v37, Cert.WaKRefIdeal.Read.val_main_v38, Cert.WaKRefIdeal.Read.val_main_v39]

theorem sin_snd (c : Dev nD) (p : Fin 16384) (a : Fin 2) (f : Fin 32) :
    V m c main_v34 (ix2 p (⟨64 * a.val + 32 + f.val, by omega⟩ : Fin 128)) = Ideal.sin (ang p a f) := by
  match a with
  | 0 =>
    show _ = Ideal.sin ((Cert.WaKRefIdeal.Read.val_main_v34 (F := Ideal) : FVec Ideal S16384x32 .f32) (ix2 p f))
    unfold V
    after_reads_simp
    pointwise []
    refine (congrFun (StableHlo.unary_result' ..) _).trans ?_
    pointwise []
    after_reads_at
    pointwise [Cert.WaKRefIdeal.Read.val_main_v19, Cert.WaKRefIdeal.Read.val_main_c, Cert.WaKRefIdeal.Read.val_main_call0_v0, Cert.WaKRefIdeal.Read.val_main_call0_v1, Cert.WaKRefIdeal.Read.val_main_call0_v2, Cert.WaKRefIdeal.Read.val_main_call0_v3, Cert.WaKRefIdeal.Read.val_main_call0_v4, Cert.WaKRefIdeal.Read.val_main_call0_v5, Cert.WaKRefIdeal.Read.val_main_call0_v6, Cert.WaKRefIdeal.Read.val_main_call0_v7, Cert.WaKRefIdeal.Read.val_main_call0_v8, Cert.WaKRefIdeal.Read.val_main_call0_c, Cert.WaKRefIdeal.Read.val_main_call0_v9, Cert.WaKRefIdeal.Read.val_main_call0_v10, Cert.WaKRefIdeal.Read.val_main_call0_v11, Cert.WaKRefIdeal.Read.val_main_call0_c_0, Cert.WaKRefIdeal.Read.val_main_call0_v12, Cert.WaKRefIdeal.Read.val_main_call0_v13, Cert.WaKRefIdeal.Read.val_main_v20, Cert.WaKRefIdeal.Read.val_main_v21, Cert.WaKRefIdeal.Read.val_main_c_2, Cert.WaKRefIdeal.Read.val_main_call1_v0, Cert.WaKRefIdeal.Read.val_main_call1_c, Cert.WaKRefIdeal.Read.val_main_call1_v1, Cert.WaKRefIdeal.Read.val_main_call1_c_0, Cert.WaKRefIdeal.Read.val_main_call1_v2, Cert.WaKRefIdeal.Read.val_main_call1_v3, Cert.WaKRefIdeal.Read.val_main_call1_v4, Cert.WaKRefIdeal.Read.val_main_call1_c_1, Cert.WaKRefIdeal.Read.val_main_call1_v5, Cert.WaKRefIdeal.Read.val_main_call1_v6, Cert.WaKRefIdeal.Read.val_main_call1_c_2, Cert.WaKRefIdeal.Read.val_main_call1_v7, Cert.WaKRefIdeal.Read.val_main_call1_v8, Cert.WaKRefIdeal.Read.val_main_call1_c_3, Cert.WaKRefIdeal.Read.val_main_call1_v9, Cert.WaKRefIdeal.Read.val_main_call1_v10, Cert.WaKRefIdeal.Read.val_main_call1_v11, Cert.WaKRefIdeal.Read.val_main_call1_v12, Cert.WaKRefIdeal.Read.val_main_call1_v13, Cert.WaKRefIdeal.Read.val_main_call1_v14, Cert.WaKRefIdeal.Read.val_main_v22, Cert.WaKRefIdeal.Read.val_main_v23, Cert.WaKRefIdeal.Read.val_main_v24, Cert.WaKRefIdeal.Read.val_main_v25, Cert.WaKRefIdeal.Read.val_main_cst_3, Cert.WaKRefIdeal.Read.val_main_v26, Cert.WaKRefIdeal.Read.val_main_v27, Cert.WaKRefIdeal.Read.val_main_cst_4, Cert.WaKRefIdeal.Read.val_main_v28, Cert.WaKRefIdeal.Read.val_main_v29, Cert.WaKRefIdeal.Read.val_main_v30, Cert.WaKRefIdeal.Read.val_main_v31, Cert.WaKRefIdeal.Read.val_main_v32, Cert.WaKRefIdeal.Read.val_main_v33, Cert.WaKRefIdeal.Read.val_main_v34, Cert.WaKRefIdeal.Read.val_main_v35, Cert.WaKRefIdeal.Read.val_main_v36, Cert.WaKRefIdeal.Read.val_main_v37, Cert.WaKRefIdeal.Read.val_main_v38, Cert.WaKRefIdeal.Read.val_main_v39]
  | 1 =>
    show _ = Ideal.sin ((Cert.WaKRefIdeal.Read.val_main_v39 (F := Ideal) : FVec Ideal S16384x32 .f32) (ix2 p f))
    unfold V
    after_reads_simp
    pointwise []
    rw [dif_neg (by omega), dif_neg (by omega), dif_neg (by omega)]
    simp only [show 96 + f.val - 32 - 32 - 32 = f.val from by omega, Fin.eta]
    refine (congrFun (StableHlo.unary_result' ..) _).trans ?_
    pointwise []
    after_reads_at
    pointwise [Cert.WaKRefIdeal.Read.val_main_v19, Cert.WaKRefIdeal.Read.val_main_c, Cert.WaKRefIdeal.Read.val_main_call0_v0, Cert.WaKRefIdeal.Read.val_main_call0_v1, Cert.WaKRefIdeal.Read.val_main_call0_v2, Cert.WaKRefIdeal.Read.val_main_call0_v3, Cert.WaKRefIdeal.Read.val_main_call0_v4, Cert.WaKRefIdeal.Read.val_main_call0_v5, Cert.WaKRefIdeal.Read.val_main_call0_v6, Cert.WaKRefIdeal.Read.val_main_call0_v7, Cert.WaKRefIdeal.Read.val_main_call0_v8, Cert.WaKRefIdeal.Read.val_main_call0_c, Cert.WaKRefIdeal.Read.val_main_call0_v9, Cert.WaKRefIdeal.Read.val_main_call0_v10, Cert.WaKRefIdeal.Read.val_main_call0_v11, Cert.WaKRefIdeal.Read.val_main_call0_c_0, Cert.WaKRefIdeal.Read.val_main_call0_v12, Cert.WaKRefIdeal.Read.val_main_call0_v13, Cert.WaKRefIdeal.Read.val_main_v20, Cert.WaKRefIdeal.Read.val_main_v21, Cert.WaKRefIdeal.Read.val_main_c_2, Cert.WaKRefIdeal.Read.val_main_call1_v0, Cert.WaKRefIdeal.Read.val_main_call1_c, Cert.WaKRefIdeal.Read.val_main_call1_v1, Cert.WaKRefIdeal.Read.val_main_call1_c_0, Cert.WaKRefIdeal.Read.val_main_call1_v2, Cert.WaKRefIdeal.Read.val_main_call1_v3, Cert.WaKRefIdeal.Read.val_main_call1_v4, Cert.WaKRefIdeal.Read.val_main_call1_c_1, Cert.WaKRefIdeal.Read.val_main_call1_v5, Cert.WaKRefIdeal.Read.val_main_call1_v6, Cert.WaKRefIdeal.Read.val_main_call1_c_2, Cert.WaKRefIdeal.Read.val_main_call1_v7, Cert.WaKRefIdeal.Read.val_main_call1_v8, Cert.WaKRefIdeal.Read.val_main_call1_c_3, Cert.WaKRefIdeal.Read.val_main_call1_v9, Cert.WaKRefIdeal.Read.val_main_call1_v10, Cert.WaKRefIdeal.Read.val_main_call1_v11, Cert.WaKRefIdeal.Read.val_main_call1_v12, Cert.WaKRefIdeal.Read.val_main_call1_v13, Cert.WaKRefIdeal.Read.val_main_call1_v14, Cert.WaKRefIdeal.Read.val_main_v22, Cert.WaKRefIdeal.Read.val_main_v23, Cert.WaKRefIdeal.Read.val_main_v24, Cert.WaKRefIdeal.Read.val_main_v25, Cert.WaKRefIdeal.Read.val_main_cst_3, Cert.WaKRefIdeal.Read.val_main_v26, Cert.WaKRefIdeal.Read.val_main_v27, Cert.WaKRefIdeal.Read.val_main_cst_4, Cert.WaKRefIdeal.Read.val_main_v28, Cert.WaKRefIdeal.Read.val_main_v29, Cert.WaKRefIdeal.Read.val_main_v30, Cert.WaKRefIdeal.Read.val_main_v31, Cert.WaKRefIdeal.Read.val_main_v32, Cert.WaKRefIdeal.Read.val_main_v33, Cert.WaKRefIdeal.Read.val_main_v34, Cert.WaKRefIdeal.Read.val_main_v35, Cert.WaKRefIdeal.Read.val_main_v36, Cert.WaKRefIdeal.Read.val_main_v37, Cert.WaKRefIdeal.Read.val_main_v38, Cert.WaKRefIdeal.Read.val_main_v39]

/-! The reference at a lane. -/

section ref
variable (x0 : FVec Ideal S16384x2048 .bf16) (x1 : FVec Ideal S2048x13824 .f32) (x2 : FVec Ideal S128 .f32)
  (p : Fin 16384) (h : Fin 2)

/-- Lane `d` of the reference's head `h` at the token `p`, before the turn. -/
def head (d : Fin 128) : EReal :=
  hnorm (fun j => Cert.WaKRefIdeal.Read.val_main_v3 (F := Ideal) x0 x1 (ix2 p (⟨128 * h.val + j.val, by omega⟩ : Fin 256))) d * x2 (ix1 d)

theorem head_at (d : Fin 128) : Cert.WaKRefIdeal.Read.val_main_v18 (F := Ideal) x0 x1 x2 (ix3 p h d) = head x0 x1 x2 p h d := by
  pointwise [Cert.WaKRefIdeal.Read.val_main_v18, Cert.WaKRefIdeal.Read.val_main_v17, Cert.WaKRefIdeal.Read.val_main_v16, Cert.WaKRefIdeal.Read.val_main_v15, Cert.WaKRefIdeal.Read.val_main_v14, Cert.WaKRefIdeal.Read.val_main_v13, Cert.WaKRefIdeal.Read.val_main_v12, Cert.WaKRefIdeal.Read.val_main_v11, Cert.WaKRefIdeal.Read.val_main_v10, Cert.WaKRefIdeal.Read.val_main_v9, Cert.WaKRefIdeal.Read.val_main_v8, Cert.WaKRefIdeal.Read.val_main_v7, Cert.WaKRefIdeal.Read.val_main_v6, Cert.WaKRefIdeal.Read.val_main_v5, Cert.WaKRefIdeal.Read.val_main_cst, Cert.WaKRefIdeal.Read.val_main_cst_0, Cert.WaKRefIdeal.Read.val_main_cst_1]
  simp only [Nat.mul_comm h.val 128]
  rfl

theorem half_fst (a : Fin 2) (f : Fin 32) :
    Cert.WaKRefIdeal.Read.val_main_v67 (F := Ideal) x0 x1 x2 (ix2 p (⟨128 * h.val + (64 * a.val + f.val), by omega⟩ : Fin 256))
      = Cert.WaKRefIdeal.Read.val_main_v56 (F := Ideal) x0 x1 x2 (ix4 p h a f) := by
  match a with
  | 0 =>
    pointwise [Cert.WaKRefIdeal.Read.val_main_v67, Cert.WaKRefIdeal.Read.val_main_v66, Cert.WaKRefIdeal.Read.val_main_v65, Cert.WaKRefIdeal.Read.val_main_v64, Cert.WaKRefIdeal.Read.val_main_v63, Cert.WaKRefIdeal.Read.val_main_v62]
    rw [dif_pos (by omega)]
    exact congrArg (fun q : Fin 2 => (Cert.WaKRefIdeal.Read.val_main_v56 (F := Ideal) x0 x1 x2 (ix4 p h q f) : EReal)) (Fin.ext (by show (128 * h.val + f.val) / 64 % 2 = 0; omega))
  | 1 =>
    pointwise [Cert.WaKRefIdeal.Read.val_main_v67, Cert.WaKRefIdeal.Read.val_main_v66, Cert.WaKRefIdeal.Read.val_main_v65, Cert.WaKRefIdeal.Read.val_main_v64, Cert.WaKRefIdeal.Read.val_main_v63, Cert.WaKRefIdeal.Read.val_main_v62]
    rw [dif_pos (by omega)]
    exact congrArg (fun q : Fin 2 => (Cert.WaKRefIdeal.Read.val_main_v56 (F := Ideal) x0 x1 x2 (ix4 p h q f) : EReal)) (Fin.ext (by show (128 * h.val + (64 + f.val)) / 64 % 2 = 1; omega))

theorem ref_fst (a : Fin 2) (f : Fin 32) :
    Cert.WaKRefIdeal.Read.val_main_v67 (F := Ideal) x0 x1 x2 (ix2 p (⟨128 * h.val + (64 * a.val + f.val), by omega⟩ : Fin 256))
      = (head x0 x1 x2 p h (⟨64 * a.val + f.val, by omega⟩ : Fin 128) * Ideal.cos (ang p a f) - head x0 x1 x2 p h (⟨64 * a.val + 32 + f.val, by omega⟩ : Fin 128) * Ideal.sin (ang p a f)) := by
  rw [half_fst, ← head_at, ← head_at]
  match a with
  | 0 =>
    pointwise [Cert.WaKRefIdeal.Read.val_main_v56, Cert.WaKRefIdeal.Read.val_main_v55, Cert.WaKRefIdeal.Read.val_main_v54, Cert.WaKRefIdeal.Read.val_main_v53, Cert.WaKRefIdeal.Read.val_main_v52, Cert.WaKRefIdeal.Read.val_main_v51, Cert.WaKRefIdeal.Read.val_main_v50, Cert.WaKRefIdeal.Read.val_main_v49, Cert.WaKRefIdeal.Read.val_main_v48, Cert.WaKRefIdeal.Read.val_main_v47, Cert.WaKRefIdeal.Read.val_main_v46, Cert.WaKRefIdeal.Read.val_main_v45, Cert.WaKRefIdeal.Read.val_main_v44, Cert.WaKRefIdeal.Read.val_main_v43, Cert.WaKRefIdeal.Read.val_main_v42, Cert.WaKRefIdeal.Read.val_main_v41, Cert.WaKRefIdeal.Read.val_main_v40]
    rfl
  | 1 =>
    pointwise [Cert.WaKRefIdeal.Read.val_main_v56, Cert.WaKRefIdeal.Read.val_main_v55, Cert.WaKRefIdeal.Read.val_main_v54, Cert.WaKRefIdeal.Read.val_main_v53, Cert.WaKRefIdeal.Read.val_main_v52, Cert.WaKRefIdeal.Read.val_main_v51, Cert.WaKRefIdeal.Read.val_main_v50, Cert.WaKRefIdeal.Read.val_main_v49, Cert.WaKRefIdeal.Read.val_main_v48, Cert.WaKRefIdeal.Read.val_main_v47, Cert.WaKRefIdeal.Read.val_main_v46, Cert.WaKRefIdeal.Read.val_main_v45, Cert.WaKRefIdeal.Read.val_main_v44, Cert.WaKRefIdeal.Read.val_main_v43, Cert.WaKRefIdeal.Read.val_main_v42, Cert.WaKRefIdeal.Read.val_main_v41, Cert.WaKRefIdeal.Read.val_main_v40]
    rfl

theorem half_snd (a : Fin 2) (f : Fin 32) :
    Cert.WaKRefIdeal.Read.val_main_v67 (F := Ideal) x0 x1 x2 (ix2 p (⟨128 * h.val + (64 * a.val + 32 + f.val), by omega⟩ : Fin 256))
      = Cert.WaKRefIdeal.Read.val_main_v61 (F := Ideal) x0 x1 x2 (ix4 p h a f) := by
  match a with
  | 0 =>
    pointwise [Cert.WaKRefIdeal.Read.val_main_v67, Cert.WaKRefIdeal.Read.val_main_v66, Cert.WaKRefIdeal.Read.val_main_v65, Cert.WaKRefIdeal.Read.val_main_v64, Cert.WaKRefIdeal.Read.val_main_v63, Cert.WaKRefIdeal.Read.val_main_v62]
    rw [dif_neg (by omega)]
    exact congrArg (fun q : Fin 2 => (Cert.WaKRefIdeal.Read.val_main_v61 (F := Ideal) x0 x1 x2 (ix4 p h q f) : EReal)) (Fin.ext (by show (128 * h.val + (32 + f.val)) / 64 % 2 = 0; omega))
  | 1 =>
    pointwise [Cert.WaKRefIdeal.Read.val_main_v67, Cert.WaKRefIdeal.Read.val_main_v66, Cert.WaKRefIdeal.Read.val_main_v65, Cert.WaKRefIdeal.Read.val_main_v64, Cert.WaKRefIdeal.Read.val_main_v63, Cert.WaKRefIdeal.Read.val_main_v62]
    rw [dif_neg (by omega)]
    exact congrArg (fun q : Fin 2 => (Cert.WaKRefIdeal.Read.val_main_v61 (F := Ideal) x0 x1 x2 (ix4 p h q f) : EReal)) (Fin.ext (by show (128 * h.val + (96 + f.val)) / 64 % 2 = 1; omega))

theorem ref_snd (a : Fin 2) (f : Fin 32) :
    Cert.WaKRefIdeal.Read.val_main_v67 (F := Ideal) x0 x1 x2 (ix2 p (⟨128 * h.val + (64 * a.val + 32 + f.val), by omega⟩ : Fin 256))
      = (head x0 x1 x2 p h (⟨64 * a.val + 32 + f.val, by omega⟩ : Fin 128) * Ideal.cos (ang p a f) + head x0 x1 x2 p h (⟨64 * a.val + f.val, by omega⟩ : Fin 128) * Ideal.sin (ang p a f)) := by
  rw [half_snd, ← head_at, ← head_at]
  match a with
  | 0 =>
    pointwise [Cert.WaKRefIdeal.Read.val_main_v61, Cert.WaKRefIdeal.Read.val_main_v60, Cert.WaKRefIdeal.Read.val_main_v59, Cert.WaKRefIdeal.Read.val_main_v58, Cert.WaKRefIdeal.Read.val_main_v57, Cert.WaKRefIdeal.Read.val_main_v52, Cert.WaKRefIdeal.Read.val_main_v51, Cert.WaKRefIdeal.Read.val_main_v50, Cert.WaKRefIdeal.Read.val_main_v49, Cert.WaKRefIdeal.Read.val_main_v48, Cert.WaKRefIdeal.Read.val_main_v47, Cert.WaKRefIdeal.Read.val_main_v46, Cert.WaKRefIdeal.Read.val_main_v45, Cert.WaKRefIdeal.Read.val_main_v44, Cert.WaKRefIdeal.Read.val_main_v43, Cert.WaKRefIdeal.Read.val_main_v42, Cert.WaKRefIdeal.Read.val_main_v41, Cert.WaKRefIdeal.Read.val_main_v40]
    rfl
  | 1 =>
    pointwise [Cert.WaKRefIdeal.Read.val_main_v61, Cert.WaKRefIdeal.Read.val_main_v60, Cert.WaKRefIdeal.Read.val_main_v59, Cert.WaKRefIdeal.Read.val_main_v58, Cert.WaKRefIdeal.Read.val_main_v57, Cert.WaKRefIdeal.Read.val_main_v52, Cert.WaKRefIdeal.Read.val_main_v51, Cert.WaKRefIdeal.Read.val_main_v50, Cert.WaKRefIdeal.Read.val_main_v49, Cert.WaKRefIdeal.Read.val_main_v48, Cert.WaKRefIdeal.Read.val_main_v47, Cert.WaKRefIdeal.Read.val_main_v46, Cert.WaKRefIdeal.Read.val_main_v45, Cert.WaKRefIdeal.Read.val_main_v44, Cert.WaKRefIdeal.Read.val_main_v43, Cert.WaKRefIdeal.Read.val_main_v42, Cert.WaKRefIdeal.Read.val_main_v41, Cert.WaKRefIdeal.Read.val_main_v40]
    rfl

end ref

/-- Every window's block index at every grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0] :=
  (by decide +kernel : ∀ t : Fin grid0.N, _)

/-! The loads of whole blocks. -/

theorem zeros : (![0, 0] : Fin 2 → Nat) = fun _ => 0 := by funext a; match a with | ⟨0, _⟩ => rfl | ⟨1, _⟩ => rfl

theorem prod_eq (x0 : Vec Ideal S1024x2048 .bf16) (x1 : Vec Ideal S2048x256 .bf16) (x2 : Vec Ideal S1x128 .f32) (x3 x4 : Vec Ideal S1024x128 .f32) :
    k0_pay16 x0 x1 x2 x3 x4 = k0_pay2 x0 x1 :=
  congrArg₂ k0_pay2 (View.ld_unit_zero (S := S1024x2048) zeros _ x0) (View.ld_unit_zero (S := S2048x256) zeros _ x1)

theorem gain_eq (x0 : Vec Ideal S1024x2048 .bf16) (x1 : Vec Ideal S2048x256 .bf16) (x2 : Vec Ideal S1x128 .f32) (x3 x4 : Vec Ideal S1024x128 .f32) :
    k0_pay17 x0 x1 x2 x3 x4 = k0_pay3 x2 :=
  congrArg k0_pay3 (View.ld_unit_zero (S := S1x128) zeros _ x2)

/-! The two stores: one head each. -/

section heads
variable (v3 : FVec Ideal S1024x256 .f32) (v7 : FVec Ideal S1x128 .f32)
  (v0 : Vec Ideal S1024x2048 .bf16) (v1 : Vec Ideal S2048x256 .bf16) (v4 : Vec Ideal S1x128 .f32)
  (u w : Vec Ideal S1024x128 .f32) (r : Fin 1024) (d : Fin 128)

theorem store0 : k0_pay9 (k0_pay4 v0 v1 v4) (k0_pay5 v0 v1 v4 u) k0_pay6 k0_pay7 k0_pay8 w (ix2 r d)
    = turn (fun l => hnorm (fun j => (k0_pay2 v0 v1) (ix2 r (⟨0 + j.val, by omega⟩ : Fin 256))) l * (k0_pay3 v4) (ix2 0 l)) (u (ix2 r d)) (w (ix2 r d)) d := by
  unfold k0_pay5 k0_pay4
  generalize k0_pay2 v0 v1 = v3
  generalize k0_pay3 v4 = v7
  pointwise [k0_pay9, k0_pay6, k0_pay7, k0_pay8]
  rfl

theorem store1 : k0_pay1 (k0_pay10 v3 v7) (k0_pay11 v3 v7 u) (Scalar.select (Scalar.cmpi .eq 64#32 0#32) 1#32 64#32) k0_pay12 k0_pay13 k0_pay14 k0_pay15 w (ix2 r d)
    = turn (fun l => hnorm (fun j => (v3) (ix2 r (⟨128 + j.val, by omega⟩ : Fin 256))) l * (v7) (ix2 0 l)) (u (ix2 r d)) (w (ix2 r d)) d := by
  pointwise [k0_pay1, k0_pay10, k0_pay11, k0_pay12, k0_pay13, k0_pay14, k0_pay15]
  rfl

end heads

section reads
variable (c : Dev nD) (t : Fin cfg0.N)

theorem weights (x : Fin 2048) (l : Fin 256) :
    (V m c main_v1 : FVec Ideal S2048x256 .bf16) (ix2 x l)
      = (m ((c : Thread nD τ).loc main_arg1) : FVec Ideal S2048x13824 .f32) (ix2 x (⟨4096 + l.val, by omega⟩ : Fin 13824)) := by
  unfold V
  after_reads_at

theorem weights_blk (x : Fin 2048) (l : Fin 256) :
    (iblk m c 1 t : Vec Ideal S2048x256 .bf16) (ix2 x l) = (V m c main_v1 : FVec Ideal S2048x256 .bf16) (ix2 x l) := by
  blk_point [iblk, idx t]

theorem gains (d : Fin 128) :
    (V m c main_v35 : FVec Ideal S1x128 .f32) (ix2 0 d) = (m ((c : Thread nD τ).loc main_arg2) : FVec Ideal S128 .f32) (ix1 d) := by
  unfold V
  after_reads_at

theorem gains_blk (d : Fin 128) :
    (iblk m c 2 t : Vec Ideal S1x128 .f32) (ix2 0 d) = (V m c main_v35 : FVec Ideal S1x128 .f32) (ix2 0 d) := by
  blk_point [iblk, idx t]

/-- The product's block. -/
theorem prod (r : Fin 1024) (l : Fin 256) (p : Fin 16384) (hp : p.val = 1024 * t.val + r.val) :
    k0_pay2 (iblk m c 0 t) (iblk m c 1 t) (ix2 r l)
      = Cert.WaKRefIdeal.Read.val_main_v3 (F := Ideal) (m ((c : Thread nD τ).loc main_arg0)) (m ((c : Thread nD τ).loc main_arg1)) (ix2 p l) := by
  pointwise [k0_pay2, Cert.WaKRefIdeal.Read.val_main_v3, Cert.WaKRefIdeal.Read.val_main_v2, Cert.WaKRefIdeal.Read.val_main_v1, Cert.WaKRefIdeal.Read.val_main_v0]
  blk_point [iblk, V, idx t]
  exact (weights_blk m c t _ _).trans (weights m c _ _)

theorem gain (x2 : FVec Ideal S128 .f32) (hx : m ((c : Thread nD τ).loc main_arg2) = x2) (d : Fin 128) :
    k0_pay3 (iblk m c 2 t) (ix2 0 d)
      = x2 (ix1 d) * Ideal.ofBits .f32 0x3F800000#32 := by
  subst hx
  pointwise [k0_pay3]
  exact (gains_blk m c t d).trans (gains m c d)

theorem cosines (r : Fin 1024) (d : Fin 128) (p : Fin 16384) (hp : p.val = 1024 * t.val + r.val) :
    (iblk m c 3 t : Vec Ideal S1024x128 .f32) (ix2 r d) = (V m c main_v27 : FVec Ideal S16384x128 .f32) (ix2 p d) := by
  blk_point [iblk, idx t]

theorem sines (r : Fin 1024) (d : Fin 128) (p : Fin 16384) (hp : p.val = 1024 * t.val + r.val) :
    (iblk m c 4 t : Vec Ideal S1024x128 .f32) (ix2 r d) = (V m c main_v34 : FVec Ideal S16384x128 .f32) (ix2 p d) := by
  blk_point [iblk, idx t]

/-- Lane `f` of the first half of axis `a`. -/
def lane0 (a : Fin 2) (f : Fin 32) : Fin 128 := ⟨64 * a.val + f.val, by omega⟩

/-- Lane `f` of the second half of axis `a`. -/
def lane1 (a : Fin 2) (f : Fin 32) : Fin 128 := ⟨64 * a.val + 32 + f.val, by omega⟩

/-- A head turned by the tables is the reference's. -/
theorem turned (x0 : FVec Ideal S16384x2048 .bf16) (x1 : FVec Ideal S2048x13824 .f32) (x2 : FVec Ideal S128 .f32)
    (p : Fin 16384) (h : Fin 2) (d : Fin 128) :
    turn (head x0 x1 x2 p h) (V m c main_v27 (ix2 p d)) (V m c main_v34 (ix2 p d)) d
      = Cert.WaKRefIdeal.Read.val_main_v67 (F := Ideal) x0 x1 x2 (ix2 p (⟨128 * h.val + d.val, by omega⟩ : Fin 256)) := by
  by_cases hd : d.val % 64 < 32
  · obtain ⟨a, f, e⟩ : ∃ (a : Fin 2) (f : Fin 32), d.val = 64 * a.val + f.val :=
      ⟨⟨d.val / 64, by omega⟩, ⟨d.val % 64, by omega⟩, by show d.val = 64 * (d.val / 64) + d.val % 64; omega⟩
    obtain rfl : d = lane0 a f := Fin.ext e
    refine Eq.trans ?_ (ref_fst x0 x1 x2 p h a f).symm
    unfold lane0
    rw [cos_fst, sin_fst, turn_fst]
  · obtain ⟨a, f, e⟩ : ∃ (a : Fin 2) (f : Fin 32), d.val = 64 * a.val + 32 + f.val :=
      ⟨⟨d.val / 64, by omega⟩, ⟨d.val % 64 - 32, by omega⟩, by show d.val = 64 * (d.val / 64) + 32 + (d.val % 64 - 32); omega⟩
    obtain rfl : d = lane1 a f := Fin.ext e
    refine Eq.trans ?_ (ref_snd x0 x1 x2 p h a f).symm
    unfold lane1
    rw [cos_snd, sin_snd, turn_snd]

/-- One head's tile at block `t`: the reference at the place it stands for. -/
theorem tile (h : Fin 2) (g : Fin 128 → Fin 256) (hg : ∀ j, (g j).val = 128 * h.val + j.val) (r : Fin 1024) (d : Fin 128) (y : S1024x256.Idx) (h0 : (y 0).val = r.val)
    (h1 : (y 1).val = 128 * h.val + d.val) :
    turn (fun l => hnorm (fun j => k0_pay2 (iblk m c 0 t) (iblk m c 1 t) (ix2 r (g j))) l * k0_pay3 (iblk m c 2 t) (ix2 0 l))
        ((iblk m c 3 t : Vec Ideal S1024x128 .f32) (ix2 r d)) ((iblk m c 4 t : Vec Ideal S1024x128 .f32) (ix2 r d)) d
      = Cert.WaKRefIdeal.Read.val_main_v67 (F := Ideal) (m ((c : Thread nD τ).loc main_arg0)) (m ((c : Thread nD τ).loc main_arg1)) (m ((c : Thread nD τ).loc main_arg2))
        (((cfg0.win 5).blk t).view.emb y) := by
  obtain rfl : g = fun j => (⟨128 * h.val + j.val, by omega⟩ : Fin 256) := funext fun j => Fin.ext (hg j)
  have ht : t.val < 16 := lt_of_lt_of_eq t.isLt (by decide)
  have hr := r.isLt
  have e0 : ((((cfg0.win 5).blk t).view.emb y) 0 : Fin 16384).val = 1024 * t.val + r.val := by
    blk_simp [idx t]; omega
  have e1 : ((((cfg0.win 5).blk t).view.emb y) 1 : Fin 256).val = 128 * h.val + d.val := by
    blk_simp [idx t]; omega
  have e : ((cfg0.win 5).blk t).view.emb y
      = ix2 (⟨1024 * t.val + r.val, by omega⟩ : Fin 16384) (⟨128 * h.val + d.val, by omega⟩ : Fin 256) := by
    funext a; match a with | ⟨0, _⟩ => exact Fin.ext e0 | ⟨1, _⟩ => exact Fin.ext e1
  rw [e, ← turned m c, cosines m c t r d (⟨1024 * t.val + r.val, by omega⟩ : Fin 16384) rfl, sines m c t r d (⟨1024 * t.val + r.val, by omega⟩ : Fin 16384) rfl]
  simp only [prod m c t r _ (⟨1024 * t.val + r.val, by omega⟩ : Fin 16384) rfl, gain m c t _ rfl]
  simp only [one_word, mul_one]
  rfl

end reads

set_option maxHeartbeats 400000 in
/-- What the body stores at block index `y` of point `t` is the reference at the place of `y` in the array. -/
theorem point (c : Dev nD) (t : Fin cfg0.N) (y) :
    out0_5 (iblk m c 0 t) (iblk m c 1 t) (iblk m c 2 t) (iblk m c 3 t) (iblk m c 4 t) y
      = Cert.WaKRefIdeal.Read.val_main_v67 (F := Ideal) (m ((c : Thread nD τ).loc main_arg0)) (m ((c : Thread nD τ).loc main_arg1)) (m ((c : Thread nD τ).loc main_arg2))
        (((cfg0.win 5).blk t).view.emb y) := by
  frame_out
  canon_tiles x h
  case piece0 =>
    idx_vars x
    rw [prod_eq, gain_eq]
    refine (store1 (k0_pay2 (iblk m c 0 t) (iblk m c 1 t)) (k0_pay3 (iblk m c 2 t)) (iblk m c 3 t) (iblk m c 4 t) _ _).trans ?_
    exact tile m c t (⟨1, by omega⟩ : Fin 2) _ (fun j => rfl) _ _ y h0 h1
  case piece1 =>
    idx_vars x
    refine (store0 (iblk m c 0 t) (iblk m c 1 t) (iblk m c 2 t) (iblk m c 3 t) (iblk m c 4 t) _ _).trans ?_
    exact tile m c t (⟨0, by omega⟩ : Fin 2) _ (fun j => by show 0 + j.val = 128 * 0 + j.val; omega) _ _ y h0 (h1.trans (Nat.zero_add _).symm)

/-- The result array after the run. -/
theorem final (c : Dev nD) : (dats m 0 c).arrAt 5 (cfgs 0).N
    = Cert.WaKRefIdeal.Read.val_main_v67 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  exact point m c t y

end Cert.WaKValue

end
-- ==== Proof.CtxIn.lean ====
/- The input projection of the context: the array the kernel leaves is the reference's product, element by element. -/
module

public import proofs.«01_k».proof.Proof.Gen.CtxInIdeal.Frame
public import proofs.«01_k».proof.Proof.Gen.CtxInIdeal.Value
public import proofs.«01_k».proof.Proof.Gen.CtxInRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CtxInValue

open Cert.CtxInIdeal Cert.CtxInIdeal.Gen

variable (m : (ℓ : Loc nD τ sig) → Buf (Elt Ideal) ℓ)

/-- Every window's block index at every grid point. -/
theorem idx : ∀ t : Fin cfg0.N, win0_0.index t = ![0, 0]
    ∧ win0_1.index t = ![0, t.val]
    ∧ win0_2.index t = ![0, t.val] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.CtxInRefIdeal.Read.val_main_v0 (F := Ideal) (m ((c : Thread nD τ).loc main_arg0)) (m ((c : Thread nD τ).loc main_arg1))
        (((cfg0.win 2).blk t).view.emb y) := by
  pointwise [k0_pay1, Cert.CtxInRefIdeal.Read.val_main_v0]
  blk_point [iblk, V, idx t]

/-- The result array after the run. -/
theorem final (c : Dev nD) : (dats m 0 c).arrAt 2 (cfgs 0).N
    = Cert.CtxInRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.CtxInValue

end
-- ==== Proof.Norm.lean ====
/- The modulated normalisation: the array the kernel leaves is the reference's, element by element. -/
module

public import proofs.«01_k».proof.Proof.Gen.NormIdeal.Frame
public import proofs.«01_k».proof.Proof.Gen.NormIdeal.Value
public import proofs.«01_k».proof.Proof.Gen.NormRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormValue

open Cert.NormIdeal Cert.NormIdeal.Gen

variable (m : (ℓ : Loc nD τ sig) → Buf (Elt Ideal) ℓ)

/-- Every window's block index at every grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![t.val, 0] :=
  (by decide +kernel : ∀ t : Fin grid0.N, _)

/-- Entry `d` of a row `z`: normalised, times the gain `g`, times one and the scale `s`, plus the shift `b`. -/
def row (z : Fin 2048 → EReal) (g s b : EReal) (d : Fin 2048) : EReal :=
  z d * Ideal.rsqrt (Ideal.div (∑ j, z j * z j) (Ideal.ofBits .f32 0x45000000#32) + Ideal.ofBits .f32 0x358637BD#32) * g
    * (1 + s) + b

/-- The body, at one entry. -/
theorem body_at (x0 : Vec Ideal S512x2048 .f32) (x1 x3 x2 : Vec Ideal S1x2048 .f32) (r : Fin 512) (d : Fin 2048) :
    k0_pay1 x0 x1 x3 x2 (ix2 r d) = row (fun j => x0 (ix2 r j)) (x1 (ix2 0 d)) (x3 (ix2 0 d)) (x2 (ix2 0 d)) d := by
  pointwise [k0_pay1]
  rfl

/-- The reference, at one entry. -/
theorem ref_at (x0 : FVec Ideal S16384x2048 .f32) (x1 x2 x3 : FVec Ideal S2048 .f32) (p : Fin 16384) (d : Fin 2048) :
    Cert.NormRefIdeal.Read.val_main_v21 (F := Ideal) x0 x1 x2 x3 (ix2 p d)
      = row (fun j => x0 (ix2 p j)) (x1 (ix1 d)) (x3 (ix1 d)) (x2 (ix1 d)) d := by
  pointwise [Cert.NormRefIdeal.Read.val_main_v21, Cert.NormRefIdeal.Read.val_main_v20, Cert.NormRefIdeal.Read.val_main_v19, Cert.NormRefIdeal.Read.val_main_v18, Cert.NormRefIdeal.Read.val_main_v17, Cert.NormRefIdeal.Read.val_main_v16, Cert.NormRefIdeal.Read.val_main_v15, Cert.NormRefIdeal.Read.val_main_v14, Cert.NormRefIdeal.Read.val_main_v13, Cert.NormRefIdeal.Read.val_main_cst_2, Cert.NormRefIdeal.Read.val_main_v12, Cert.NormRefIdeal.Read.val_main_v11, Cert.NormRefIdeal.Read.val_main_v10, Cert.NormRefIdeal.Read.val_main_v9, Cert.NormRefIdeal.Read.val_main_v8, Cert.NormRefIdeal.Read.val_main_v7, Cert.NormRefIdeal.Read.val_main_v6, Cert.NormRefIdeal.Read.val_main_v5, Cert.NormRefIdeal.Read.val_main_cst_1, Cert.NormRefIdeal.Read.val_main_v4, Cert.NormRefIdeal.Read.val_main_v3, Cert.NormRefIdeal.Read.val_main_cst_0, Cert.NormRefIdeal.Read.val_main_v2, Cert.NormRefIdeal.Read.val_main_v1, Cert.NormRefIdeal.Read.val_main_cst, Cert.NormRefIdeal.Read.val_main_v0]
  rfl

section reads
variable (c : Dev nD) (t : Fin cfg0.N)

theorem rows (r : Fin 512) (j : Fin 2048) (p : Fin 16384) (hp : p.val = 512 * t.val + r.val)
    (x : FVec Ideal S16384x2048 .f32) (hx : m ((c : Thread nD τ).loc main_arg0) = x) :
    iblk m c 0 t (ix2 r j) = x (ix2 p j) := by
  subst hx
  blk_point [iblk, V, idx t]

theorem gain (d : Fin 2048) (x : FVec Ideal S2048 .f32) (hx : m ((c : Thread nD τ).loc main_arg1) = x) :
    iblk m c 1 t (ix2 0 d) = x (ix1 d) := by
  subst hx
  blk_point [iblk, V, idx t]

theorem shift (d : Fin 2048) (x : FVec Ideal S2048 .f32) (hx : m ((c : Thread nD τ).loc main_arg2) = x) :
    iblk m c 2 t (ix2 0 d) = x (ix1 d) := by
  subst hx
  blk_point [iblk, V, idx t]

theorem scale (d : Fin 2048) (x : FVec Ideal S2048 .f32) (hx : m ((c : Thread nD τ).loc main_arg3) = x) :
    iblk m c 3 t (ix2 0 d) = x (ix1 d) := by
  subst hx
  blk_point [iblk, V, idx t]

end reads

/-- What the body stores at block index `y` of point `t` is the reference at the place of `y` in the array. -/
theorem point (c : Dev nD) (t : Fin cfg0.N) (y) :
    k0_pay1 (iblk m c 0 t) (iblk m c 1 t) (iblk m c 3 t) (iblk m c 2 t) y
      = Cert.NormRefIdeal.Read.val_main_v21 (F := Ideal) (m ((c : Thread nD τ).loc main_arg0)) (m ((c : Thread nD τ).loc main_arg1)) (m ((c : Thread nD τ).loc main_arg2)) (m ((c : Thread nD τ).loc main_arg3))
        (((cfg0.win 4).blk t).view.emb y) := by
  have ht : t.val < 32 := lt_of_lt_of_eq t.isLt (by decide)
  have e0 : ((((cfg0.win 4).blk t).view.emb y) 0 : Fin 16384).val = 512 * t.val + (y 0).val := by
    blk_simp [idx t]; omega
  have e1 : ((((cfg0.win 4).blk t).view.emb y) 1 : Fin 2048).val = (y 1).val := by
    blk_simp [idx t]
  have hr : (y 0).val < 512 := (y 0).isLt
  have e : ((cfg0.win 4).blk t).view.emb y = ix2 (⟨512 * t.val + (y 0).val, by omega⟩ : Fin 16384) (⟨(y 1).val, (y 1).isLt⟩ : Fin 2048) := by
    funext a; match a with | ⟨0, _⟩ => exact Fin.ext e0 | ⟨1, _⟩ => exact Fin.ext e1
  have ey : y = ix2 (⟨(y 0).val, hr⟩ : Fin 512) (⟨(y 1).val, (y 1).isLt⟩ : Fin 2048) := by
    funext a; match a with | ⟨0, _⟩ => rfl | ⟨1, _⟩ => rfl
  rw [e, ref_at]
  refine (congrArg _ ey).trans ?_
  rw [body_at, gain m c t _ _ rfl, shift m c t _ _ rfl, scale m c t _ _ rfl]
  exact congrArg (fun z => row z _ _ _ _) (funext fun j =>
    rows m c t _ j (⟨512 * t.val + (y 0).val, by omega⟩ : Fin 16384) rfl _ rfl)

/-- The result array after the run. -/
theorem final (c : Dev nD) : (dats m 0 c).arrAt 4 (cfgs 0).N
    = Cert.NormRefIdeal.Read.val_main_v21 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point m c t y

end Cert.NormValue

end
-- ==== Proof.CtxBranch.lean ====
/- The context's output products of the three branches: the array the kernel leaves is the reference's product, element by element. -/
module

public import proofs.«01_k».proof.Proof.Gen.CtxBranchIdeal.Frame
public import proofs.«01_k».proof.Proof.Gen.CtxBranchIdeal.Value
public import proofs.«01_k».proof.Proof.Gen.CtxBranchRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CtxBranchValue

open Cert.CtxBranchIdeal Cert.CtxBranchIdeal.Gen

variable (m : (ℓ : Loc nD τ sig) → Buf (Elt Ideal) ℓ)

/-- Every window's block index at every grid point. -/
theorem idx : ∀ t : Fin cfg0.N, win0_0.index t = ![0, 0]
    ∧ win0_1.index t = ![0, t.val]
    ∧ win0_2.index t = ![0, t.val] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.CtxBranchRefIdeal.Read.val_main_v0 (F := Ideal) (m ((c : Thread nD τ).loc main_arg0)) (m ((c : Thread nD τ).loc main_arg1))
        (((cfg0.win 2).blk t).view.emb y) := by
  pointwise [k0_pay1, Cert.CtxBranchRefIdeal.Read.val_main_v0]
  blk_point [iblk, V, idx t]

/-- The result array after the run. -/
theorem final (c : Dev nD) : (dats m 0 c).arrAt 2 (cfgs 0).N
    = Cert.CtxBranchRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.CtxBranchValue

end
-- ==== Proof.CtxOut.lean ====
/- The context's output projection: the array the kernel leaves is the reference's product, element by element. -/
module

public import proofs.«01_k».proof.Proof.Gen.CtxOutIdeal.Frame
public import proofs.«01_k».proof.Proof.Gen.CtxOutIdeal.Value
public import proofs.«01_k».proof.Proof.Gen.CtxOutRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CtxOutValue

open Cert.CtxOutIdeal Cert.CtxOutIdeal.Gen

variable (m : (ℓ : Loc nD τ sig) → Buf (Elt Ideal) ℓ)

/-- Every window's block index at every grid point. -/
theorem idx : ∀ t : Fin cfg0.N, win0_0.index t = ![0, 0]
    ∧ win0_1.index t = ![0, t.val]
    ∧ win0_2.index t = ![0, t.val] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.CtxOutRefIdeal.Read.val_main_v0 (F := Ideal) (m ((c : Thread nD τ).loc main_arg0)) (m ((c : Thread nD τ).loc main_arg1))
        (((cfg0.win 2).blk t).view.emb y) := by
  pointwise [k0_pay1, Cert.CtxOutRefIdeal.Read.val_main_v0]
  blk_point [iblk, V, idx t]

/-- The result array after the run. -/
theorem final (c : Dev nD) : (dats m 0 c).arrAt 2 (cfgs 0).N
    = Cert.CtxOutRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.CtxOutValue

end
-- ==== Proof.CtxExpert.lean ====
/- The gate and the up product of the experts on the context's tokens: the array the kernel leaves is the reference's product, element by element. -/
module

public import proofs.«01_k».proof.Proof.Gen.CtxExpertIdeal.Frame
public import proofs.«01_k».proof.Proof.Gen.CtxExpertIdeal.Value
public import proofs.«01_k».proof.Proof.Gen.CtxExpertRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CtxExpertValue

open Cert.CtxExpertIdeal Cert.CtxExpertIdeal.Gen

variable (m : (ℓ : Loc nD τ sig) → Buf (Elt Ideal) ℓ)

/-- Every window's block index at every grid point. -/
theorem idx : ∀ t : Fin cfg0.N, win0_0.index t = ![t.val, 0, 0]
    ∧ win0_1.index t = ![t.val, 0, 0]
    ∧ win0_2.index t = ![t.val, 0, 0] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.CtxExpertRefIdeal.Read.val_main_v0 (F := Ideal) (m ((c : Thread nD τ).loc main_arg0)) (m ((c : Thread nD τ).loc main_arg1))
        (((cfg0.win 2).blk t).view.emb y) := by
  pointwise [k0_pay1, Cert.CtxExpertRefIdeal.Read.val_main_v0]
  blk_point [iblk, V, idx t]

/-- The result array after the run. -/
theorem final (c : Dev nD) : (dats m 0 c).arrAt 2 (cfgs 0).N
    = Cert.CtxExpertRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.CtxExpertValue

end
-- ==== Proof.CtxDown.lean ====
/- The down product of the experts on the context's tokens: the array the kernel leaves is the reference's product, element by element. -/
module

public import proofs.«01_k».proof.Proof.Gen.CtxDownIdeal.Frame
public import proofs.«01_k».proof.Proof.Gen.CtxDownIdeal.Value
public import proofs.«01_k».proof.Proof.Gen.CtxDownRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CtxDownValue

open Cert.CtxDownIdeal Cert.CtxDownIdeal.Gen

variable (m : (ℓ : Loc nD τ sig) → Buf (Elt Ideal) ℓ)

/-- Every window's block index at every grid point. -/
theorem idx : ∀ t : Fin cfg0.N, win0_0.index t = ![t.val / 2, 0, 0]
    ∧ win0_1.index t = ![t.val / 2, 0, t.val % 2]
    ∧ win0_2.index t = ![t.val / 2, 0, t.val % 2] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.CtxDownRefIdeal.Read.val_main_v0 (F := Ideal) (m ((c : Thread nD τ).loc main_arg0)) (m ((c : Thread nD τ).loc main_arg1))
        (((cfg0.win 2).blk t).view.emb y) := by
  pointwise [k0_pay1, Cert.CtxDownRefIdeal.Read.val_main_v0]
  blk_point [iblk, V, idx t]

/-- The result array after the run. -/
theorem final (c : Dev nD) : (dats m 0 c).arrAt 2 (cfgs 0).N
    = Cert.CtxDownRefIdeal.Read.val_main_v0 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.CtxDownValue

end
-- ==== Proof.CtxWaKV.lean ====
/- The context's keys and values for the windowed attention: the array the kernel leaves is the reference's product, element by element. -/
module

public import proofs.«01_k».proof.Proof.Gen.CtxWaKVIdeal.Frame
public import proofs.«01_k».proof.Proof.Gen.CtxWaKVIdeal.Value
public import proofs.«01_k».proof.Proof.Gen.CtxWaKVRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CtxWaKVValue

open Cert.CtxWaKVIdeal Cert.CtxWaKVIdeal.Gen

variable (m : (ℓ : Loc nD τ sig) → Buf (Elt Ideal) ℓ)

/-- Every window's block index at every grid point. -/
theorem idx : ∀ t : Fin cfg0.N, win0_0.index t = ![0, 0]
    ∧ win0_1.index t = ![0, t.val]
    ∧ win0_2.index t = ![0, t.val] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.CtxWaKVRefIdeal.Read.val_main_v1 (F := Ideal) (m ((c : Thread nD τ).loc main_arg0)) (m ((c : Thread nD τ).loc main_arg1))
        (((cfg0.win 2).blk t).view.emb y) := by
  pointwise [k0_pay1, Cert.CtxWaKVRefIdeal.Read.val_main_v1, Cert.CtxWaKVRefIdeal.Read.val_main_v0]
  blk_point [iblk, V, idx t]

/-- The result array after the run. -/
theorem final (c : Dev nD) : (dats m 0 c).arrAt 2 (cfgs 0).N
    = Cert.CtxWaKVRefIdeal.Read.val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.CtxWaKVValue

end
-- ==== Proof.CtxNaKV.lean ====
/- The context's keys and values for the neighbourhood attention: the array the kernel leaves is the reference's product, element by element. -/
module

public import proofs.«01_k».proof.Proof.Gen.CtxNaKVIdeal.Frame
public import proofs.«01_k».proof.Proof.Gen.CtxNaKVIdeal.Value
public import proofs.«01_k».proof.Proof.Gen.CtxNaKVRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CtxNaKVValue

open Cert.CtxNaKVIdeal Cert.CtxNaKVIdeal.Gen

variable (m : (ℓ : Loc nD τ sig) → Buf (Elt Ideal) ℓ)

/-- Every window's block index at every grid point. -/
theorem idx : ∀ t : Fin cfg0.N, win0_0.index t = ![0, 0]
    ∧ win0_1.index t = ![0, t.val]
    ∧ win0_2.index t = ![0, t.val] :=
  (by decide +kernel : ∀ t : Fin grid0.N, _)

/-- What the body stores at block index `y` of point `t` is the reference at the place of `y` in the array. -/
theorem point (c : Dev nD) (t : Fin cfg0.N) (y) :
    k0_pay1 (iblk m c 0 t) (iblk m c 1 t) y
      = Cert.CtxNaKVRefIdeal.Read.val_main_v1 (F := Ideal) (m ((c : Thread nD τ).loc main_arg0)) (m ((c : Thread nD τ).loc main_arg1))
        (((cfg0.win 2).blk t).view.emb y) := by
  pointwise [k0_pay1, Cert.CtxNaKVRefIdeal.Read.val_main_v1, Cert.CtxNaKVRefIdeal.Read.val_main_v0]
  blk_point [iblk, V, idx t]

/-- The result array after the run. -/
theorem final (c : Dev nD) : (dats m 0 c).arrAt 2 (cfgs 0).N
    = Cert.CtxNaKVRefIdeal.Read.val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.CtxNaKVValue

end
-- ==== Proof.lean ====
/- The certificate: every program runs and leaves its arguments as they were, and every call's result is its reference's. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_scores
public import proofs.«01_k».proof.Proof.Wa.Claim
public import proofs.«01_k».proof.Proof.Gen.Expert.Frame
public import proofs.«01_k».proof.Proof.Gen.ExpertIdeal.Frame
public import proofs.«01_k».proof.Proof.Gen.ExpertIdeal.Value
public import proofs.«01_k».proof.Proof.Gen.ExpertRefIdeal.Run
public import proofs.«01_k».proof.Proof.Gen.ExpertRefIdeal.Read
public import proofs.«01_k».proof.Proof.Expert
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Down
public import proofs.«01_k».proof.Proof.Gen.Branch.Frame
public import proofs.«01_k».proof.Proof.Gen.BranchIdeal.Frame
public import proofs.«01_k».proof.Proof.Gen.BranchIdeal.Value
public import proofs.«01_k».proof.Proof.Gen.BranchRefIdeal.Run
public import proofs.«01_k».proof.Proof.Gen.BranchRefIdeal.Read
public import proofs.«01_k».proof.Proof.Branch
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutProj
public import proofs.«01_k».proof.Proof.Gen.Hyena.Frame
public import proofs.«01_k».proof.Proof.Gen.HyenaIdeal.Frame
public import proofs.«01_k».proof.Proof.Gen.HyenaIdeal.Value
public import proofs.«01_k».proof.Proof.Gen.HyenaRefIdeal.Run
public import proofs.«01_k».proof.Proof.Gen.HyenaRefIdeal.Read
public import proofs.«01_k».proof.Proof.Hyena
public import proofs.«01_k».proof.Proof.Gen.Gates.Frame
public import proofs.«01_k».proof.Proof.Gen.GatesIdeal.Frame
public import proofs.«01_k».proof.Proof.Gen.GatesIdeal.Value
public import proofs.«01_k».proof.Proof.Gen.GatesRefIdeal.Run
public import proofs.«01_k».proof.Proof.Gen.GatesRefIdeal.Read
public import proofs.«01_k».proof.Proof.Gates
public import proofs.«01_k».proof.Proof.Gen.NaV.Frame
public import proofs.«01_k».proof.Proof.Gen.NaVIdeal.Frame
public import proofs.«01_k».proof.Proof.Gen.NaVIdeal.Value
public import proofs.«01_k».proof.Proof.Gen.NaVRefIdeal.Run
public import proofs.«01_k».proof.Proof.Gen.NaVRefIdeal.Read
public import proofs.«01_k».proof.Proof.NaV
public import proofs.«01_k».proof.Proof.Gen.WaV.Frame
public import proofs.«01_k».proof.Proof.Gen.WaVIdeal.Frame
public import proofs.«01_k».proof.Proof.Gen.WaVIdeal.Value
public import proofs.«01_k».proof.Proof.Gen.WaVRefIdeal.Run
public import proofs.«01_k».proof.Proof.Gen.WaVRefIdeal.Read
public import proofs.«01_k».proof.Proof.WaV
public import proofs.«01_k».proof.Proof.Gen.NaQ.Frame
public import proofs.«01_k».proof.Proof.Gen.NaQIdeal.Frame
public import proofs.«01_k».proof.Proof.Gen.NaQIdeal.Value
public import proofs.«01_k».proof.Proof.Gen.NaQRefIdeal.Run
public import proofs.«01_k».proof.Proof.Gen.NaQRefIdeal.Read
public import proofs.«01_k».proof.Proof.NaQ
public import proofs.«01_k».proof.Proof.Gen.NaK.Frame
public import proofs.«01_k».proof.Proof.Gen.NaKIdeal.Frame
public import proofs.«01_k».proof.Proof.Gen.NaKIdeal.Value
public import proofs.«01_k».proof.Proof.Gen.NaKRefIdeal.Run
public import proofs.«01_k».proof.Proof.Gen.NaKRefIdeal.Read
public import proofs.«01_k».proof.Proof.NaK
public import proofs.«01_k».proof.Proof.Gen.WaQ.Frame
public import proofs.«01_k».proof.Proof.Gen.WaQIdeal.Frame
public import proofs.«01_k».proof.Proof.Gen.WaQIdeal.Value
public import proofs.«01_k».proof.Proof.Gen.WaQRefIdeal.Run
public import proofs.«01_k».proof.Proof.Gen.WaQRefIdeal.Read
public import proofs.«01_k».proof.Proof.WaQ
public import proofs.«01_k».proof.Proof.Gen.WaK.Frame
public import proofs.«01_k».proof.Proof.Gen.WaKIdeal.Frame
public import proofs.«01_k».proof.Proof.Gen.WaKIdeal.Value
public import proofs.«01_k».proof.Proof.Gen.WaKRefIdeal.Run
public import proofs.«01_k».proof.Proof.Gen.WaKRefIdeal.Read
public import proofs.«01_k».proof.Proof.WaK
public import proofs.«01_k».proof.Proof.Gen.CtxIn.Frame
public import proofs.«01_k».proof.Proof.Gen.CtxInIdeal.Frame
public import proofs.«01_k».proof.Proof.Gen.CtxInIdeal.Value
public import proofs.«01_k».proof.Proof.Gen.CtxInRefIdeal.Run
public import proofs.«01_k».proof.Proof.Gen.CtxInRefIdeal.Read
public import proofs.«01_k».proof.Proof.CtxIn
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.NormRefIdeal.Read
public import proofs.«01_k».proof.Proof.Norm
public import proofs.«01_k».proof.Proof.Gen.CtxBranch.Frame
public import proofs.«01_k».proof.Proof.Gen.CtxBranchIdeal.Frame
public import proofs.«01_k».proof.Proof.Gen.CtxBranchIdeal.Value
public import proofs.«01_k».proof.Proof.Gen.CtxBranchRefIdeal.Run
public import proofs.«01_k».proof.Proof.Gen.CtxBranchRefIdeal.Read
public import proofs.«01_k».proof.Proof.CtxBranch
public import proofs.«01_k».proof.Proof.Gen.CtxOut.Frame
public import proofs.«01_k».proof.Proof.Gen.CtxOutIdeal.Frame
public import proofs.«01_k».proof.Proof.Gen.CtxOutIdeal.Value
public import proofs.«01_k».proof.Proof.Gen.CtxOutRefIdeal.Run
public import proofs.«01_k».proof.Proof.Gen.CtxOutRefIdeal.Read
public import proofs.«01_k».proof.Proof.CtxOut
public import proofs.«01_k».proof.Proof.Gen.CtxExpert.Frame
public import proofs.«01_k».proof.Proof.Gen.CtxExpertIdeal.Frame
public import proofs.«01_k».proof.Proof.Gen.CtxExpertIdeal.Value
public import proofs.«01_k».proof.Proof.Gen.CtxExpertRefIdeal.Run
public import proofs.«01_k».proof.Proof.Gen.CtxExpertRefIdeal.Read
public import proofs.«01_k».proof.Proof.CtxExpert
public import proofs.«01_k».proof.Proof.Gen.CtxDown.Frame
public import proofs.«01_k».proof.Proof.Gen.CtxDownIdeal.Frame
public import proofs.«01_k».proof.Proof.Gen.CtxDownIdeal.Value
public import proofs.«01_k».proof.Proof.Gen.CtxDownRefIdeal.Run
public import proofs.«01_k».proof.Proof.Gen.CtxDownRefIdeal.Read
public import proofs.«01_k».proof.Proof.CtxDown
public import proofs.«01_k».proof.Proof.Gen.CtxWaKV.Frame
public import proofs.«01_k».proof.Proof.Gen.CtxWaKVIdeal.Frame
public import proofs.«01_k».proof.Proof.Gen.CtxWaKVIdeal.Value
public import proofs.«01_k».proof.Proof.Gen.CtxWaKVRefIdeal.Run
public import proofs.«01_k».proof.Proof.Gen.CtxWaKVRefIdeal.Read
public import proofs.«01_k».proof.Proof.CtxWaKV
public import proofs.«01_k».proof.Proof.Gen.CtxNaKV.Frame
public import proofs.«01_k».proof.Proof.Gen.CtxNaKVIdeal.Frame
public import proofs.«01_k».proof.Proof.Gen.CtxNaKVIdeal.Value
public import proofs.«01_k».proof.Proof.Gen.CtxNaKVRefIdeal.Run
public import proofs.«01_k».proof.Proof.Gen.CtxNaKVRefIdeal.Read
public import proofs.«01_k».proof.Proof.CtxNaKV
public import Idealize.ShloMosaic.Lib.Claim
public import Idealize.ShloMosaic.Lib.Pointwise
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem

namespace Cert.Proof

theorem Ref.WA : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

theorem Ref.WA_pre : Cert.quiescent_ReferenceIdeal_pre_finite_scores := by
  intro m g _
  exact (θ_run Cert.ReferenceIdeal.defs _ _).mono (fun r h => ⟨fun c => (h c).2, sem_eq_zero_of_no_sems (by decide) r.2⟩)
    (Cert.ReferenceIdeal.Value.run m g)

theorem Ref.Expert : Cert.quiescent_ExpertRefIdeal := by
  intro m g _
  exact (θ_run Cert.ExpertRefIdeal.defs _ _).mono (fun r h => ⟨fun c => (h c).2, sem_eq_zero_of_no_sems (by decide) r.2⟩)
    (Cert.ExpertRefIdeal.Value.run m g)

theorem Value.Expert : Cert.algebraic_ExpertIdeal_ExpertRefIdeal := by
  pair_intro
  · run_from Cert.ExpertIdeal.Gen.run_main m g
  · run_from Cert.ExpertRefIdeal.Value.run m' g'
    exact (Cert.ExpertValue.final m c).symm

theorem Ref.Down : Cert.quiescent_DownRefIdeal := by
  intro m g _
  exact (θ_run Cert.DownRefIdeal.defs _ _).mono (fun r h => ⟨fun c => (h c).2, sem_eq_zero_of_no_sems (by decide) r.2⟩)
    (Cert.DownRefIdeal.Value.run m g)

theorem Value.Down : Cert.algebraic_DownIdeal_DownRefIdeal := by
  pair_intro
  · run_from Cert.DownIdeal.Gen.run_main m g
  · run_from Cert.DownRefIdeal.Value.run m' g'
    exact (Cert.DownValue.final m c).symm

theorem Ref.Branch : Cert.quiescent_BranchRefIdeal := by
  intro m g _
  exact (θ_run Cert.BranchRefIdeal.defs _ _).mono (fun r h => ⟨fun c => (h c).2, sem_eq_zero_of_no_sems (by decide) r.2⟩)
    (Cert.BranchRefIdeal.Value.run m g)

theorem Value.Branch : Cert.algebraic_BranchIdeal_BranchRefIdeal := by
  pair_intro
  · run_from Cert.BranchIdeal.Gen.run_main m g
  · run_from Cert.BranchRefIdeal.Value.run m' g'
    exact (Cert.BranchValue.final m c).symm

theorem Ref.OutProj : Cert.quiescent_OutProjRefIdeal := by
  intro m g _
  exact (θ_run Cert.OutProjRefIdeal.defs _ _).mono (fun r h => ⟨fun c => (h c).2, sem_eq_zero_of_no_sems (by decide) r.2⟩)
    (Cert.OutProjRefIdeal.Value.run m g)

theorem Value.OutProj : Cert.algebraic_OutProjIdeal_OutProjRefIdeal := by
  pair_intro
  · run_from Cert.OutProjIdeal.Gen.run_main m g
  · run_from Cert.OutProjRefIdeal.Value.run m' g'
    exact (Cert.OutProjValue.final m c).symm

theorem Ref.Hyena : Cert.quiescent_HyenaRefIdeal := by
  intro m g _
  exact (θ_run Cert.HyenaRefIdeal.defs _ _).mono (fun r h => ⟨fun c => (h c).2, sem_eq_zero_of_no_sems (by decide) r.2⟩)
    (Cert.HyenaRefIdeal.Value.run m g)

theorem Value.Hyena : Cert.algebraic_HyenaIdeal_HyenaRefIdeal := by
  pair_intro
  · run_from Cert.HyenaIdeal.Gen.run_main m g
  · run_from Cert.HyenaRefIdeal.Value.run m' g'
    exact (Cert.HyenaValue.final m c).symm

theorem Ref.Gates : Cert.quiescent_GatesRefIdeal := by
  intro m g _
  exact (θ_run Cert.GatesRefIdeal.defs _ _).mono (fun r h => ⟨fun c => (h c).2, sem_eq_zero_of_no_sems (by decide) r.2⟩)
    (Cert.GatesRefIdeal.Value.run m g)

theorem Value.Gates : Cert.algebraic_GatesIdeal_GatesRefIdeal := by
  pair_intro
  · run_from Cert.GatesIdeal.Gen.run_main m g
  · run_from Cert.GatesRefIdeal.Value.run m' g'
    exact (Cert.GatesValue.final m c).symm

theorem Ref.NaV : Cert.quiescent_NaVRefIdeal := by
  intro m g _
  exact (θ_run Cert.NaVRefIdeal.defs _ _).mono (fun r h => ⟨fun c => (h c).2, sem_eq_zero_of_no_sems (by decide) r.2⟩)
    (Cert.NaVRefIdeal.Value.run m g)

theorem Value.NaV : Cert.algebraic_NaVIdeal_NaVRefIdeal := by
  pair_intro
  · run_from Cert.NaVIdeal.Gen.run_main m g
  · run_from Cert.NaVRefIdeal.Value.run m' g'
    exact (Cert.NaVValue.final m c).symm

theorem Ref.WaV : Cert.quiescent_WaVRefIdeal := by
  intro m g _
  exact (θ_run Cert.WaVRefIdeal.defs _ _).mono (fun r h => ⟨fun c => (h c).2, sem_eq_zero_of_no_sems (by decide) r.2⟩)
    (Cert.WaVRefIdeal.Value.run m g)

theorem Value.WaV : Cert.algebraic_WaVIdeal_WaVRefIdeal := by
  pair_intro
  · run_from Cert.WaVIdeal.Gen.run_main m g
  · run_from Cert.WaVRefIdeal.Value.run m' g'
    exact (Cert.WaVValue.final m c).symm

theorem Ref.NaQ : Cert.quiescent_NaQRefIdeal := by
  intro m g _
  exact (θ_run Cert.NaQRefIdeal.defs _ _).mono (fun r h => ⟨fun c => (h c).2, sem_eq_zero_of_no_sems (by decide) r.2⟩)
    (Cert.NaQRefIdeal.Value.run m g)

theorem Value.NaQ : Cert.algebraic_NaQIdeal_NaQRefIdeal := by
  pair_intro
  · run_from Cert.NaQIdeal.Gen.run_main m g
  · run_from Cert.NaQRefIdeal.Value.run m' g'
    exact (Cert.NaQValue.final m c).symm

theorem Ref.NaK : Cert.quiescent_NaKRefIdeal := by
  intro m g _
  exact (θ_run Cert.NaKRefIdeal.defs _ _).mono (fun r h => ⟨fun c => (h c).2, sem_eq_zero_of_no_sems (by decide) r.2⟩)
    (Cert.NaKRefIdeal.Value.run m g)

theorem Value.NaK : Cert.algebraic_NaKIdeal_NaKRefIdeal := by
  pair_intro
  · run_from Cert.NaKIdeal.Gen.run_main m g
  · run_from Cert.NaKRefIdeal.Value.run m' g'
    exact (Cert.NaKValue.final m c).symm

theorem Ref.WaQ : Cert.quiescent_WaQRefIdeal := by
  intro m g _
  exact (θ_run Cert.WaQRefIdeal.defs _ _).mono (fun r h => ⟨fun c => (h c).2, sem_eq_zero_of_no_sems (by decide) r.2⟩)
    (Cert.WaQRefIdeal.Value.run m g)

/-- The reference's run, its result named. -/
theorem Run.WaQ (m : (ℓ : Loc Cert.WaQRefIdeal.nD Cert.WaQRefIdeal.τ Cert.WaQRefIdeal.sig) → Buf (Elt Ideal) ℓ) (g : Dev Cert.WaQRefIdeal.nD → PrngReg) :
    θ_run Cert.WaQRefIdeal.defs (onTc (τ := Cert.WaQRefIdeal.τ) (Cert.WaQRefIdeal.main (F := Ideal))) ⟨m, fun _ => 0, g⟩ fun x => ∀ c : Dev Cert.WaQRefIdeal.nD,
      x.2.mem ((c.tc : Thread Cert.WaQRefIdeal.nD Cert.WaQRefIdeal.τ).loc Cert.WaQRefIdeal.main_v67)
          = Cert.WaQRefIdeal.Read.val_main_v67 (F := Ideal) (m ((c.tc : Thread Cert.WaQRefIdeal.nD Cert.WaQRefIdeal.τ).loc Cert.WaQRefIdeal.main_arg0))
              (m ((c.tc : Thread Cert.WaQRefIdeal.nD Cert.WaQRefIdeal.τ).loc Cert.WaQRefIdeal.main_arg1)) (m ((c.tc : Thread Cert.WaQRefIdeal.nD Cert.WaQRefIdeal.τ).loc Cert.WaQRefIdeal.main_arg2))
      ∧ x.2.mem ((c.tc : Thread Cert.WaQRefIdeal.nD Cert.WaQRefIdeal.τ).loc Cert.WaQRefIdeal.main_arg0) = m ((c.tc : Thread Cert.WaQRefIdeal.nD Cert.WaQRefIdeal.τ).loc Cert.WaQRefIdeal.main_arg0)
      ∧ x.2.mem ((c.tc : Thread Cert.WaQRefIdeal.nD Cert.WaQRefIdeal.τ).loc Cert.WaQRefIdeal.main_arg1) = m ((c.tc : Thread Cert.WaQRefIdeal.nD Cert.WaQRefIdeal.τ).loc Cert.WaQRefIdeal.main_arg1)
      ∧ x.2.mem ((c.tc : Thread Cert.WaQRefIdeal.nD Cert.WaQRefIdeal.τ).loc Cert.WaQRefIdeal.main_arg2) = m ((c.tc : Thread Cert.WaQRefIdeal.nD Cert.WaQRefIdeal.τ).loc Cert.WaQRefIdeal.main_arg2) :=
  (θ_run Cert.WaQRefIdeal.defs _ _).mono (fun x h c => ⟨(h c).1.trans (Cert.WaQRefIdeal.Read.val_main_v67_eq m c), (h c).2⟩) (Cert.WaQRefIdeal.Value.run m g)

theorem Value.WaQ : Cert.algebraic_WaQIdeal_WaQRefIdeal := by
  pair_intro
  · run_from Cert.WaQIdeal.Gen.run_main m g
    · exact Cert.WaQIdeal.Gen.V_main_arg1 m c
    · exact Cert.WaQIdeal.Gen.V_main_arg2 m c
  · run_from Run.WaQ m' g'
    exact (Cert.WaQValue.final m c).symm

theorem Ref.WaK : Cert.quiescent_WaKRefIdeal := by
  intro m g _
  exact (θ_run Cert.WaKRefIdeal.defs _ _).mono (fun r h => ⟨fun c => (h c).2, sem_eq_zero_of_no_sems (by decide) r.2⟩)
    (Cert.WaKRefIdeal.Value.run m g)

/-- The reference's run, its result named. -/
theorem Run.WaK (m : (ℓ : Loc Cert.WaKRefIdeal.nD Cert.WaKRefIdeal.τ Cert.WaKRefIdeal.sig) → Buf (Elt Ideal) ℓ) (g : Dev Cert.WaKRefIdeal.nD → PrngReg) :
    θ_run Cert.WaKRefIdeal.defs (onTc (τ := Cert.WaKRefIdeal.τ) (Cert.WaKRefIdeal.main (F := Ideal))) ⟨m, fun _ => 0, g⟩ fun x => ∀ c : Dev Cert.WaKRefIdeal.nD,
      x.2.mem ((c.tc : Thread Cert.WaKRefIdeal.nD Cert.WaKRefIdeal.τ).loc Cert.WaKRefIdeal.main_v67)
          = Cert.WaKRefIdeal.Read.val_main_v67 (F := Ideal) (m ((c.tc : Thread Cert.WaKRefIdeal.nD Cert.WaKRefIdeal.τ).loc Cert.WaKRefIdeal.main_arg0))
              (m ((c.tc : Thread Cert.WaKRefIdeal.nD Cert.WaKRefIdeal.τ).loc Cert.WaKRefIdeal.main_arg1)) (m ((c.tc : Thread Cert.WaKRefIdeal.nD Cert.WaKRefIdeal.τ).loc Cert.WaKRefIdeal.main_arg2))
      ∧ x.2.mem ((c.tc : Thread Cert.WaKRefIdeal.nD Cert.WaKRefIdeal.τ).loc Cert.WaKRefIdeal.main_arg0) = m ((c.tc : Thread Cert.WaKRefIdeal.nD Cert.WaKRefIdeal.τ).loc Cert.WaKRefIdeal.main_arg0)
      ∧ x.2.mem ((c.tc : Thread Cert.WaKRefIdeal.nD Cert.WaKRefIdeal.τ).loc Cert.WaKRefIdeal.main_arg1) = m ((c.tc : Thread Cert.WaKRefIdeal.nD Cert.WaKRefIdeal.τ).loc Cert.WaKRefIdeal.main_arg1)
      ∧ x.2.mem ((c.tc : Thread Cert.WaKRefIdeal.nD Cert.WaKRefIdeal.τ).loc Cert.WaKRefIdeal.main_arg2) = m ((c.tc : Thread Cert.WaKRefIdeal.nD Cert.WaKRefIdeal.τ).loc Cert.WaKRefIdeal.main_arg2) :=
  (θ_run Cert.WaKRefIdeal.defs _ _).mono (fun x h c => ⟨(h c).1.trans (Cert.WaKRefIdeal.Read.val_main_v67_eq m c), (h c).2⟩) (Cert.WaKRefIdeal.Value.run m g)

theorem Value.WaK : Cert.algebraic_WaKIdeal_WaKRefIdeal := by
  pair_intro
  · run_from Cert.WaKIdeal.Gen.run_main m g
    · exact Cert.WaKIdeal.Gen.V_main_arg1 m c
    · exact Cert.WaKIdeal.Gen.V_main_arg2 m c
  · run_from Run.WaK m' g'
    exact (Cert.WaKValue.final m c).symm

theorem Ref.CtxIn : Cert.quiescent_CtxInRefIdeal := by
  intro m g _
  exact (θ_run Cert.CtxInRefIdeal.defs _ _).mono (fun r h => ⟨fun c => (h c).2, sem_eq_zero_of_no_sems (by decide) r.2⟩)
    (Cert.CtxInRefIdeal.Value.run m g)

theorem Value.CtxIn : Cert.algebraic_CtxInIdeal_CtxInRefIdeal := by
  pair_intro
  · run_from Cert.CtxInIdeal.Gen.run_main m g
  · run_from Cert.CtxInRefIdeal.Value.run m' g'
    exact (Cert.CtxInValue.final m c).symm

theorem Ref.Norm : Cert.quiescent_NormRefIdeal := by
  intro m g _
  exact (θ_run Cert.NormRefIdeal.defs _ _).mono (fun r h => ⟨fun c => (h c).2, sem_eq_zero_of_no_sems (by decide) r.2⟩)
    (Cert.NormRefIdeal.Value.run m g)

theorem Value.Norm : Cert.algebraic_NormIdeal_NormRefIdeal := by
  pair_intro
  · run_from Cert.NormIdeal.Gen.run_main m g
  · run_from Cert.NormRefIdeal.Value.run m' g'
    exact (Cert.NormValue.final m c).symm

theorem Ref.CtxBranch : Cert.quiescent_CtxBranchRefIdeal := by
  intro m g _
  exact (θ_run Cert.CtxBranchRefIdeal.defs _ _).mono (fun r h => ⟨fun c => (h c).2, sem_eq_zero_of_no_sems (by decide) r.2⟩)
    (Cert.CtxBranchRefIdeal.Value.run m g)

theorem Value.CtxBranch : Cert.algebraic_CtxBranchIdeal_CtxBranchRefIdeal := by
  pair_intro
  · run_from Cert.CtxBranchIdeal.Gen.run_main m g
  · run_from Cert.CtxBranchRefIdeal.Value.run m' g'
    exact (Cert.CtxBranchValue.final m c).symm

theorem Ref.CtxOut : Cert.quiescent_CtxOutRefIdeal := by
  intro m g _
  exact (θ_run Cert.CtxOutRefIdeal.defs _ _).mono (fun r h => ⟨fun c => (h c).2, sem_eq_zero_of_no_sems (by decide) r.2⟩)
    (Cert.CtxOutRefIdeal.Value.run m g)

theorem Value.CtxOut : Cert.algebraic_CtxOutIdeal_CtxOutRefIdeal := by
  pair_intro
  · run_from Cert.CtxOutIdeal.Gen.run_main m g
  · run_from Cert.CtxOutRefIdeal.Value.run m' g'
    exact (Cert.CtxOutValue.final m c).symm

theorem Ref.CtxExpert : Cert.quiescent_CtxExpertRefIdeal := by
  intro m g _
  exact (θ_run Cert.CtxExpertRefIdeal.defs _ _).mono (fun r h => ⟨fun c => (h c).2, sem_eq_zero_of_no_sems (by decide) r.2⟩)
    (Cert.CtxExpertRefIdeal.Value.run m g)

theorem Value.CtxExpert : Cert.algebraic_CtxExpertIdeal_CtxExpertRefIdeal := by
  pair_intro
  · run_from Cert.CtxExpertIdeal.Gen.run_main m g
  · run_from Cert.CtxExpertRefIdeal.Value.run m' g'
    exact (Cert.CtxExpertValue.final m c).symm

theorem Ref.CtxDown : Cert.quiescent_CtxDownRefIdeal := by
  intro m g _
  exact (θ_run Cert.CtxDownRefIdeal.defs _ _).mono (fun r h => ⟨fun c => (h c).2, sem_eq_zero_of_no_sems (by decide) r.2⟩)
    (Cert.CtxDownRefIdeal.Value.run m g)

theorem Value.CtxDown : Cert.algebraic_CtxDownIdeal_CtxDownRefIdeal := by
  pair_intro
  · run_from Cert.CtxDownIdeal.Gen.run_main m g
  · run_from Cert.CtxDownRefIdeal.Value.run m' g'
    exact (Cert.CtxDownValue.final m c).symm

theorem Ref.CtxWaKV : Cert.quiescent_CtxWaKVRefIdeal := by
  intro m g _
  exact (θ_run Cert.CtxWaKVRefIdeal.defs _ _).mono (fun r h => ⟨fun c => (h c).2, sem_eq_zero_of_no_sems (by decide) r.2⟩)
    (Cert.CtxWaKVRefIdeal.Value.run m g)

theorem Value.CtxWaKV : Cert.algebraic_CtxWaKVIdeal_CtxWaKVRefIdeal := by
  pair_intro
  · run_from Cert.CtxWaKVIdeal.Gen.run_main m g
  · run_from Cert.CtxWaKVRefIdeal.Value.run m' g'
    exact (Cert.CtxWaKVValue.final m c).symm

theorem Ref.CtxNaKV : Cert.quiescent_CtxNaKVRefIdeal := by
  intro m g _
  exact (θ_run Cert.CtxNaKVRefIdeal.defs _ _).mono (fun r h => ⟨fun c => (h c).2, sem_eq_zero_of_no_sems (by decide) r.2⟩)
    (Cert.CtxNaKVRefIdeal.Value.run m g)

theorem Value.CtxNaKV : Cert.algebraic_CtxNaKVIdeal_CtxNaKVRefIdeal := by
  pair_intro
  · run_from Cert.CtxNaKVIdeal.Gen.run_main m g
  · run_from Cert.CtxNaKVRefIdeal.Value.run m' g'
    exact (Cert.CtxNaKVValue.final m c).symm

theorem preserves_WA : Cert.preserves_Kernel_KernelIdeal :=
  IdealRules.named_const.statement Cert.KernelIdeal.κ "mask" .f32 0xF149F2CA#32 ⊥ rfl

theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    fun m g _ => Cert.Kernel.Gen.frame m g,
    fun m g _ => Cert.KernelIdeal.Gen.frame m g,
    fun m g _ => Cert.KernelIdeal.Gen.frame m g,
    Ref.WA,
    Ref.WA_pre,
    fun m g _ => Cert.Expert.Gen.frame m g,
    fun m g _ => Cert.ExpertIdeal.Gen.frame m g,
    Ref.Expert,
    fun m g _ => Cert.Down.Gen.frame m g,
    fun m g _ => Cert.DownIdeal.Gen.frame m g,
    Ref.Down,
    fun m g _ => Cert.Branch.Gen.frame m g,
    fun m g _ => Cert.BranchIdeal.Gen.frame m g,
    Ref.Branch,
    fun m g _ => Cert.OutProj.Gen.frame m g,
    fun m g _ => Cert.OutProjIdeal.Gen.frame m g,
    Ref.OutProj,
    fun m g _ => Cert.Hyena.Gen.frame m g,
    fun m g _ => Cert.HyenaIdeal.Gen.frame m g,
    Ref.Hyena,
    fun m g _ => Cert.Gates.Gen.frame m g,
    fun m g _ => Cert.GatesIdeal.Gen.frame m g,
    Ref.Gates,
    fun m g _ => Cert.NaV.Gen.frame m g,
    fun m g _ => Cert.NaVIdeal.Gen.frame m g,
    Ref.NaV,
    fun m g _ => Cert.WaV.Gen.frame m g,
    fun m g _ => Cert.WaVIdeal.Gen.frame m g,
    Ref.WaV,
    fun m g _ => Cert.NaQ.Gen.frame m g,
    fun m g _ => Cert.NaQIdeal.Gen.frame m g,
    Ref.NaQ,
    fun m g _ => Cert.NaK.Gen.frame m g,
    fun m g _ => Cert.NaKIdeal.Gen.frame m g,
    Ref.NaK,
    fun m g _ => Cert.WaQ.Gen.frame m g,
    fun m g _ => Cert.WaQIdeal.Gen.frame m g,
    Ref.WaQ,
    fun m g _ => Cert.WaK.Gen.frame m g,
    fun m g _ => Cert.WaKIdeal.Gen.frame m g,
    Ref.WaK,
    fun m g _ => Cert.CtxIn.Gen.frame m g,
    fun m g _ => Cert.CtxInIdeal.Gen.frame m g,
    Ref.CtxIn,
    fun m g _ => Cert.Norm.Gen.frame m g,
    fun m g _ => Cert.NormIdeal.Gen.frame m g,
    Ref.Norm,
    fun m g _ => Cert.CtxBranch.Gen.frame m g,
    fun m g _ => Cert.CtxBranchIdeal.Gen.frame m g,
    Ref.CtxBranch,
    fun m g _ => Cert.CtxOut.Gen.frame m g,
    fun m g _ => Cert.CtxOutIdeal.Gen.frame m g,
    Ref.CtxOut,
    fun m g _ => Cert.CtxExpert.Gen.frame m g,
    fun m g _ => Cert.CtxExpertIdeal.Gen.frame m g,
    Ref.CtxExpert,
    fun m g _ => Cert.CtxDown.Gen.frame m g,
    fun m g _ => Cert.CtxDownIdeal.Gen.frame m g,
    Ref.CtxDown,
    fun m g _ => Cert.CtxWaKV.Gen.frame m g,
    fun m g _ => Cert.CtxWaKVIdeal.Gen.frame m g,
    Ref.CtxWaKV,
    fun m g _ => Cert.CtxNaKV.Gen.frame m g,
    fun m g _ => Cert.CtxNaKVIdeal.Gen.frame m g,
    Ref.CtxNaKV,
    preserves_WA,
    Cert.WAClaim.algebraic,
    trivial,
    Value.Expert,
    trivial,
    Value.Down,
    trivial,
    Value.Branch,
    trivial,
    Value.OutProj,
    trivial,
    Value.Hyena,
    trivial,
    Value.Gates,
    trivial,
    Value.NaV,
    trivial,
    Value.WaV,
    trivial,
    Value.NaQ,
    trivial,
    Value.NaK,
    trivial,
    Value.WaQ,
    trivial,
    Value.WaK,
    trivial,
    Value.CtxIn,
    trivial,
    Value.Norm,
    trivial,
    Value.CtxBranch,
    trivial,
    Value.CtxOut,
    trivial,
    Value.CtxExpert,
    trivial,
    Value.CtxDown,
    trivial,
    Value.CtxWaKV,
    trivial,
    Value.CtxNaKV⟩

end Cert.Proof

end
